-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v37_0) = v2 c
          ∧ r.2.mem ((c.tc : Thread Cert.ReferenceIdeal.nD Cert.ReferenceIdeal.τ).loc Cert.ReferenceIdeal.main_v37_1) = v3 c
          ∧ r.2.mem ((c.tc : Thread Cert.ReferenceIdeal.nD Cert.ReferenceIdeal.τ).loc Cert.ReferenceIdeal.main_v37_2) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x3584 : Shape := ⟨3, ![2, 128, 3584]⟩
abbrev S18944x3584 : Shape := ⟨2, ![18944, 3584]⟩
abbrev S18944 : Shape := ⟨1, ![18944]⟩
abbrev S256x3584 : Shape := ⟨2, ![256, 3584]⟩
abbrev S1x18944 : Shape := ⟨2, ![1, 18944]⟩
abbrev S256x18944 : Shape := ⟨2, ![256, 18944]⟩
abbrev S1x3584 : Shape := ⟨2, ![1, 3584]⟩
abbrev S2x128 : Shape := ⟨2, ![2, 128]⟩
abbrev S512x3584 : Shape := ⟨2, ![512, 3584]⟩
abbrev S1x512 : Shape := ⟨2, ![1, 512]⟩
abbrev S256x512 : Shape := ⟨2, ![256, 512]⟩
abbrev S256x256 : Shape := ⟨2, ![256, 256]⟩
abbrev S256x128 : Shape := ⟨2, ![256, 128]⟩
abbrev S2x8x128 : Shape := ⟨3, ![2, 8, 128]⟩
abbrev S8 : Shape := ⟨1, ![8]⟩
abbrev S1 : Shape := ⟨1, ![1]⟩
abbrev S1x128 : Shape := ⟨2, ![1, 128]⟩
abbrev S128 : Shape := ⟨1, ![128]⟩
abbrev S256 : Shape := ⟨1, ![256]⟩
abbrev S256x1 : Shape := ⟨2, ![256, 1]⟩
abbrev S128x128 : Shape := ⟨2, ![128, 128]⟩
abbrev S1x1x128 : Shape := ⟨3, ![1, 1, 128]⟩
abbrev S1x1x1 : Shape := ⟨3, ![1, 1, 1]⟩
abbrev S8x128 : Shape := ⟨2, ![8, 128]⟩
abbrev S1x8x128 : Shape := ⟨3, ![1, 8, 128]⟩
abbrev S512x128 : Shape := ⟨2, ![512, 128]⟩
abbrev S512x256 : Shape := ⟨2, ![512, 256]⟩
abbrev S2x128x18944 : Shape := ⟨3, ![2, 128, 18944]⟩
abbrev S3584 : Shape := ⟨1, ![3584]⟩

abbrev nBuf : Space → Nat
  | .hbm => 13
  | .vmem => 16
  | .smem => 2
  | _ => 0

abbrev bufTy : (tb : Table) → Fin (tcTables nBuf tb) → BufTy
  | .hbm, ⟨0, _⟩ => ⟨S2x128x3584, .bf16⟩
  | .hbm, ⟨1, _⟩ => ⟨S18944x3584, .i8⟩
  | .hbm, ⟨2, _⟩ => ⟨S18944, .f32⟩
  | .hbm, ⟨3, _⟩ => ⟨S256x3584, .bf16⟩
  | .hbm, ⟨4, _⟩ => ⟨S1x18944, .f32⟩
  | .hbm, ⟨5, _⟩ => ⟨S256x18944, .bf16⟩
  | .hbm, ⟨6, _⟩ => ⟨S1x3584, .i32⟩
  | .hbm, ⟨7, _⟩ => ⟨S256x3584, .i8⟩
  | .hbm, ⟨8, _⟩ => ⟨S2x128, .f32⟩
  | .hbm, ⟨9, _⟩ => ⟨S2x128, .i32⟩
  | .hbm, ⟨10, _⟩ => ⟨S2x128x18944, .bf16⟩
  | .hbm, ⟨11, _⟩ => ⟨S3584, .i32⟩
  | .hbm, ⟨12, _⟩ => ⟨S2x128x3584, .i8⟩
  | .local _ .vmem, ⟨0, _⟩ => ⟨S256x3584, .bf16⟩
  | .local _ .vmem, ⟨1, _⟩ => ⟨S512x3584, .i8⟩
  | .local _ .vmem, ⟨2, _⟩ => ⟨S512x3584, .i8⟩
  | .local _ .vmem, ⟨3, _⟩ => ⟨S1x512, .f32⟩
  | .local _ .vmem, ⟨4, _⟩ => ⟨S1x512, .f32⟩
  | .local _ .vmem, ⟨5, _⟩ => ⟨S256x512, .bf16⟩
  | .local _ .vmem, ⟨6, _⟩ => ⟨S256x512, .bf16⟩
  | .local _ .vmem, ⟨7, _⟩ => ⟨S1x3584, .i32⟩
  | .local _ .vmem, ⟨8, _⟩ => ⟨S256x3584, .i8⟩
  | .local _ .vmem, ⟨9, _⟩ => ⟨S2x128, .f32⟩
  | .local _ .vmem, ⟨10, _⟩ => ⟨S2x128, .i32⟩
  | .local _ .vmem, ⟨11, _⟩ => ⟨S256x3584, .bf16⟩
  | .local _ .vmem, ⟨12, _⟩ => ⟨S256x3584, .bf16⟩
  | .local _ .vmem, ⟨13, _⟩ => ⟨S256x256, .bf16⟩
  | .local _ .vmem, ⟨14, _⟩ => ⟨S256x128, .f32⟩
  | .local _ .vmem, ⟨15, _⟩ => ⟨S2x8x128, .i32⟩
  | .local _ .smem, ⟨0, _⟩ => ⟨S8, .i32⟩
  | .local _ .smem, ⟨1, _⟩ => ⟨S1, .i32⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.smem, 0, rfl⟩
abbrev cc0_scratch6 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![37], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let v2385 : Index := Scalar.indexCast v2158
  ![v2385.toNat]
def k0_cond3 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c1_i32_865 : BitVec 32 := 1#32
  let v2159 : BitVec 32 := Scalar.shrsi v2032 c1_i32_865
  let c1_i32_866 : BitVec 32 := 1#32
  let v2160 : BitVec 32 := Scalar.andi v2159 c1_i32_866
  let c1_i32_867 : BitVec 32 := 1#32
  let v2161 : BitVec 1 := Scalar.cmpi .eq v2160 c1_i32_867
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c8_i32_868 : BitVec 32 := 8#32
  let v2162 : BitVec 1 := Scalar.cmpi .slt v2158 c8_i32_868
  let v2163 : BitVec 1 := Scalar.andi v2161 v2162
  let v2164 : BitVec 32 := Scalar.extui v2163
  let c0_i32_869 : BitVec 32 := 0#32
  let v2165 : BitVec 1 := Scalar.cmpi .ne v2164 c0_i32_869
  v2165

def k0_off2 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let v2387 : Index := Scalar.indexCast v2158
  let c0_995 : Index := 0#32
  ![0, v2387.toNat, 0]
def k0_off3 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let v2404 : Index := Scalar.indexCast v2158
  let c0_1004 : Index := 0#32
  ![1, v2404.toNat, 0]
def k0_off4 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let v2385 : Index := Scalar.indexCast v2166
  ![v2385.toNat]
def k0_cond4 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c2_i32 : BitVec 32 := 2#32
  let v2167 : BitVec 32 := Scalar.shrsi v2032 c2_i32
  let c1_i32_870 : BitVec 32 := 1#32
  let v2168 : BitVec 32 := Scalar.andi v2167 c1_i32_870
  let c1_i32_871 : BitVec 32 := 1#32
  let v2169 : BitVec 1 := Scalar.cmpi .eq v2168 c1_i32_871
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c8_i32_872 : BitVec 32 := 8#32
  let v2170 : BitVec 1 := Scalar.cmpi .slt v2166 c8_i32_872
  let v2171 : BitVec 1 := Scalar.andi v2169 v2170
  let v2172 : BitVec 32 := Scalar.extui v2171
  let c0_i32_873 : BitVec 32 := 0#32
  let v2173 : BitVec 1 := Scalar.cmpi .ne v2172 c0_i32_873
  v2173

def k0_off5 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let v2387 : Index := Scalar.indexCast v2166
  let c0_995 : Index := 0#32
  ![0, v2387.toNat, 0]
def k0_off6 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let v2404 : Index := Scalar.indexCast v2166
  let c0_1004 : Index := 0#32
  ![1, v2404.toNat, 0]
def k0_off7 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let v2385 : Index := Scalar.indexCast v2174
  ![v2385.toNat]
def k0_cond5 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c3_i32 : BitVec 32 := 3#32
  let v2175 : BitVec 32 := Scalar.shrsi v2032 c3_i32
  let c1_i32_874 : BitVec 32 := 1#32
  let v2176 : BitVec 32 := Scalar.andi v2175 c1_i32_874
  let c1_i32_875 : BitVec 32 := 1#32
  let v2177 : BitVec 1 := Scalar.cmpi .eq v2176 c1_i32_875
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c8_i32_876 : BitVec 32 := 8#32
  let v2178 : BitVec 1 := Scalar.cmpi .slt v2174 c8_i32_876
  let v2179 : BitVec 1 := Scalar.andi v2177 v2178
  let v2180 : BitVec 32 := Scalar.extui v2179
  let c0_i32_877 : BitVec 32 := 0#32
  let v2181 : BitVec 1 := Scalar.cmpi .ne v2180 c0_i32_877
  v2181

def k0_off8 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let v2387 : Index := Scalar.indexCast v2174
  let c0_995 : Index := 0#32
  ![0, v2387.toNat, 0]
def k0_off9 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let v2404 : Index := Scalar.indexCast v2174
  let c0_1004 : Index := 0#32
  ![1, v2404.toNat, 0]
def k0_off10 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let v2385 : Index := Scalar.indexCast v2182
  ![v2385.toNat]
def k0_cond6 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c4_i32 : BitVec 32 := 4#32
  let v2183 : BitVec 32 := Scalar.shrsi v2032 c4_i32
  let c1_i32_878 : BitVec 32 := 1#32
  let v2184 : BitVec 32 := Scalar.andi v2183 c1_i32_878
  let c1_i32_879 : BitVec 32 := 1#32
  let v2185 : BitVec 1 := Scalar.cmpi .eq v2184 c1_i32_879
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c8_i32_880 : BitVec 32 := 8#32
  let v2186 : BitVec 1 := Scalar.cmpi .slt v2182 c8_i32_880
  let v2187 : BitVec 1 := Scalar.andi v2185 v2186
  let v2188 : BitVec 32 := Scalar.extui v2187
  let c0_i32_881 : BitVec 32 := 0#32
  let v2189 : BitVec 1 := Scalar.cmpi .ne v2188 c0_i32_881
  v2189

def k0_off11 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let v2387 : Index := Scalar.indexCast v2182
  let c0_995 : Index := 0#32
  ![0, v2387.toNat, 0]
def k0_off12 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let v2404 : Index := Scalar.indexCast v2182
  let c0_1004 : Index := 0#32
  ![1, v2404.toNat, 0]
def k0_off13 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let v2385 : Index := Scalar.indexCast v2190
  ![v2385.toNat]
def k0_cond7 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c5_i32 : BitVec 32 := 5#32
  let v2191 : BitVec 32 := Scalar.shrsi v2032 c5_i32
  let c1_i32_882 : BitVec 32 := 1#32
  let v2192 : BitVec 32 := Scalar.andi v2191 c1_i32_882
  let c1_i32_883 : BitVec 32 := 1#32
  let v2193 : BitVec 1 := Scalar.cmpi .eq v2192 c1_i32_883
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c8_i32_884 : BitVec 32 := 8#32
  let v2194 : BitVec 1 := Scalar.cmpi .slt v2190 c8_i32_884
  let v2195 : BitVec 1 := Scalar.andi v2193 v2194
  let v2196 : BitVec 32 := Scalar.extui v2195
  let c0_i32_885 : BitVec 32 := 0#32
  let v2197 : BitVec 1 := Scalar.cmpi .ne v2196 c0_i32_885
  v2197

def k0_off14 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let v2387 : Index := Scalar.indexCast v2190
  let c0_995 : Index := 0#32
  ![0, v2387.toNat, 0]
def k0_off15 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let v2404 : Index := Scalar.indexCast v2190
  let c0_1004 : Index := 0#32
  ![1, v2404.toNat, 0]
def k0_off16 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let v2385 : Index := Scalar.indexCast v2198
  ![v2385.toNat]
def k0_cond8 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c6_i32 : BitVec 32 := 6#32
  let v2199 : BitVec 32 := Scalar.shrsi v2032 c6_i32
  let c1_i32_886 : BitVec 32 := 1#32
  let v2200 : BitVec 32 := Scalar.andi v2199 c1_i32_886
  let c1_i32_887 : BitVec 32 := 1#32
  let v2201 : BitVec 1 := Scalar.cmpi .eq v2200 c1_i32_887
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c8_i32_888 : BitVec 32 := 8#32
  let v2202 : BitVec 1 := Scalar.cmpi .slt v2198 c8_i32_888
  let v2203 : BitVec 1 := Scalar.andi v2201 v2202
  let v2204 : BitVec 32 := Scalar.extui v2203
  let c0_i32_889 : BitVec 32 := 0#32
  let v2205 : BitVec 1 := Scalar.cmpi .ne v2204 c0_i32_889
  v2205

def k0_off17 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let v2387 : Index := Scalar.indexCast v2198
  let c0_995 : Index := 0#32
  ![0, v2387.toNat, 0]
def k0_off18 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let v2404 : Index := Scalar.indexCast v2198
  let c0_1004 : Index := 0#32
  ![1, v2404.toNat, 0]
def k0_off19 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let v2385 : Index := Scalar.indexCast v2206
  ![v2385.toNat]
def k0_cond9 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c7_i32 : BitVec 32 := 7#32
  let v2207 : BitVec 32 := Scalar.shrsi v2032 c7_i32
  let c1_i32_890 : BitVec 32 := 1#32
  let v2208 : BitVec 32 := Scalar.andi v2207 c1_i32_890
  let c1_i32_891 : BitVec 32 := 1#32
  let v2209 : BitVec 1 := Scalar.cmpi .eq v2208 c1_i32_891
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c8_i32_892 : BitVec 32 := 8#32
  let v2210 : BitVec 1 := Scalar.cmpi .slt v2206 c8_i32_892
  let v2211 : BitVec 1 := Scalar.andi v2209 v2210
  let v2212 : BitVec 32 := Scalar.extui v2211
  let c0_i32_893 : BitVec 32 := 0#32
  let v2213 : BitVec 1 := Scalar.cmpi .ne v2212 c0_i32_893
  v2213

def k0_off20 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let v2387 : Index := Scalar.indexCast v2206
  let c0_995 : Index := 0#32
  ![0, v2387.toNat, 0]
def k0_off21 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let v2404 : Index := Scalar.indexCast v2206
  let c0_1004 : Index := 0#32
  ![1, v2404.toNat, 0]
def k0_off22 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let v2385 : Index := Scalar.indexCast v2214
  ![v2385.toNat]
def k0_cond10 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c8_i32_894 : BitVec 32 := 8#32
  let v2215 : BitVec 32 := Scalar.shrsi v2032 c8_i32_894
  let c1_i32_895 : BitVec 32 := 1#32
  let v2216 : BitVec 32 := Scalar.andi v2215 c1_i32_895
  let c1_i32_896 : BitVec 32 := 1#32
  let v2217 : BitVec 1 := Scalar.cmpi .eq v2216 c1_i32_896
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_897 : BitVec 32 := 8#32
  let v2218 : BitVec 1 := Scalar.cmpi .slt v2214 c8_i32_897
  let v2219 : BitVec 1 := Scalar.andi v2217 v2218
  let v2220 : BitVec 32 := Scalar.extui v2219
  let c0_i32_898 : BitVec 32 := 0#32
  let v2221 : BitVec 1 := Scalar.cmpi .ne v2220 c0_i32_898
  v2221

def k0_off23 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let v2387 : Index := Scalar.indexCast v2214
  let c0_995 : Index := 0#32
  ![0, v2387.toNat, 0]
def k0_off24 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let v2404 : Index := Scalar.indexCast v2214
  let c0_1004 : Index := 0#32
  ![1, v2404.toNat, 0]
def k0_off25 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let v2385 : Index := Scalar.indexCast v2222
  ![v2385.toNat]
def k0_cond11 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c9_i32 : BitVec 32 := 9#32
  let v2223 : BitVec 32 := Scalar.shrsi v2032 c9_i32
  let c1_i32_899 : BitVec 32 := 1#32
  let v2224 : BitVec 32 := Scalar.andi v2223 c1_i32_899
  let c1_i32_900 : BitVec 32 := 1#32
  let v2225 : BitVec 1 := Scalar.cmpi .eq v2224 c1_i32_900
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c8_i32_901 : BitVec 32 := 8#32
  let v2226 : BitVec 1 := Scalar.cmpi .slt v2222 c8_i32_901
  let v2227 : BitVec 1 := Scalar.andi v2225 v2226
  let v2228 : BitVec 32 := Scalar.extui v2227
  let c0_i32_902 : BitVec 32 := 0#32
  let v2229 : BitVec 1 := Scalar.cmpi .ne v2228 c0_i32_902
  v2229

def k0_off26 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let v2387 : Index := Scalar.indexCast v2222
  let c0_995 : Index := 0#32
  ![0, v2387.toNat, 0]
def k0_off27 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let v2404 : Index := Scalar.indexCast v2222
  let c0_1004 : Index := 0#32
  ![1, v2404.toNat, 0]
def k0_off28 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let v2385 : Index := Scalar.indexCast v2230
  ![v2385.toNat]
def k0_cond12 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c10_i32 : BitVec 32 := 10#32
  let v2231 : BitVec 32 := Scalar.shrsi v2032 c10_i32
  let c1_i32_903 : BitVec 32 := 1#32
  let v2232 : BitVec 32 := Scalar.andi v2231 c1_i32_903
  let c1_i32_904 : BitVec 32 := 1#32
  let v2233 : BitVec 1 := Scalar.cmpi .eq v2232 c1_i32_904
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c8_i32_905 : BitVec 32 := 8#32
  let v2234 : BitVec 1 := Scalar.cmpi .slt v2230 c8_i32_905
  let v2235 : BitVec 1 := Scalar.andi v2233 v2234
  let v2236 : BitVec 32 := Scalar.extui v2235
  let c0_i32_906 : BitVec 32 := 0#32
  let v2237 : BitVec 1 := Scalar.cmpi .ne v2236 c0_i32_906
  v2237

def k0_off29 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let v2387 : Index := Scalar.indexCast v2230
  let c0_995 : Index := 0#32
  ![0, v2387.toNat, 0]
def k0_off30 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let v2404 : Index := Scalar.indexCast v2230
  let c0_1004 : Index := 0#32
  ![1, v2404.toNat, 0]
def k0_off31 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let v2385 : Index := Scalar.indexCast v2238
  ![v2385.toNat]
def k0_cond13 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c11_i32 : BitVec 32 := 11#32
  let v2239 : BitVec 32 := Scalar.shrsi v2032 c11_i32
  let c1_i32_907 : BitVec 32 := 1#32
  let v2240 : BitVec 32 := Scalar.andi v2239 c1_i32_907
  let c1_i32_908 : BitVec 32 := 1#32
  let v2241 : BitVec 1 := Scalar.cmpi .eq v2240 c1_i32_908
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c8_i32_909 : BitVec 32 := 8#32
  let v2242 : BitVec 1 := Scalar.cmpi .slt v2238 c8_i32_909
  let v2243 : BitVec 1 := Scalar.andi v2241 v2242
  let v2244 : BitVec 32 := Scalar.extui v2243
  let c0_i32_910 : BitVec 32 := 0#32
  let v2245 : BitVec 1 := Scalar.cmpi .ne v2244 c0_i32_910
  v2245

def k0_off32 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let v2387 : Index := Scalar.indexCast v2238
  let c0_995 : Index := 0#32
  ![0, v2387.toNat, 0]
def k0_off33 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let v2404 : Index := Scalar.indexCast v2238
  let c0_1004 : Index := 0#32
  ![1, v2404.toNat, 0]
def k0_off34 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let v2385 : Index := Scalar.indexCast v2246
  ![v2385.toNat]
def k0_cond14 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c12_i32 : BitVec 32 := 12#32
  let v2247 : BitVec 32 := Scalar.shrsi v2032 c12_i32
  let c1_i32_911 : BitVec 32 := 1#32
  let v2248 : BitVec 32 := Scalar.andi v2247 c1_i32_911
  let c1_i32_912 : BitVec 32 := 1#32
  let v2249 : BitVec 1 := Scalar.cmpi .eq v2248 c1_i32_912
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c8_i32_913 : BitVec 32 := 8#32
  let v2250 : BitVec 1 := Scalar.cmpi .slt v2246 c8_i32_913
  let v2251 : BitVec 1 := Scalar.andi v2249 v2250
  let v2252 : BitVec 32 := Scalar.extui v2251
  let c0_i32_914 : BitVec 32 := 0#32
  let v2253 : BitVec 1 := Scalar.cmpi .ne v2252 c0_i32_914
  v2253

def k0_off35 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let v2387 : Index := Scalar.indexCast v2246
  let c0_995 : Index := 0#32
  ![0, v2387.toNat, 0]
def k0_off36 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let v2404 : Index := Scalar.indexCast v2246
  let c0_1004 : Index := 0#32
  ![1, v2404.toNat, 0]
def k0_off37 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let v2385 : Index := Scalar.indexCast v2254
  ![v2385.toNat]
def k0_cond15 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : BitVec 1 :=
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c13_i32 : BitVec 32 := 13#32
  let v2255 : BitVec 32 := Scalar.shrsi v2032 c13_i32
  let c1_i32_915 : BitVec 32 := 1#32
  let v2256 : BitVec 32 := Scalar.andi v2255 c1_i32_915
  let c1_i32_916 : BitVec 32 := 1#32
  let v2257 : BitVec 1 := Scalar.cmpi .eq v2256 c1_i32_916
  let c0_i32_864 : BitVec 32 := 0#32
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c8_i32_917 : BitVec 32 := 8#32
  let v2258 : BitVec 1 := Scalar.cmpi .slt v2254 c8_i32_917
  let v2259 : BitVec 1 := Scalar.andi v2257 v2258
  let v2260 : BitVec 32 := Scalar.extui v2259
  let c0_i32_918 : BitVec 32 := 0#32
  let v2261 : BitVec 1 := Scalar.cmpi .ne v2260 c0_i32_918
  v2261

def k0_off38 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_994 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let v2387 : Index := Scalar.indexCast v2254
  let c0_995 : Index := 0#32
  ![0, v2387.toNat, 0]
def k0_off39 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1003 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let v2404 : Index := Scalar.indexCast v2254
  let c0_1004 : Index := 0#32
  ![1, v2404.toNat, 0]

def k0_chk1_0 (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Prop :=
  (∀ (k0_h1 : k0_cond1 i = 1#1), ∀ (k0_h3 : k0_cond3 v1940 v1947 v1954 v1961 v1968 v1975 v1982 v1989 v1996 v2003 v2010 v2017 v2024 v2031 = 1#1), ∀ a, (k0_off1 v1940 v1947 v1954 v1961 v1968 v1975 v1982 v1989 v1996 v2003 v2010 v2017 v2024 v2031) a + S1.size a ≤ S8.size a) ∧
  (∀ (k0_h1 : k0_cond1 i = 1#1), ∀ (k0_h3 : k0_cond3 v1940 v1947 v1954 v1961 v1968 v1975 v1982 v1989 v1996 v2003 v2010 v2017 v2024 v2031 = 1#1), ∀ a, (k0_off2 v1940 v1947 v1954 v1961 v1968 v1975 v1982 v1989 v1996 v2003 v2010 v2017 v2024 v2031) a + S1x1x128.size a ≤ S2x8x128.size a) ∧
  (∀ (k0_h1 : k0_cond1 i = 1#1), ∀ (k0_h3 : k0_cond3 v1940 v1947 v1954 v1961 v1968 v1975 v1982 v1989 v1996 v2003 v2010 v2017 v2024 v2031 = 1#1), ∀ a, (k0_off3 v1940 v1947 v1954 v1961 v1968 v1975 v1982 v1989 v1996 v2003 v2010 v2017 v2024 v2031) a + S1x1x128.size a ≤ S2x8x128.size a) ∧
  (∀ (k0_h1 : k0_cond1 i = 1#1), ∀ (k0_h4 : k0_cond4 v1940 v1947 v1954 v1961 v1968 v1975 v1982 v1989 v1996 v2003 v2010 v2017 v2024 v2031 = 1#1), ∀ a, (k0_off4 v1940 v1947 v1954 v1961 v1968 v1975 v1982 v1989 v1996 v2003 v2010 v2017 v2024 v2031) a + S1.size a ≤ S8.size a) ∧
  (∀ (k0_h1 : k0_cond1 i = 1#1), ∀ (k0_h4 : k0_cond4 v1940 v1947 v1954 v1961 v1968 v1975 v1982 v1989 v1996 v2003 v2010 v2017 v2024 v2031 = 1#1), ∀ a, (k0_off5 v1940 v1947 v1954 v1961 v1968 v1975 v1982 v1989 v1996 v2003 v2010 v2017 v2024 v2031) a + S1x1x128.size a ≤ S2x8x128.size a) ∧
  (∀ (k0_h1 : k0_cond1 i = 1#1), ∀ (k0_h4 : k0_cond4 v1940 v1947 v1954 v1961 v1968 v1975 v1982 v1989 v1996 v2003 v2010 v2017 v2024 v2031 = 1#1), ∀ a, (k0_off6 v1940 v1947 v1954 v1961 v1968 v1975 v1982 v1989 v1996 v2003 v2010 v2017 v2024 v2031) a + S1x1x128.size a ≤ S2x8x128.size a) ∧
  (∀ (k0_h1 : k0_cond1 i = 1#1), ∀ (k0_h5 : k0_cond5 v1940 v1947 v1954 v1961 v1968 v1975 v1982 v1989 v1996 v2003 v2010 v2017 v2024 v2031 = 1#1), ∀ a, (k0_off7 v1940 v1947 v1954 v1961 v1968 v1975 v1982 v1989 v1996 v2003 v2010 v2017 v2024 v2031) a + S1.size a ≤ S8.size a) ∧
  (∀ (k0_h1 : k0_cond1 i = 1#1), ∀ (k0_h5 : k0_cond5 v1940 v1947 v1954 v1961 v1968 v1975 v1982 v1989 v1996 v2003 v2010 v2017 v2024 v2031 = 1#1), ∀ a, (k0_off8 v1940 v1947 v1954 v1961 v1968 v1975 v1982 v1989 v1996 v2003 v2010 v2017 v2024 v2031) a + S1x1x128.size a ≤ S2x8x128.size a) ∧
  (∀ (k0_h1 : k0_cond1 i = 1#1), ∀ (k0_h5 : k0_cond5 v1940 v1947 v1954 v1961 v1968 v1975 v1982 v1989 v1996 v2003 v2010 v2017 v2024 v2031 = 1#1), ∀ a, (k0_off9 v1940 v1947 v1954 v1961 v1968 v1975 v1982 v1989 v1996 v2003 v2010 v2017 v2024 v2031) a + S1x1x128.size a ≤ S2x8x128.size a) ∧
  (∀ (k0_h1 : k0_cond1 i = 1#1), ∀ (k0_h6 : k0_cond6 v1940 v1947 v1954 v1961 v1968 v1975 v1982 v1989 v1996 v2003 v2010 v2017 v2024 v2031 = 1#1), ∀ a, (k0_off10 v1940 v1947 v1954 v1961 v1968 v1975 v1982 v1989 v1996 v2003 v2010 v2017 v2024 v2031) a + S1.size a ≤ S8.size a) ∧
  (∀ (k0_h1 : k0_cond1 i = 1#1), ∀ (k0_h6 : k0_cond6 v1940 v1947 v1954 v1961 v1968 v1975 v1982 v1989 v1996 v2003 v2010 v2017 v2024 v2031 = 1#1), ∀ a, (k0_off11 v1940 v1947 v1954 v1961 v1968 v1975 v1982 v1989 v1996 v2003 v2010 v2017 v2024 v2031) a + S1x1x128.size a ≤ S2x8x128.size a) ∧
  (∀ (k0_h1 : k0_cond1 i = 1#1), ∀ (k0_h6 : k0_cond6 v1940 v1947 v1954 v1961 v1968 v1975 v1982 v1989 v1996 v2003 v2010 v2017 v2024 v2031 = 1#1), ∀ a, (k0_off12 v1940 v1947 v1954 v1961 v1968 v1975 v1982 v1989 v1996 v2003 v2010 v2017 v2024 v2031) a + S1x1x128.size a ≤ S2x8x128.size a) ∧
  (∀ (k0_h1 : k0_cond1 i = 1#1), ∀ (k0_h7 : k0_cond7 v1940 v1947 v1954 v1961 v1968 v1975 v1982 v1989 v1996 v2003 v2010 v2017 v2024 v2031 = 1#1), ∀ a, (k0_off13 v1940 v1947 v1954 v1961 v1968 v1975 v1982 v1989 v1996 v2003 v2010 v2017 v2024 v2031) a + S1.size a ≤ S8.size a) ∧
  (∀ (k0_h1 : k0_cond1 i = 1#1), ∀ (k0_h7 : k0_cond7 v1940 v1947 v1954 v1961 v1968 v1975 v1982 v1989 v1996 v2003 v2010 v2017 v2024 v2031 = 1#1), ∀ a, (k0_off14 v1940 v1947 v1954 v1961 v1968 v1975 v1982 v1989 v1996 v2003 v2010 v2017 v2024 v2031) a + S1x1x128.size a ≤ S2x8x128.size a) ∧
  (∀ (k0_h1 : k0_cond1 i = 1#1), ∀ (k0_h7 : k0_cond7 v1940 v1947 v1954 v1961 v1968 v1975 v1982 v1989 v1996 v2003 v2010 v2017 v2024 v2031 = 1#1), ∀ a, (k0_off15 v1940 v1947 v1954 v1961 v1968 v1975 v1982 v1989 v1996 v2003 v2010 v2017 v2024 v2031) a + S1x1x128.size a ≤ S2x8x128.size a) ∧
  (∀ (k0_h1 : k0_cond1 i = 1#1), ∀ (k0_h8 : k0_cond8 v1940 v1947 v1954 v1961 v1968 v1975 v1982 v1989 v1996 v2003 v2010 v2017 v2024 v2031 = 1#1), ∀ a, (k0_off16 v1940 v1947 v1954 v1961 v1968 v1975 v1982 v1989 v1996 v2003 v2010 v2017 v2024 v2031) a + S1.size a ≤ S8.size a) ∧
  (∀ (k0_h1 : k0_cond1 i = 1#1), ∀ (k0_h8 : k0_cond8 v1940 v1947 v1954 v1961 v1968 v1975 v1982 v1989 v1996 v2003 v2010 v2017 v2024 v2031 = 1#1), ∀ a, (k0_off17 v1940 v1947 v1954 v1961 v1968 v1975 v1982 v1989 v1996 v2003 v2010 v2017 v2024 v2031) a + S1x1x128.size a ≤ S2x8x128.size a) ∧
  (∀ (k0_h1 : k0_cond1 i = 1#1), ∀ (k0_h8 : k0_cond8 v1940 v1947 v1954 v1961 v1968 v1975 v1982 v1989 v1996 v2003 v2010 v2017 v2024 v2031 = 1#1), ∀ a, (k0_off18 v1940 v1947 v1954 v1961 v1968 v1975 v1982 v1989 v1996 v2003 v2010 v2017 v2024 v2031) a + S1x1x128.size a ≤ S2x8x128.size a) ∧
  (∀ (k0_h1 : k0_cond1 i = 1#1), ∀ (k0_h9 : k0_cond9 v1940 v1947 v1954 v1961 v1968 v1975 v1982 v1989 v1996 v2003 v2010 v2017 v2024 v2031 = 1#1), ∀ a, (k0_off19 v1940 v1947 v1954 v1961 v1968 v1975 v1982 v1989 v1996 v2003 v2010 v2017 v2024 v2031) a + S1.size a ≤ S8.size a) ∧
  (∀ (k0_h1 : k0_cond1 i = 1#1), ∀ (k0_h9 : k0_cond9 v1940 v1947 v1954 v1961 v1968 v1975 v1982 v1989 v1996 v2003 v2010 v2017 v2024 v2031 = 1#1), ∀ a, (k0_off20 v1940 v1947 v1954 v1961 v1968 v1975 v1982 v1989 v1996 v2003 v2010 v2017 v2024 v2031) a + S1x1x128.size a ≤ S2x8x128.size a) ∧
  (∀ (k0_h1 : k0_cond1 i = 1#1), ∀ (k0_h9 : k0_cond9 v1940 v1947 v1954 v1961 v1968 v1975 v1982 v1989 v1996 v2003 v2010 v2017 v2024 v2031 = 1#1), ∀ a, (k0_off21 v1940 v1947 v1954 v1961 v1968 v1975 v1982 v1989 v1996 v2003 v2010 v2017 v2024 v2031) a + S1x1x128.size a ≤ S2x8x128.size a) ∧
  (∀ (k0_h1 : k0_cond1 i = 1#1), ∀ (k0_h10 : k0_cond10 v1940 v1947 v1954 v1961 v1968 v1975 v1982 v1989 v1996 v2003 v2010 v2017 v2024 v2031 = 1#1), ∀ a, (k0_off22 v1940 v1947 v1954 v1961 v1968 v1975 v1982 v1989 v1996 v2003 v2010 v2017 v2024 v2031) a + S1.size a ≤ S8.size a) ∧
  (∀ (k0_h1 : k0_cond1 i = 1#1), ∀ (k0_h10 : k0_cond10 v1940 v1947 v1954 v1961 v1968 v1975 v1982 v1989 v1996 v2003 v2010 v2017 v2024 v2031 = 1#1), ∀ a, (k0_off23 v1940 v1947 v1954 v1961 v1968 v1975 v1982 v1989 v1996 v2003 v2010 v2017 v2024 v2031) a + S1x1x128.size a ≤ S2x8x128.size a) ∧
  (∀ (k0_h1 : k0_cond1 i = 1#1), ∀ (k0_h10 : k0_cond10 v1940 v1947 v1954 v1961 v1968 v1975 v1982 v1989 v1996 v2003 v2010 v2017 v2024 v2031 = 1#1), ∀ a, (k0_off24 v1940 v1947 v1954 v1961 v1968 v1975 v1982 v1989 v1996 v2003 v2010 v2017 v2024 v2031) a + S1x1x128.size a ≤ S2x8x128.size a) ∧
  (∀ (k0_h1 : k0_cond1 i = 1#1), ∀ (k0_h11 : k0_cond11 v1940 v1947 v1954 v1961 v1968 v1975 v1982 v1989 v1996 v2003 v2010 v2017 v2024 v2031 = 1#1), ∀ a, (k0_off25 v1940 v1947 v1954 v1961 v1968 v1975 v1982 v1989 v1996 v2003 v2010 v2017 v2024 v2031) a + S1.size a ≤ S8.size a) ∧
  (∀ (k0_h1 : k0_cond1 i = 1#1), ∀ (k0_h11 : k0_cond11 v1940 v1947 v1954 v1961 v1968 v1975 v1982 v1989 v1996 v2003 v2010 v2017 v2024 v2031 = 1#1), ∀ a, (k0_off26 v1940 v1947 v1954 v1961 v1968 v1975 v1982 v1989 v1996 v2003 v2010 v2017 v2024 v2031) a + S1x1x128.size a ≤ S2x8x128.size a) ∧
  (∀ (k0_h1 : k0_cond1 i = 1#1), ∀ (k0_h11 : k0_cond11 v1940 v1947 v1954 v1961 v1968 v1975 v1982 v1989 v1996 v2003 v2010 v2017 v2024 v2031 = 1#1), ∀ a, (k0_off27 v1940 v1947 v1954 v1961 v1968 v1975 v1982 v1989 v1996 v2003 v2010 v2017 v2024 v2031) a + S1x1x128.size a ≤ S2x8x128.size a) ∧
  (∀ (k0_h1 : k0_cond1 i = 1#1), ∀ (k0_h12 : k0_cond12 v1940 v1947 v1954 v1961 v1968 v1975 v1982 v1989 v1996 v2003 v2010 v2017 v2024 v2031 = 1#1), ∀ a, (k0_off28 v1940 v1947 v1954 v1961 v1968 v1975 v1982 v1989 v1996 v2003 v2010 v2017 v2024 v2031) a + S1.size a ≤ S8.size a) ∧
  (∀ (k0_h1 : k0_cond1 i = 1#1), ∀ (k0_h12 : k0_cond12 v1940 v1947 v1954 v1961 v1968 v1975 v1982 v1989 v1996 v2003 v2010 v2017 v2024 v2031 = 1#1), ∀ a, (k0_off29 v1940 v1947 v1954 v1961 v1968 v1975 v1982 v1989 v1996 v2003 v2010 v2017 v2024 v2031) a + S1x1x128.size a ≤ S2x8x128.size a) ∧
  (∀ (k0_h1 : k0_cond1 i = 1#1), ∀ (k0_h12 : k0_cond12 v1940 v1947 v1954 v1961 v1968 v1975 v1982 v1989 v1996 v2003 v2010 v2017 v2024 v2031 = 1#1), ∀ a, (k0_off30 v1940 v1947 v1954 v1961 v1968 v1975 v1982 v1989 v1996 v2003 v2010 v2017 v2024 v2031) a + S1x1x128.size a ≤ S2x8x128.size a) ∧
  (∀ (k0_h1 : k0_cond1 i = 1#1), ∀ (k0_h13 : k0_cond13 v1940 v1947 v1954 v1961 v1968 v1975 v1982 v1989 v1996 v2003 v2010 v2017 v2024 v2031 = 1#1), ∀ a, (k0_off31 v1940 v1947 v1954 v1961 v1968 v1975 v1982 v1989 v1996 v2003 v2010 v2017 v2024 v2031) a + S1.size a ≤ S8.size a) ∧
  (∀ (k0_h1 : k0_cond1 i = 1#1), ∀ (k0_h13 : k0_cond13 v1940 v1947 v1954 v1961 v1968 v1975 v1982 v1989 v1996 v2003 v2010 v2017 v2024 v2031 = 1#1), ∀ a, (k0_off32 v1940 v1947 v1954 v1961 v1968 v1975 v1982 v1989 v1996 v2003 v2010 v2017 v2024 v2031) a + S1x1x128.size a ≤ S2x8x128.size a)
def k0_chk1_1 (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Prop :=
  (∀ (k0_h1 : k0_cond1 i = 1#1), ∀ (k0_h13 : k0_cond13 v1940 v1947 v1954 v1961 v1968 v1975 v1982 v1989 v1996 v2003 v2010 v2017 v2024 v2031 = 1#1), ∀ a, (k0_off33 v1940 v1947 v1954 v1961 v1968 v1975 v1982 v1989 v1996 v2003 v2010 v2017 v2024 v2031) a + S1x1x128.size a ≤ S2x8x128.size a) ∧
  (∀ (k0_h1 : k0_cond1 i = 1#1), ∀ (k0_h14 : k0_cond14 v1940 v1947 v1954 v1961 v1968 v1975 v1982 v1989 v1996 v2003 v2010 v2017 v2024 v2031 = 1#1), ∀ a, (k0_off34 v1940 v1947 v1954 v1961 v1968 v1975 v1982 v1989 v1996 v2003 v2010 v2017 v2024 v2031) a + S1.size a ≤ S8.size a) ∧
  (∀ (k0_h1 : k0_cond1 i = 1#1), ∀ (k0_h14 : k0_cond14 v1940 v1947 v1954 v1961 v1968 v1975 v1982 v1989 v1996 v2003 v2010 v2017 v2024 v2031 = 1#1), ∀ a, (k0_off35 v1940 v1947 v1954 v1961 v1968 v1975 v1982 v1989 v1996 v2003 v2010 v2017 v2024 v2031) a + S1x1x128.size a ≤ S2x8x128.size a) ∧
  (∀ (k0_h1 : k0_cond1 i = 1#1), ∀ (k0_h14 : k0_cond14 v1940 v1947 v1954 v1961 v1968 v1975 v1982 v1989 v1996 v2003 v2010 v2017 v2024 v2031 = 1#1), ∀ a, (k0_off36 v1940 v1947 v1954 v1961 v1968 v1975 v1982 v1989 v1996 v2003 v2010 v2017 v2024 v2031) a + S1x1x128.size a ≤ S2x8x128.size a) ∧
  (∀ (k0_h1 : k0_cond1 i = 1#1), ∀ (k0_h15 : k0_cond15 v1940 v1947 v1954 v1961 v1968 v1975 v1982 v1989 v1996 v2003 v2010 v2017 v2024 v2031 = 1#1), ∀ a, (k0_off37 v1940 v1947 v1954 v1961 v1968 v1975 v1982 v1989 v1996 v2003 v2010 v2017 v2024 v2031) a + S1.size a ≤ S8.size a) ∧
  (∀ (k0_h1 : k0_cond1 i = 1#1), ∀ (k0_h15 : k0_cond15 v1940 v1947 v1954 v1961 v1968 v1975 v1982 v1989 v1996 v2003 v2010 v2017 v2024 v2031 = 1#1), ∀ a, (k0_off38 v1940 v1947 v1954 v1961 v1968 v1975 v1982 v1989 v1996 v2003 v2010 v2017 v2024 v2031) a + S1x1x128.size a ≤ S2x8x128.size a) ∧
  (∀ (k0_h1 : k0_cond1 i = 1#1), ∀ (k0_h15 : k0_cond15 v1940 v1947 v1954 v1961 v1968 v1975 v1982 v1989 v1996 v2003 v2010 v2017 v2024 v2031 = 1#1), ∀ a, (k0_off39 v1940 v1947 v1954 v1961 v1968 v1975 v1982 v1989 v1996 v2003 v2010 v2017 v2024 v2031) a + S1x1x128.size a ≤ S2x8x128.size a)
def k0_chk1 (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Prop :=
  k0_chk1_0 i v1940 v1947 v1954 v1961 v1968 v1975 v1982 v1989 v1996 v2003 v2010 v2017 v2024 v2031 ∧
  k0_chk1_1 i v1940 v1947 v1954 v1961 v1968 v1975 v1982 v1989 v1996 v2003 v2010 v2017 v2024 v2031
theorem k0_off1_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h3 : k0_cond3 v1940 v1947 v1954 v1961 v1968 v1975 v1982 v1989 v1996 v2003 v2010 v2017 v2024 v2031 = 1#1), ∀ a, (k0_off1 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h3 => k0_hw1.1.1 k0_h1 k0_h3
theorem k0_off2_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h3 : k0_cond3 v1940 v1947 v1954 v1961 v1968 v1975 v1982 v1989 v1996 v2003 v2010 v2017 v2024 v2031 = 1#1), ∀ a, (k0_off2 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h3 => k0_hw1.1.2.1 k0_h1 k0_h3
theorem k0_off3_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h3 : k0_cond3 v1940 v1947 v1954 v1961 v1968 v1975 v1982 v1989 v1996 v2003 v2010 v2017 v2024 v2031 = 1#1), ∀ a, (k0_off3 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h3 => k0_hw1.1.2.2.1 k0_h1 k0_h3
theorem k0_off4_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h4 : k0_cond4 v1940 v1947 v1954 v1961 v1968 v1975 v1982 v1989 v1996 v2003 v2010 v2017 v2024 v2031 = 1#1), ∀ a, (k0_off4 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h4 => k0_hw1.1.2.2.2.1 k0_h1 k0_h4
theorem k0_off5_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h4 : k0_cond4 v1940 v1947 v1954 v1961 v1968 v1975 v1982 v1989 v1996 v2003 v2010 v2017 v2024 v2031 = 1#1), ∀ a, (k0_off5 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h4 => k0_hw1.1.2.2.2.2.1 k0_h1 k0_h4
theorem k0_off6_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h4 : k0_cond4 v1940 v1947 v1954 v1961 v1968 v1975 v1982 v1989 v1996 v2003 v2010 v2017 v2024 v2031 = 1#1), ∀ a, (k0_off6 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h4 => k0_hw1.1.2.2.2.2.2.1 k0_h1 k0_h4
theorem k0_off7_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h5 : k0_cond5 v1940 v1947 v1954 v1961 v1968 v1975 v1982 v1989 v1996 v2003 v2010 v2017 v2024 v2031 = 1#1), ∀ a, (k0_off7 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h5 => k0_hw1.1.2.2.2.2.2.2.1 k0_h1 k0_h5
theorem k0_off8_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h5 : k0_cond5 v1940 v1947 v1954 v1961 v1968 v1975 v1982 v1989 v1996 v2003 v2010 v2017 v2024 v2031 = 1#1), ∀ a, (k0_off8 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h5 => k0_hw1.1.2.2.2.2.2.2.2.1 k0_h1 k0_h5
theorem k0_off9_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h5 : k0_cond5 v1940 v1947 v1954 v1961 v1968 v1975 v1982 v1989 v1996 v2003 v2010 v2017 v2024 v2031 = 1#1), ∀ a, (k0_off9 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h5 => k0_hw1.1.2.2.2.2.2.2.2.2.1 k0_h1 k0_h5
theorem k0_off10_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h6 : k0_cond6 v1940 v1947 v1954 v1961 v1968 v1975 v1982 v1989 v1996 v2003 v2010 v2017 v2024 v2031 = 1#1), ∀ a, (k0_off10 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h6 => k0_hw1.1.2.2.2.2.2.2.2.2.2.1 k0_h1 k0_h6
theorem k0_off11_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h6 : k0_cond6 v1940 v1947 v1954 v1961 v1968 v1975 v1982 v1989 v1996 v2003 v2010 v2017 v2024 v2031 = 1#1), ∀ a, (k0_off11 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h6 => k0_hw1.1.2.2.2.2.2.2.2.2.2.2.1 k0_h1 k0_h6
theorem k0_off12_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h6 : k0_cond6 v1940 v1947 v1954 v1961 v1968 v1975 v1982 v1989 v1996 v2003 v2010 v2017 v2024 v2031 = 1#1), ∀ a, (k0_off12 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h6 => k0_hw1.1.2.2.2.2.2.2.2.2.2.2.2.1 k0_h1 k0_h6
theorem k0_off13_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h7 : k0_cond7 v1940 v1947 v1954 v1961 v1968 v1975 v1982 v1989 v1996 v2003 v2010 v2017 v2024 v2031 = 1#1), ∀ a, (k0_off13 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h7 => k0_hw1.1.2.2.2.2.2.2.2.2.2.2.2.2.1 k0_h1 k0_h7
theorem k0_off14_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h7 : k0_cond7 v1940 v1947 v1954 v1961 v1968 v1975 v1982 v1989 v1996 v2003 v2010 v2017 v2024 v2031 = 1#1), ∀ a, (k0_off14 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h7 => k0_hw1.1.2.2.2.2.2.2.2.2.2.2.2.2.2.1 k0_h1 k0_h7
theorem k0_off15_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h7 : k0_cond7 v1940 v1947 v1954 v1961 v1968 v1975 v1982 v1989 v1996 v2003 v2010 v2017 v2024 v2031 = 1#1), ∀ a, (k0_off15 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h7 => k0_hw1.1.2.2.2.2.2.2.2.2.2.2.2.2.2.2.1 k0_h1 k0_h7
theorem k0_off16_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h8 : k0_cond8 v1940 v1947 v1954 v1961 v1968 v1975 v1982 v1989 v1996 v2003 v2010 v2017 v2024 v2031 = 1#1), ∀ a, (k0_off16 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h8 => k0_hw1.1.2.2.2.2.2.2.2.2.2.2.2.2.2.2.2.1 k0_h1 k0_h8
theorem k0_off17_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h8 : k0_cond8 v1940 v1947 v1954 v1961 v1968 v1975 v1982 v1989 v1996 v2003 v2010 v2017 v2024 v2031 = 1#1), ∀ a, (k0_off17 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h8 => k0_hw1.1.2.2.2.2.2.2.2.2.2.2.2.2.2.2.2.2.1 k0_h1 k0_h8
theorem k0_off18_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h8 : k0_cond8 v1940 v1947 v1954 v1961 v1968 v1975 v1982 v1989 v1996 v2003 v2010 v2017 v2024 v2031 = 1#1), ∀ a, (k0_off18 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h8 => k0_hw1.1.2.2.2.2.2.2.2.2.2.2.2.2.2.2.2.2.2.1 k0_h1 k0_h8
theorem k0_off19_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h9 : k0_cond9 v1940 v1947 v1954 v1961 v1968 v1975 v1982 v1989 v1996 v2003 v2010 v2017 v2024 v2031 = 1#1), ∀ a, (k0_off19 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h9 => k0_hw1.1.2.2.2.2.2.2.2.2.2.2.2.2.2.2.2.2.2.2.1 k0_h1 k0_h9
theorem k0_off20_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h9 : k0_cond9 v1940 v1947 v1954 v1961 v1968 v1975 v1982 v1989 v1996 v2003 v2010 v2017 v2024 v2031 = 1#1), ∀ a, (k0_off20 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h9 => k0_hw1.1.2.2.2.2.2.2.2.2.2.2.2.2.2.2.2.2.2.2.2.1 k0_h1 k0_h9
theorem k0_off21_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h9 : k0_cond9 v1940 v1947 v1954 v1961 v1968 v1975 v1982 v1989 v1996 v2003 v2010 v2017 v2024 v2031 = 1#1), ∀ a, (k0_off21 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h9 => k0_hw1.1.2.2.2.2.2.2.2.2.2.2.2.2.2.2.2.2.2.2.2.2.1 k0_h1 k0_h9
theorem k0_off22_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h10 : k0_cond10 v1940 v1947 v1954 v1961 v1968 v1975 v1982 v1989 v1996 v2003 v2010 v2017 v2024 v2031 = 1#1), ∀ a, (k0_off22 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h10 => k0_hw1.1.2.2.2.2.2.2.2.2.2.2.2.2.2.2.2.2.2.2.2.2.2.1 k0_h1 k0_h10
theorem k0_off23_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h10 : k0_cond10 v1940 v1947 v1954 v1961 v1968 v1975 v1982 v1989 v1996 v2003 v2010 v2017 v2024 v2031 = 1#1), ∀ a, (k0_off23 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h10 => k0_hw1.1.2.2.2.2.2.2.2.2.2.2.2.2.2.2.2.2.2.2.2.2.2.2.1 k0_h1 k0_h10
theorem k0_off24_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h10 : k0_cond10 v1940 v1947 v1954 v1961 v1968 v1975 v1982 v1989 v1996 v2003 v2010 v2017 v2024 v2031 = 1#1), ∀ a, (k0_off24 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h10 => k0_hw1.1.2.2.2.2.2.2.2.2.2.2.2.2.2.2.2.2.2.2.2.2.2.2.2.1 k0_h1 k0_h10
theorem k0_off25_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h11 : k0_cond11 v1940 v1947 v1954 v1961 v1968 v1975 v1982 v1989 v1996 v2003 v2010 v2017 v2024 v2031 = 1#1), ∀ a, (k0_off25 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h11 => k0_hw1.1.2.2.2.2.2.2.2.2.2.2.2.2.2.2.2.2.2.2.2.2.2.2.2.2.1 k0_h1 k0_h11
theorem k0_off26_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h11 : k0_cond11 v1940 v1947 v1954 v1961 v1968 v1975 v1982 v1989 v1996 v2003 v2010 v2017 v2024 v2031 = 1#1), ∀ a, (k0_off26 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h11 => k0_hw1.1.2.2.2.2.2.2.2.2.2.2.2.2.2.2.2.2.2.2.2.2.2.2.2.2.2.1 k0_h1 k0_h11
theorem k0_off27_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h11 : k0_cond11 v1940 v1947 v1954 v1961 v1968 v1975 v1982 v1989 v1996 v2003 v2010 v2017 v2024 v2031 = 1#1), ∀ a, (k0_off27 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h11 => k0_hw1.1.2.2.2.2.2.2.2.2.2.2.2.2.2.2.2.2.2.2.2.2.2.2.2.2.2.2.1 k0_h1 k0_h11
theorem k0_off28_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h12 : k0_cond12 v1940 v1947 v1954 v1961 v1968 v1975 v1982 v1989 v1996 v2003 v2010 v2017 v2024 v2031 = 1#1), ∀ a, (k0_off28 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h12 => k0_hw1.1.2.2.2.2.2.2.2.2.2.2.2.2.2.2.2.2.2.2.2.2.2.2.2.2.2.2.2.1 k0_h1 k0_h12
theorem k0_off29_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h12 : k0_cond12 v1940 v1947 v1954 v1961 v1968 v1975 v1982 v1989 v1996 v2003 v2010 v2017 v2024 v2031 = 1#1), ∀ a, (k0_off29 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h12 => k0_hw1.1.2.2.2.2.2.2.2.2.2.2.2.2.2.2.2.2.2.2.2.2.2.2.2.2.2.2.2.2.1 k0_h1 k0_h12
theorem k0_off30_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h12 : k0_cond12 v1940 v1947 v1954 v1961 v1968 v1975 v1982 v1989 v1996 v2003 v2010 v2017 v2024 v2031 = 1#1), ∀ a, (k0_off30 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h12 => k0_hw1.1.2.2.2.2.2.2.2.2.2.2.2.2.2.2.2.2.2.2.2.2.2.2.2.2.2.2.2.2.2.1 k0_h1 k0_h12
theorem k0_off31_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h13 : k0_cond13 v1940 v1947 v1954 v1961 v1968 v1975 v1982 v1989 v1996 v2003 v2010 v2017 v2024 v2031 = 1#1), ∀ a, (k0_off31 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h13 => k0_hw1.1.2.2.2.2.2.2.2.2.2.2.2.2.2.2.2.2.2.2.2.2.2.2.2.2.2.2.2.2.2.2.1 k0_h1 k0_h13
theorem k0_off32_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h13 : k0_cond13 v1940 v1947 v1954 v1961 v1968 v1975 v1982 v1989 v1996 v2003 v2010 v2017 v2024 v2031 = 1#1), ∀ a, (k0_off32 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h13 => k0_hw1.1.2.2.2.2.2.2.2.2.2.2.2.2.2.2.2.2.2.2.2.2.2.2.2.2.2.2.2.2.2.2.2 k0_h1 k0_h13
theorem k0_off33_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h13 : k0_cond13 v1940 v1947 v1954 v1961 v1968 v1975 v1982 v1989 v1996 v2003 v2010 v2017 v2024 v2031 = 1#1), ∀ a, (k0_off33 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h13 => k0_hw1.2.1 k0_h1 k0_h13
theorem k0_off34_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h14 : k0_cond14 v1940 v1947 v1954 v1961 v1968 v1975 v1982 v1989 v1996 v2003 v2010 v2017 v2024 v2031 = 1#1), ∀ a, (k0_off34 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h14 => k0_hw1.2.2.1 k0_h1 k0_h14
theorem k0_off35_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h14 : k0_cond14 v1940 v1947 v1954 v1961 v1968 v1975 v1982 v1989 v1996 v2003 v2010 v2017 v2024 v2031 = 1#1), ∀ a, (k0_off35 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h14 => k0_hw1.2.2.2.1 k0_h1 k0_h14
theorem k0_off36_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h14 : k0_cond14 v1940 v1947 v1954 v1961 v1968 v1975 v1982 v1989 v1996 v2003 v2010 v2017 v2024 v2031 = 1#1), ∀ a, (k0_off36 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h14 => k0_hw1.2.2.2.2.1 k0_h1 k0_h14
theorem k0_off37_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h15 : k0_cond15 v1940 v1947 v1954 v1961 v1968 v1975 v1982 v1989 v1996 v2003 v2010 v2017 v2024 v2031 = 1#1), ∀ a, (k0_off37 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 k0_hw1 k0_h1 k0_h15 => k0_hw1.2.2.2.2.2.1 k0_h1 k0_h15
theorem k0_off38_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h15 : k0_cond15 v1940 v1947 v1954 v1961 v1968 v1975 v1982 v1989 v1996 v2003 v2010 v2017 v2024 v2031 = 1#1), ∀ a, (k0_off38 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h15 => k0_hw1.2.2.2.2.2.2.1 k0_h1 k0_h15
theorem k0_off39_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (k0_hw1 : k0_chk1 i v1940 v1947 v1954 v1961 v1968 v1975 v1982 v1989 v1996 v2003 v2010 v2017 v2024 v2031), ∀ (k0_h1 : k0_cond1 i = 1#1), ∀ (k0_h15 : k0_cond15 v1940 v1947 v1954 v1961 v1968 v1975 v1982 v1989 v1996 v2003 v2010 v2017 v2024 v2031 = 1#1), ∀ a, (k0_off39 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 k0_hw1 k0_h1 k0_h15 => k0_hw1.2.2.2.2.2.2.2 k0_h1 k0_h15

def k0_off40 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let v2385 : Index := Scalar.indexCast v2262
  ![v2385.toNat]
def k0_cond16 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let c1_i32_921 : BitVec 32 := 1#32
  let v2265 : BitVec 1 := Scalar.cmpi .eq v2264 c1_i32_921
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c8_i32_922 : BitVec 32 := 8#32
  let v2266 : BitVec 1 := Scalar.cmpi .slt v2262 c8_i32_922
  let v2267 : BitVec 1 := Scalar.andi v2265 v2266
  let v2268 : BitVec 32 := Scalar.extui v2267
  let c0_i32_923 : BitVec 32 := 0#32
  let v2269 : BitVec 1 := Scalar.cmpi .ne v2268 c0_i32_923
  v2269

def k0_off41 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let v2387 : Index := Scalar.indexCast v2262
  let c0_994 : Index := 0#32
  ![0, v2387.toNat, 0]
def k0_off42 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let v2404 : Index := Scalar.indexCast v2262
  let c0_1003 : Index := 0#32
  ![1, v2404.toNat, 0]
def k0_off43 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let v2385 : Index := Scalar.indexCast v2270
  ![v2385.toNat]
def k0_cond17 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c1_i32_924 : BitVec 32 := 1#32
  let v2271 : BitVec 32 := Scalar.shrsi v2130 c1_i32_924
  let c1_i32_925 : BitVec 32 := 1#32
  let v2272 : BitVec 32 := Scalar.andi v2271 c1_i32_925
  let c1_i32_926 : BitVec 32 := 1#32
  let v2273 : BitVec 1 := Scalar.cmpi .eq v2272 c1_i32_926
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c8_i32_927 : BitVec 32 := 8#32
  let v2274 : BitVec 1 := Scalar.cmpi .slt v2270 c8_i32_927
  let v2275 : BitVec 1 := Scalar.andi v2273 v2274
  let v2276 : BitVec 32 := Scalar.extui v2275
  let c0_i32_928 : BitVec 32 := 0#32
  let v2277 : BitVec 1 := Scalar.cmpi .ne v2276 c0_i32_928
  v2277

def k0_off44 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let v2387 : Index := Scalar.indexCast v2270
  let c0_994 : Index := 0#32
  ![0, v2387.toNat, 0]
def k0_off45 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let v2404 : Index := Scalar.indexCast v2270
  let c0_1003 : Index := 0#32
  ![1, v2404.toNat, 0]
def k0_off46 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let v2385 : Index := Scalar.indexCast v2278
  ![v2385.toNat]
def k0_cond18 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c2_i32_929 : BitVec 32 := 2#32
  let v2279 : BitVec 32 := Scalar.shrsi v2130 c2_i32_929
  let c1_i32_930 : BitVec 32 := 1#32
  let v2280 : BitVec 32 := Scalar.andi v2279 c1_i32_930
  let c1_i32_931 : BitVec 32 := 1#32
  let v2281 : BitVec 1 := Scalar.cmpi .eq v2280 c1_i32_931
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c8_i32_932 : BitVec 32 := 8#32
  let v2282 : BitVec 1 := Scalar.cmpi .slt v2278 c8_i32_932
  let v2283 : BitVec 1 := Scalar.andi v2281 v2282
  let v2284 : BitVec 32 := Scalar.extui v2283
  let c0_i32_933 : BitVec 32 := 0#32
  let v2285 : BitVec 1 := Scalar.cmpi .ne v2284 c0_i32_933
  v2285

def k0_off47 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let v2387 : Index := Scalar.indexCast v2278
  let c0_994 : Index := 0#32
  ![0, v2387.toNat, 0]
def k0_off48 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let v2404 : Index := Scalar.indexCast v2278
  let c0_1003 : Index := 0#32
  ![1, v2404.toNat, 0]
def k0_off49 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let v2385 : Index := Scalar.indexCast v2286
  ![v2385.toNat]
def k0_cond19 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c3_i32_934 : BitVec 32 := 3#32
  let v2287 : BitVec 32 := Scalar.shrsi v2130 c3_i32_934
  let c1_i32_935 : BitVec 32 := 1#32
  let v2288 : BitVec 32 := Scalar.andi v2287 c1_i32_935
  let c1_i32_936 : BitVec 32 := 1#32
  let v2289 : BitVec 1 := Scalar.cmpi .eq v2288 c1_i32_936
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c8_i32_937 : BitVec 32 := 8#32
  let v2290 : BitVec 1 := Scalar.cmpi .slt v2286 c8_i32_937
  let v2291 : BitVec 1 := Scalar.andi v2289 v2290
  let v2292 : BitVec 32 := Scalar.extui v2291
  let c0_i32_938 : BitVec 32 := 0#32
  let v2293 : BitVec 1 := Scalar.cmpi .ne v2292 c0_i32_938
  v2293

def k0_off50 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let v2387 : Index := Scalar.indexCast v2286
  let c0_994 : Index := 0#32
  ![0, v2387.toNat, 0]
def k0_off51 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let v2404 : Index := Scalar.indexCast v2286
  let c0_1003 : Index := 0#32
  ![1, v2404.toNat, 0]
def k0_off52 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let v2385 : Index := Scalar.indexCast v2294
  ![v2385.toNat]
def k0_cond20 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c4_i32_939 : BitVec 32 := 4#32
  let v2295 : BitVec 32 := Scalar.shrsi v2130 c4_i32_939
  let c1_i32_940 : BitVec 32 := 1#32
  let v2296 : BitVec 32 := Scalar.andi v2295 c1_i32_940
  let c1_i32_941 : BitVec 32 := 1#32
  let v2297 : BitVec 1 := Scalar.cmpi .eq v2296 c1_i32_941
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c8_i32_942 : BitVec 32 := 8#32
  let v2298 : BitVec 1 := Scalar.cmpi .slt v2294 c8_i32_942
  let v2299 : BitVec 1 := Scalar.andi v2297 v2298
  let v2300 : BitVec 32 := Scalar.extui v2299
  let c0_i32_943 : BitVec 32 := 0#32
  let v2301 : BitVec 1 := Scalar.cmpi .ne v2300 c0_i32_943
  v2301

def k0_off53 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let v2387 : Index := Scalar.indexCast v2294
  let c0_994 : Index := 0#32
  ![0, v2387.toNat, 0]
def k0_off54 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let v2404 : Index := Scalar.indexCast v2294
  let c0_1003 : Index := 0#32
  ![1, v2404.toNat, 0]
def k0_off55 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let v2385 : Index := Scalar.indexCast v2302
  ![v2385.toNat]
def k0_cond21 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c5_i32_944 : BitVec 32 := 5#32
  let v2303 : BitVec 32 := Scalar.shrsi v2130 c5_i32_944
  let c1_i32_945 : BitVec 32 := 1#32
  let v2304 : BitVec 32 := Scalar.andi v2303 c1_i32_945
  let c1_i32_946 : BitVec 32 := 1#32
  let v2305 : BitVec 1 := Scalar.cmpi .eq v2304 c1_i32_946
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c8_i32_947 : BitVec 32 := 8#32
  let v2306 : BitVec 1 := Scalar.cmpi .slt v2302 c8_i32_947
  let v2307 : BitVec 1 := Scalar.andi v2305 v2306
  let v2308 : BitVec 32 := Scalar.extui v2307
  let c0_i32_948 : BitVec 32 := 0#32
  let v2309 : BitVec 1 := Scalar.cmpi .ne v2308 c0_i32_948
  v2309

def k0_off56 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let v2387 : Index := Scalar.indexCast v2302
  let c0_994 : Index := 0#32
  ![0, v2387.toNat, 0]
def k0_off57 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let v2404 : Index := Scalar.indexCast v2302
  let c0_1003 : Index := 0#32
  ![1, v2404.toNat, 0]
def k0_off58 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let v2385 : Index := Scalar.indexCast v2310
  ![v2385.toNat]
def k0_cond22 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c6_i32_949 : BitVec 32 := 6#32
  let v2311 : BitVec 32 := Scalar.shrsi v2130 c6_i32_949
  let c1_i32_950 : BitVec 32 := 1#32
  let v2312 : BitVec 32 := Scalar.andi v2311 c1_i32_950
  let c1_i32_951 : BitVec 32 := 1#32
  let v2313 : BitVec 1 := Scalar.cmpi .eq v2312 c1_i32_951
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c8_i32_952 : BitVec 32 := 8#32
  let v2314 : BitVec 1 := Scalar.cmpi .slt v2310 c8_i32_952
  let v2315 : BitVec 1 := Scalar.andi v2313 v2314
  let v2316 : BitVec 32 := Scalar.extui v2315
  let c0_i32_953 : BitVec 32 := 0#32
  let v2317 : BitVec 1 := Scalar.cmpi .ne v2316 c0_i32_953
  v2317

def k0_off59 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let v2387 : Index := Scalar.indexCast v2310
  let c0_994 : Index := 0#32
  ![0, v2387.toNat, 0]
def k0_off60 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let v2404 : Index := Scalar.indexCast v2310
  let c0_1003 : Index := 0#32
  ![1, v2404.toNat, 0]
def k0_off61 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let v2385 : Index := Scalar.indexCast v2318
  ![v2385.toNat]
def k0_cond23 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c7_i32_954 : BitVec 32 := 7#32
  let v2319 : BitVec 32 := Scalar.shrsi v2130 c7_i32_954
  let c1_i32_955 : BitVec 32 := 1#32
  let v2320 : BitVec 32 := Scalar.andi v2319 c1_i32_955
  let c1_i32_956 : BitVec 32 := 1#32
  let v2321 : BitVec 1 := Scalar.cmpi .eq v2320 c1_i32_956
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c8_i32_957 : BitVec 32 := 8#32
  let v2322 : BitVec 1 := Scalar.cmpi .slt v2318 c8_i32_957
  let v2323 : BitVec 1 := Scalar.andi v2321 v2322
  let v2324 : BitVec 32 := Scalar.extui v2323
  let c0_i32_958 : BitVec 32 := 0#32
  let v2325 : BitVec 1 := Scalar.cmpi .ne v2324 c0_i32_958
  v2325

def k0_off62 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let v2387 : Index := Scalar.indexCast v2318
  let c0_994 : Index := 0#32
  ![0, v2387.toNat, 0]
def k0_off63 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let v2404 : Index := Scalar.indexCast v2318
  let c0_1003 : Index := 0#32
  ![1, v2404.toNat, 0]
def k0_off64 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let v2385 : Index := Scalar.indexCast v2326
  ![v2385.toNat]
def k0_cond24 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c8_i32_959 : BitVec 32 := 8#32
  let v2327 : BitVec 32 := Scalar.shrsi v2130 c8_i32_959
  let c1_i32_960 : BitVec 32 := 1#32
  let v2328 : BitVec 32 := Scalar.andi v2327 c1_i32_960
  let c1_i32_961 : BitVec 32 := 1#32
  let v2329 : BitVec 1 := Scalar.cmpi .eq v2328 c1_i32_961
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_962 : BitVec 32 := 8#32
  let v2330 : BitVec 1 := Scalar.cmpi .slt v2326 c8_i32_962
  let v2331 : BitVec 1 := Scalar.andi v2329 v2330
  let v2332 : BitVec 32 := Scalar.extui v2331
  let c0_i32_963 : BitVec 32 := 0#32
  let v2333 : BitVec 1 := Scalar.cmpi .ne v2332 c0_i32_963
  v2333

def k0_off65 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let v2387 : Index := Scalar.indexCast v2326
  let c0_994 : Index := 0#32
  ![0, v2387.toNat, 0]
def k0_off66 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let v2404 : Index := Scalar.indexCast v2326
  let c0_1003 : Index := 0#32
  ![1, v2404.toNat, 0]
def k0_off67 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let v2385 : Index := Scalar.indexCast v2334
  ![v2385.toNat]
def k0_cond25 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c9_i32_964 : BitVec 32 := 9#32
  let v2335 : BitVec 32 := Scalar.shrsi v2130 c9_i32_964
  let c1_i32_965 : BitVec 32 := 1#32
  let v2336 : BitVec 32 := Scalar.andi v2335 c1_i32_965
  let c1_i32_966 : BitVec 32 := 1#32
  let v2337 : BitVec 1 := Scalar.cmpi .eq v2336 c1_i32_966
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c8_i32_967 : BitVec 32 := 8#32
  let v2338 : BitVec 1 := Scalar.cmpi .slt v2334 c8_i32_967
  let v2339 : BitVec 1 := Scalar.andi v2337 v2338
  let v2340 : BitVec 32 := Scalar.extui v2339
  let c0_i32_968 : BitVec 32 := 0#32
  let v2341 : BitVec 1 := Scalar.cmpi .ne v2340 c0_i32_968
  v2341

def k0_off68 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let v2387 : Index := Scalar.indexCast v2334
  let c0_994 : Index := 0#32
  ![0, v2387.toNat, 0]
def k0_off69 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let v2404 : Index := Scalar.indexCast v2334
  let c0_1003 : Index := 0#32
  ![1, v2404.toNat, 0]
def k0_off70 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let v2385 : Index := Scalar.indexCast v2342
  ![v2385.toNat]
def k0_cond26 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c10_i32_969 : BitVec 32 := 10#32
  let v2343 : BitVec 32 := Scalar.shrsi v2130 c10_i32_969
  let c1_i32_970 : BitVec 32 := 1#32
  let v2344 : BitVec 32 := Scalar.andi v2343 c1_i32_970
  let c1_i32_971 : BitVec 32 := 1#32
  let v2345 : BitVec 1 := Scalar.cmpi .eq v2344 c1_i32_971
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c8_i32_972 : BitVec 32 := 8#32
  let v2346 : BitVec 1 := Scalar.cmpi .slt v2342 c8_i32_972
  let v2347 : BitVec 1 := Scalar.andi v2345 v2346
  let v2348 : BitVec 32 := Scalar.extui v2347
  let c0_i32_973 : BitVec 32 := 0#32
  let v2349 : BitVec 1 := Scalar.cmpi .ne v2348 c0_i32_973
  v2349

def k0_off71 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let v2387 : Index := Scalar.indexCast v2342
  let c0_994 : Index := 0#32
  ![0, v2387.toNat, 0]
def k0_off72 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let v2404 : Index := Scalar.indexCast v2342
  let c0_1003 : Index := 0#32
  ![1, v2404.toNat, 0]
def k0_off73 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let v2385 : Index := Scalar.indexCast v2350
  ![v2385.toNat]
def k0_cond27 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c11_i32_974 : BitVec 32 := 11#32
  let v2351 : BitVec 32 := Scalar.shrsi v2130 c11_i32_974
  let c1_i32_975 : BitVec 32 := 1#32
  let v2352 : BitVec 32 := Scalar.andi v2351 c1_i32_975
  let c1_i32_976 : BitVec 32 := 1#32
  let v2353 : BitVec 1 := Scalar.cmpi .eq v2352 c1_i32_976
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c8_i32_977 : BitVec 32 := 8#32
  let v2354 : BitVec 1 := Scalar.cmpi .slt v2350 c8_i32_977
  let v2355 : BitVec 1 := Scalar.andi v2353 v2354
  let v2356 : BitVec 32 := Scalar.extui v2355
  let c0_i32_978 : BitVec 32 := 0#32
  let v2357 : BitVec 1 := Scalar.cmpi .ne v2356 c0_i32_978
  v2357

def k0_off74 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let v2387 : Index := Scalar.indexCast v2350
  let c0_994 : Index := 0#32
  ![0, v2387.toNat, 0]
def k0_off75 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let v2404 : Index := Scalar.indexCast v2350
  let c0_1003 : Index := 0#32
  ![1, v2404.toNat, 0]
def k0_off76 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c11_i32_974 : BitVec 32 := 11#32
  let v2351 : BitVec 32 := Scalar.shrsi v2130 c11_i32_974
  let c1_i32_975 : BitVec 32 := 1#32
  let v2352 : BitVec 32 := Scalar.andi v2351 c1_i32_975
  let v2358 : BitVec 32 := Scalar.addi v2350 v2352
  let v2385 : Index := Scalar.indexCast v2358
  ![v2385.toNat]
def k0_cond28 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c12_i32_979 : BitVec 32 := 12#32
  let v2359 : BitVec 32 := Scalar.shrsi v2130 c12_i32_979
  let c1_i32_980 : BitVec 32 := 1#32
  let v2360 : BitVec 32 := Scalar.andi v2359 c1_i32_980
  let c1_i32_981 : BitVec 32 := 1#32
  let v2361 : BitVec 1 := Scalar.cmpi .eq v2360 c1_i32_981
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c11_i32_974 : BitVec 32 := 11#32
  let v2351 : BitVec 32 := Scalar.shrsi v2130 c11_i32_974
  let c1_i32_975 : BitVec 32 := 1#32
  let v2352 : BitVec 32 := Scalar.andi v2351 c1_i32_975
  let v2358 : BitVec 32 := Scalar.addi v2350 v2352
  let c8_i32_982 : BitVec 32 := 8#32
  let v2362 : BitVec 1 := Scalar.cmpi .slt v2358 c8_i32_982
  let v2363 : BitVec 1 := Scalar.andi v2361 v2362
  let v2364 : BitVec 32 := Scalar.extui v2363
  let c0_i32_983 : BitVec 32 := 0#32
  let v2365 : BitVec 1 := Scalar.cmpi .ne v2364 c0_i32_983
  v2365

def k0_off77 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c11_i32_974 : BitVec 32 := 11#32
  let v2351 : BitVec 32 := Scalar.shrsi v2130 c11_i32_974
  let c1_i32_975 : BitVec 32 := 1#32
  let v2352 : BitVec 32 := Scalar.andi v2351 c1_i32_975
  let v2358 : BitVec 32 := Scalar.addi v2350 v2352
  let v2387 : Index := Scalar.indexCast v2358
  let c0_994 : Index := 0#32
  ![0, v2387.toNat, 0]
def k0_off78 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c11_i32_974 : BitVec 32 := 11#32
  let v2351 : BitVec 32 := Scalar.shrsi v2130 c11_i32_974
  let c1_i32_975 : BitVec 32 := 1#32
  let v2352 : BitVec 32 := Scalar.andi v2351 c1_i32_975
  let v2358 : BitVec 32 := Scalar.addi v2350 v2352
  let v2404 : Index := Scalar.indexCast v2358
  let c0_1003 : Index := 0#32
  ![1, v2404.toNat, 0]
def k0_off79 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 1 → Nat :=
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c11_i32_974 : BitVec 32 := 11#32
  let v2351 : BitVec 32 := Scalar.shrsi v2130 c11_i32_974
  let c1_i32_975 : BitVec 32 := 1#32
  let v2352 : BitVec 32 := Scalar.andi v2351 c1_i32_975
  let v2358 : BitVec 32 := Scalar.addi v2350 v2352
  let c12_i32_979 : BitVec 32 := 12#32
  let v2359 : BitVec 32 := Scalar.shrsi v2130 c12_i32_979
  let c1_i32_980 : BitVec 32 := 1#32
  let v2360 : BitVec 32 := Scalar.andi v2359 c1_i32_980
  let v2366 : BitVec 32 := Scalar.addi v2358 v2360
  let v2385 : Index := Scalar.indexCast v2366
  ![v2385.toNat]
def k0_cond29 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : BitVec 1 :=
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c13_i32_984 : BitVec 32 := 13#32
  let v2367 : BitVec 32 := Scalar.shrsi v2130 c13_i32_984
  let c1_i32_985 : BitVec 32 := 1#32
  let v2368 : BitVec 32 := Scalar.andi v2367 c1_i32_985
  let c1_i32_986 : BitVec 32 := 1#32
  let v2369 : BitVec 1 := Scalar.cmpi .eq v2368 c1_i32_986
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c11_i32_974 : BitVec 32 := 11#32
  let v2351 : BitVec 32 := Scalar.shrsi v2130 c11_i32_974
  let c1_i32_975 : BitVec 32 := 1#32
  let v2352 : BitVec 32 := Scalar.andi v2351 c1_i32_975
  let v2358 : BitVec 32 := Scalar.addi v2350 v2352
  let c12_i32_979 : BitVec 32 := 12#32
  let v2359 : BitVec 32 := Scalar.shrsi v2130 c12_i32_979
  let c1_i32_980 : BitVec 32 := 1#32
  let v2360 : BitVec 32 := Scalar.andi v2359 c1_i32_980
  let v2366 : BitVec 32 := Scalar.addi v2358 v2360
  let c8_i32_987 : BitVec 32 := 8#32
  let v2370 : BitVec 1 := Scalar.cmpi .slt v2366 c8_i32_987
  let v2371 : BitVec 1 := Scalar.andi v2369 v2370
  let v2372 : BitVec 32 := Scalar.extui v2371
  let c0_i32_988 : BitVec 32 := 0#32
  let v2373 : BitVec 1 := Scalar.cmpi .ne v2372 c0_i32_988
  v2373

def k0_off80 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c0_993 : Index := 0#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c11_i32_974 : BitVec 32 := 11#32
  let v2351 : BitVec 32 := Scalar.shrsi v2130 c11_i32_974
  let c1_i32_975 : BitVec 32 := 1#32
  let v2352 : BitVec 32 := Scalar.andi v2351 c1_i32_975
  let v2358 : BitVec 32 := Scalar.addi v2350 v2352
  let c12_i32_979 : BitVec 32 := 12#32
  let v2359 : BitVec 32 := Scalar.shrsi v2130 c12_i32_979
  let c1_i32_980 : BitVec 32 := 1#32
  let v2360 : BitVec 32 := Scalar.andi v2359 c1_i32_980
  let v2366 : BitVec 32 := Scalar.addi v2358 v2360
  let v2387 : Index := Scalar.indexCast v2366
  let c0_994 : Index := 0#32
  ![0, v2387.toNat, 0]
def k0_off81 (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Fin 3 → Nat :=
  let c1_1002 : Index := 1#32
  let c0_i32_864 : BitVec 32 := 0#32
  let c0_i32_781 : BitVec 32 := 0#32
  let v1941 : BitVec 32 := Scalar.addi c0_i32_781 v1940
  let v1948 : BitVec 32 := Scalar.addi v1941 v1947
  let v1955 : BitVec 32 := Scalar.addi v1948 v1954
  let v1962 : BitVec 32 := Scalar.addi v1955 v1961
  let v1969 : BitVec 32 := Scalar.addi v1962 v1968
  let v1976 : BitVec 32 := Scalar.addi v1969 v1975
  let v1983 : BitVec 32 := Scalar.addi v1976 v1982
  let v1990 : BitVec 32 := Scalar.addi v1983 v1989
  let v1997 : BitVec 32 := Scalar.addi v1990 v1996
  let v2004 : BitVec 32 := Scalar.addi v1997 v2003
  let v2011 : BitVec 32 := Scalar.addi v2004 v2010
  let v2018 : BitVec 32 := Scalar.addi v2011 v2017
  let v2025 : BitVec 32 := Scalar.addi v2018 v2024
  let v2032 : BitVec 32 := Scalar.addi v2025 v2031
  let c0_i32_858 : BitVec 32 := 0#32
  let v2151 : BitVec 32 := Scalar.shrsi v2032 c0_i32_858
  let c1_i32_859 : BitVec 32 := 1#32
  let v2152 : BitVec 32 := Scalar.andi v2151 c1_i32_859
  let v2158 : BitVec 32 := Scalar.addi c0_i32_864 v2152
  let c1_i32_865 : BitVec 32 := 1#32
  let v2159 : BitVec 32 := Scalar.shrsi v2032 c1_i32_865
  let c1_i32_866 : BitVec 32 := 1#32
  let v2160 : BitVec 32 := Scalar.andi v2159 c1_i32_866
  let v2166 : BitVec 32 := Scalar.addi v2158 v2160
  let c2_i32 : BitVec 32 := 2#32
  let v2167 : BitVec 32 := Scalar.shrsi v2032 c2_i32
  let c1_i32_870 : BitVec 32 := 1#32
  let v2168 : BitVec 32 := Scalar.andi v2167 c1_i32_870
  let v2174 : BitVec 32 := Scalar.addi v2166 v2168
  let c3_i32 : BitVec 32 := 3#32
  let v2175 : BitVec 32 := Scalar.shrsi v2032 c3_i32
  let c1_i32_874 : BitVec 32 := 1#32
  let v2176 : BitVec 32 := Scalar.andi v2175 c1_i32_874
  let v2182 : BitVec 32 := Scalar.addi v2174 v2176
  let c4_i32 : BitVec 32 := 4#32
  let v2183 : BitVec 32 := Scalar.shrsi v2032 c4_i32
  let c1_i32_878 : BitVec 32 := 1#32
  let v2184 : BitVec 32 := Scalar.andi v2183 c1_i32_878
  let v2190 : BitVec 32 := Scalar.addi v2182 v2184
  let c5_i32 : BitVec 32 := 5#32
  let v2191 : BitVec 32 := Scalar.shrsi v2032 c5_i32
  let c1_i32_882 : BitVec 32 := 1#32
  let v2192 : BitVec 32 := Scalar.andi v2191 c1_i32_882
  let v2198 : BitVec 32 := Scalar.addi v2190 v2192
  let c6_i32 : BitVec 32 := 6#32
  let v2199 : BitVec 32 := Scalar.shrsi v2032 c6_i32
  let c1_i32_886 : BitVec 32 := 1#32
  let v2200 : BitVec 32 := Scalar.andi v2199 c1_i32_886
  let v2206 : BitVec 32 := Scalar.addi v2198 v2200
  let c7_i32 : BitVec 32 := 7#32
  let v2207 : BitVec 32 := Scalar.shrsi v2032 c7_i32
  let c1_i32_890 : BitVec 32 := 1#32
  let v2208 : BitVec 32 := Scalar.andi v2207 c1_i32_890
  let v2214 : BitVec 32 := Scalar.addi v2206 v2208
  let c8_i32_894 : BitVec 32 := 8#32
  let v2215 : BitVec 32 := Scalar.shrsi v2032 c8_i32_894
  let c1_i32_895 : BitVec 32 := 1#32
  let v2216 : BitVec 32 := Scalar.andi v2215 c1_i32_895
  let v2222 : BitVec 32 := Scalar.addi v2214 v2216
  let c9_i32 : BitVec 32 := 9#32
  let v2223 : BitVec 32 := Scalar.shrsi v2032 c9_i32
  let c1_i32_899 : BitVec 32 := 1#32
  let v2224 : BitVec 32 := Scalar.andi v2223 c1_i32_899
  let v2230 : BitVec 32 := Scalar.addi v2222 v2224
  let c10_i32 : BitVec 32 := 10#32
  let v2231 : BitVec 32 := Scalar.shrsi v2032 c10_i32
  let c1_i32_903 : BitVec 32 := 1#32
  let v2232 : BitVec 32 := Scalar.andi v2231 c1_i32_903
  let v2238 : BitVec 32 := Scalar.addi v2230 v2232
  let c11_i32 : BitVec 32 := 11#32
  let v2239 : BitVec 32 := Scalar.shrsi v2032 c11_i32
  let c1_i32_907 : BitVec 32 := 1#32
  let v2240 : BitVec 32 := Scalar.andi v2239 c1_i32_907
  let v2246 : BitVec 32 := Scalar.addi v2238 v2240
  let c12_i32 : BitVec 32 := 12#32
  let v2247 : BitVec 32 := Scalar.shrsi v2032 c12_i32
  let c1_i32_911 : BitVec 32 := 1#32
  let v2248 : BitVec 32 := Scalar.andi v2247 c1_i32_911
  let v2254 : BitVec 32 := Scalar.addi v2246 v2248
  let c13_i32 : BitVec 32 := 13#32
  let v2255 : BitVec 32 := Scalar.shrsi v2032 c13_i32
  let c1_i32_915 : BitVec 32 := 1#32
  let v2256 : BitVec 32 := Scalar.andi v2255 c1_i32_915
  let v2262 : BitVec 32 := Scalar.addi v2254 v2256
  let c0_i32_810 : BitVec 32 := 0#32
  let v2039 : BitVec 32 := Scalar.addi c0_i32_810 v2038
  let v2046 : BitVec 32 := Scalar.addi v2039 v2045
  let v2053 : BitVec 32 := Scalar.addi v2046 v2052
  let v2060 : BitVec 32 := Scalar.addi v2053 v2059
  let v2067 : BitVec 32 := Scalar.addi v2060 v2066
  let v2074 : BitVec 32 := Scalar.addi v2067 v2073
  let v2081 : BitVec 32 := Scalar.addi v2074 v2080
  let v2088 : BitVec 32 := Scalar.addi v2081 v2087
  let v2095 : BitVec 32 := Scalar.addi v2088 v2094
  let v2102 : BitVec 32 := Scalar.addi v2095 v2101
  let v2109 : BitVec 32 := Scalar.addi v2102 v2108
  let v2116 : BitVec 32 := Scalar.addi v2109 v2115
  let v2123 : BitVec 32 := Scalar.addi v2116 v2122
  let v2130 : BitVec 32 := Scalar.addi v2123 v2129
  let c0_i32_919 : BitVec 32 := 0#32
  let v2263 : BitVec 32 := Scalar.shrsi v2130 c0_i32_919
  let c1_i32_920 : BitVec 32 := 1#32
  let v2264 : BitVec 32 := Scalar.andi v2263 c1_i32_920
  let v2270 : BitVec 32 := Scalar.addi v2262 v2264
  let c1_i32_924 : BitVec 32 := 1#32
  let v2271 : BitVec 32 := Scalar.shrsi v2130 c1_i32_924
  let c1_i32_925 : BitVec 32 := 1#32
  let v2272 : BitVec 32 := Scalar.andi v2271 c1_i32_925
  let v2278 : BitVec 32 := Scalar.addi v2270 v2272
  let c2_i32_929 : BitVec 32 := 2#32
  let v2279 : BitVec 32 := Scalar.shrsi v2130 c2_i32_929
  let c1_i32_930 : BitVec 32 := 1#32
  let v2280 : BitVec 32 := Scalar.andi v2279 c1_i32_930
  let v2286 : BitVec 32 := Scalar.addi v2278 v2280
  let c3_i32_934 : BitVec 32 := 3#32
  let v2287 : BitVec 32 := Scalar.shrsi v2130 c3_i32_934
  let c1_i32_935 : BitVec 32 := 1#32
  let v2288 : BitVec 32 := Scalar.andi v2287 c1_i32_935
  let v2294 : BitVec 32 := Scalar.addi v2286 v2288
  let c4_i32_939 : BitVec 32 := 4#32
  let v2295 : BitVec 32 := Scalar.shrsi v2130 c4_i32_939
  let c1_i32_940 : BitVec 32 := 1#32
  let v2296 : BitVec 32 := Scalar.andi v2295 c1_i32_940
  let v2302 : BitVec 32 := Scalar.addi v2294 v2296
  let c5_i32_944 : BitVec 32 := 5#32
  let v2303 : BitVec 32 := Scalar.shrsi v2130 c5_i32_944
  let c1_i32_945 : BitVec 32 := 1#32
  let v2304 : BitVec 32 := Scalar.andi v2303 c1_i32_945
  let v2310 : BitVec 32 := Scalar.addi v2302 v2304
  let c6_i32_949 : BitVec 32 := 6#32
  let v2311 : BitVec 32 := Scalar.shrsi v2130 c6_i32_949
  let c1_i32_950 : BitVec 32 := 1#32
  let v2312 : BitVec 32 := Scalar.andi v2311 c1_i32_950
  let v2318 : BitVec 32 := Scalar.addi v2310 v2312
  let c7_i32_954 : BitVec 32 := 7#32
  let v2319 : BitVec 32 := Scalar.shrsi v2130 c7_i32_954
  let c1_i32_955 : BitVec 32 := 1#32
  let v2320 : BitVec 32 := Scalar.andi v2319 c1_i32_955
  let v2326 : BitVec 32 := Scalar.addi v2318 v2320
  let c8_i32_959 : BitVec 32 := 8#32
  let v2327 : BitVec 32 := Scalar.shrsi v2130 c8_i32_959
  let c1_i32_960 : BitVec 32 := 1#32
  let v2328 : BitVec 32 := Scalar.andi v2327 c1_i32_960
  let v2334 : BitVec 32 := Scalar.addi v2326 v2328
  let c9_i32_964 : BitVec 32 := 9#32
  let v2335 : BitVec 32 := Scalar.shrsi v2130 c9_i32_964
  let c1_i32_965 : BitVec 32 := 1#32
  let v2336 : BitVec 32 := Scalar.andi v2335 c1_i32_965
  let v2342 : BitVec 32 := Scalar.addi v2334 v2336
  let c10_i32_969 : BitVec 32 := 10#32
  let v2343 : BitVec 32 := Scalar.shrsi v2130 c10_i32_969
  let c1_i32_970 : BitVec 32 := 1#32
  let v2344 : BitVec 32 := Scalar.andi v2343 c1_i32_970
  let v2350 : BitVec 32 := Scalar.addi v2342 v2344
  let c11_i32_974 : BitVec 32 := 11#32
  let v2351 : BitVec 32 := Scalar.shrsi v2130 c11_i32_974
  let c1_i32_975 : BitVec 32 := 1#32
  let v2352 : BitVec 32 := Scalar.andi v2351 c1_i32_975
  let v2358 : BitVec 32 := Scalar.addi v2350 v2352
  let c12_i32_979 : BitVec 32 := 12#32
  let v2359 : BitVec 32 := Scalar.shrsi v2130 c12_i32_979
  let c1_i32_980 : BitVec 32 := 1#32
  let v2360 : BitVec 32 := Scalar.andi v2359 c1_i32_980
  let v2366 : BitVec 32 := Scalar.addi v2358 v2360
  let v2404 : Index := Scalar.indexCast v2366
  let c0_1003 : Index := 0#32
  ![1, v2404.toNat, 0]

def k0_chk2_0 (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Prop :=
  (∀ (k0_h1 : k0_cond1 i = 1#1), ∀ (k0_h16 : k0_cond16 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off40 v1940 v1947 v1954 v1961 v1968 v1975 v1982 v1989 v1996 v2003 v2010 v2017 v2024 v2031) a + S1.size a ≤ S8.size a) ∧
  (∀ (k0_h1 : k0_cond1 i = 1#1), ∀ (k0_h16 : k0_cond16 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off41 v1940 v1947 v1954 v1961 v1968 v1975 v1982 v1989 v1996 v2003 v2010 v2017 v2024 v2031) a + S1x1x128.size a ≤ S2x8x128.size a) ∧
  (∀ (k0_h1 : k0_cond1 i = 1#1), ∀ (k0_h16 : k0_cond16 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off42 v1940 v1947 v1954 v1961 v1968 v1975 v1982 v1989 v1996 v2003 v2010 v2017 v2024 v2031) a + S1x1x128.size a ≤ S2x8x128.size a) ∧
  (∀ (k0_h1 : k0_cond1 i = 1#1), ∀ (k0_h17 : k0_cond17 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off43 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h17 : k0_cond17 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off44 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h17 : k0_cond17 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off45 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h18 : k0_cond18 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off46 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h18 : k0_cond18 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off47 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h18 : k0_cond18 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off48 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h19 : k0_cond19 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off49 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h19 : k0_cond19 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off50 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h19 : k0_cond19 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off51 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h20 : k0_cond20 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off52 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h20 : k0_cond20 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off53 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h20 : k0_cond20 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off54 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h21 : k0_cond21 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off55 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h21 : k0_cond21 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off56 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h21 : k0_cond21 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off57 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h22 : k0_cond22 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off58 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h22 : k0_cond22 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off59 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h22 : k0_cond22 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off60 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h23 : k0_cond23 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off61 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h23 : k0_cond23 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off62 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h23 : k0_cond23 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off63 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h24 : k0_cond24 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off64 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h24 : k0_cond24 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off65 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h24 : k0_cond24 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off66 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h25 : k0_cond25 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off67 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h25 : k0_cond25 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off68 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h25 : k0_cond25 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off69 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h26 : k0_cond26 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off70 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h26 : k0_cond26 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off71 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a)
def k0_chk2_1 (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Prop :=
  (∀ (k0_h1 : k0_cond1 i = 1#1), ∀ (k0_h26 : k0_cond26 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off72 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h27 : k0_cond27 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off73 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h27 : k0_cond27 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off74 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h27 : k0_cond27 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off75 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h28 : k0_cond28 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off76 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h28 : k0_cond28 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off77 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h28 : k0_cond28 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off78 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h29 : k0_cond29 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off79 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a) ∧
  (∀ (k0_h1 : k0_cond1 i = 1#1), ∀ (k0_h29 : k0_cond29 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off80 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a) ∧
  (∀ (k0_h1 : k0_cond1 i = 1#1), ∀ (k0_h29 : k0_cond29 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off81 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a)
def k0_chk2 (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) : Prop :=
  k0_chk2_0 i v1940 v1947 v1954 v1961 v1968 v1975 v1982 v1989 v1996 v2003 v2010 v2017 v2024 v2031 v2038 v2045 v2052 v2059 v2066 v2073 v2080 v2087 v2094 v2101 v2108 v2115 v2122 v2129 ∧
  k0_chk2_1 i v1940 v1947 v1954 v1961 v1968 v1975 v1982 v1989 v1996 v2003 v2010 v2017 v2024 v2031 v2038 v2045 v2052 v2059 v2066 v2073 v2080 v2087 v2094 v2101 v2108 v2115 v2122 v2129
theorem k0_off40_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h16 : k0_cond16 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off40 v1940 v1947 v1954 v1961 v1968 v1975 v1982 v1989 v1996 v2003 v2010 v2017 v2024 v2031) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h16 => k0_hw2.1.1 k0_h1 k0_h16
theorem k0_off41_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h16 : k0_cond16 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off41 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h16 => k0_hw2.1.2.1 k0_h1 k0_h16
theorem k0_off42_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h16 : k0_cond16 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off42 v1940 v1947 v1954 v1961 v1968 v1975 v1982 v1989 v1996 v2003 v2010 v2017 v2024 v2031) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h16 => k0_hw2.1.2.2.1 k0_h1 k0_h16
theorem k0_off43_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h17 : k0_cond17 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off43 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h17 => k0_hw2.1.2.2.2.1 k0_h1 k0_h17
theorem k0_off44_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h17 : k0_cond17 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off44 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h17 => k0_hw2.1.2.2.2.2.1 k0_h1 k0_h17
theorem k0_off45_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h17 : k0_cond17 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off45 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h17 => k0_hw2.1.2.2.2.2.2.1 k0_h1 k0_h17
theorem k0_off46_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h18 : k0_cond18 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off46 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h18 => k0_hw2.1.2.2.2.2.2.2.1 k0_h1 k0_h18
theorem k0_off47_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h18 : k0_cond18 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off47 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h18 => k0_hw2.1.2.2.2.2.2.2.2.1 k0_h1 k0_h18
theorem k0_off48_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h18 : k0_cond18 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off48 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h18 => k0_hw2.1.2.2.2.2.2.2.2.2.1 k0_h1 k0_h18
theorem k0_off49_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h19 : k0_cond19 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off49 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h19 => k0_hw2.1.2.2.2.2.2.2.2.2.2.1 k0_h1 k0_h19
theorem k0_off50_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h19 : k0_cond19 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off50 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h19 => k0_hw2.1.2.2.2.2.2.2.2.2.2.2.1 k0_h1 k0_h19
theorem k0_off51_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h19 : k0_cond19 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off51 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h19 => k0_hw2.1.2.2.2.2.2.2.2.2.2.2.2.1 k0_h1 k0_h19
theorem k0_off52_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h20 : k0_cond20 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off52 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h20 => k0_hw2.1.2.2.2.2.2.2.2.2.2.2.2.2.1 k0_h1 k0_h20
theorem k0_off53_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h20 : k0_cond20 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off53 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h20 => k0_hw2.1.2.2.2.2.2.2.2.2.2.2.2.2.2.1 k0_h1 k0_h20
theorem k0_off54_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h20 : k0_cond20 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off54 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h20 => k0_hw2.1.2.2.2.2.2.2.2.2.2.2.2.2.2.2.1 k0_h1 k0_h20
theorem k0_off55_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h21 : k0_cond21 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off55 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h21 => k0_hw2.1.2.2.2.2.2.2.2.2.2.2.2.2.2.2.2.1 k0_h1 k0_h21
theorem k0_off56_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h21 : k0_cond21 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off56 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h21 => k0_hw2.1.2.2.2.2.2.2.2.2.2.2.2.2.2.2.2.2.1 k0_h1 k0_h21
theorem k0_off57_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h21 : k0_cond21 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off57 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h21 => k0_hw2.1.2.2.2.2.2.2.2.2.2.2.2.2.2.2.2.2.2.1 k0_h1 k0_h21
theorem k0_off58_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h22 : k0_cond22 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off58 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h22 => k0_hw2.1.2.2.2.2.2.2.2.2.2.2.2.2.2.2.2.2.2.2.1 k0_h1 k0_h22
theorem k0_off59_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h22 : k0_cond22 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off59 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h22 => k0_hw2.1.2.2.2.2.2.2.2.2.2.2.2.2.2.2.2.2.2.2.2.1 k0_h1 k0_h22
theorem k0_off60_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h22 : k0_cond22 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off60 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h22 => k0_hw2.1.2.2.2.2.2.2.2.2.2.2.2.2.2.2.2.2.2.2.2.2.1 k0_h1 k0_h22
theorem k0_off61_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h23 : k0_cond23 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off61 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h23 => k0_hw2.1.2.2.2.2.2.2.2.2.2.2.2.2.2.2.2.2.2.2.2.2.2.1 k0_h1 k0_h23
theorem k0_off62_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h23 : k0_cond23 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off62 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h23 => k0_hw2.1.2.2.2.2.2.2.2.2.2.2.2.2.2.2.2.2.2.2.2.2.2.2.1 k0_h1 k0_h23
theorem k0_off63_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h23 : k0_cond23 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off63 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h23 => k0_hw2.1.2.2.2.2.2.2.2.2.2.2.2.2.2.2.2.2.2.2.2.2.2.2.2.1 k0_h1 k0_h23
theorem k0_off64_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h24 : k0_cond24 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off64 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h24 => k0_hw2.1.2.2.2.2.2.2.2.2.2.2.2.2.2.2.2.2.2.2.2.2.2.2.2.2.1 k0_h1 k0_h24
theorem k0_off65_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h24 : k0_cond24 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off65 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h24 => k0_hw2.1.2.2.2.2.2.2.2.2.2.2.2.2.2.2.2.2.2.2.2.2.2.2.2.2.2.1 k0_h1 k0_h24
theorem k0_off66_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h24 : k0_cond24 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off66 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h24 => k0_hw2.1.2.2.2.2.2.2.2.2.2.2.2.2.2.2.2.2.2.2.2.2.2.2.2.2.2.2.1 k0_h1 k0_h24
theorem k0_off67_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h25 : k0_cond25 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off67 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h25 => k0_hw2.1.2.2.2.2.2.2.2.2.2.2.2.2.2.2.2.2.2.2.2.2.2.2.2.2.2.2.2.1 k0_h1 k0_h25
theorem k0_off68_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h25 : k0_cond25 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off68 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h25 => k0_hw2.1.2.2.2.2.2.2.2.2.2.2.2.2.2.2.2.2.2.2.2.2.2.2.2.2.2.2.2.2.1 k0_h1 k0_h25
theorem k0_off69_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h25 : k0_cond25 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off69 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h25 => k0_hw2.1.2.2.2.2.2.2.2.2.2.2.2.2.2.2.2.2.2.2.2.2.2.2.2.2.2.2.2.2.2.1 k0_h1 k0_h25
theorem k0_off70_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h26 : k0_cond26 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off70 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h26 => k0_hw2.1.2.2.2.2.2.2.2.2.2.2.2.2.2.2.2.2.2.2.2.2.2.2.2.2.2.2.2.2.2.2.1 k0_h1 k0_h26
theorem k0_off71_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h26 : k0_cond26 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off71 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h26 => k0_hw2.1.2.2.2.2.2.2.2.2.2.2.2.2.2.2.2.2.2.2.2.2.2.2.2.2.2.2.2.2.2.2.2 k0_h1 k0_h26
theorem k0_off72_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h26 : k0_cond26 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off72 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h26 => k0_hw2.2.1 k0_h1 k0_h26
theorem k0_off73_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h27 : k0_cond27 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off73 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h27 => k0_hw2.2.2.1 k0_h1 k0_h27
theorem k0_off74_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h27 : k0_cond27 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off74 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h27 => k0_hw2.2.2.2.1 k0_h1 k0_h27
theorem k0_off75_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h27 : k0_cond27 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off75 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h27 => k0_hw2.2.2.2.2.1 k0_h1 k0_h27
theorem k0_off76_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h28 : k0_cond28 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off76 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h28 => k0_hw2.2.2.2.2.2.1 k0_h1 k0_h28
theorem k0_off77_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h28 : k0_cond28 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off77 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h28 => k0_hw2.2.2.2.2.2.2.1 k0_h1 k0_h28
theorem k0_off78_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h28 : k0_cond28 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off78 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h28 => k0_hw2.2.2.2.2.2.2.2.1 k0_h1 k0_h28
theorem k0_off79_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h29 : k0_cond29 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off79 v1940 v1947 v1954 v1961 v1968 v1975 v1982 v1989 v1996 v2003 v2010 v2017 v2024 v2031 v2038 v2045 v2052 v2059 v2066 v2073 v2080 v2087 v2094 v2101 v2108 v2115 v2122 v2129) a + S1.size a ≤ S8.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h29 => k0_hw2.2.2.2.2.2.2.2.2.1 k0_h1 k0_h29
theorem k0_off80_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h29 : k0_cond29 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off80 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h29 => k0_hw2.2.2.2.2.2.2.2.2.2.1 k0_h1 k0_h29
theorem k0_off81_inb : ∀ (i : grid0.Coords) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129), ∀ (k0_h1 : k0_cond1 i = 1#1), ∀ (k0_h29 : k0_cond29 v1940 v1947 v1954 v1961 v1968 v1975 v1982 v1989 v1996 v2003 v2010 v2017 v2024 v2031 v2038 v2045 v2052 v2059 v2066 v2073 v2080 v2087 v2094 v2101 v2108 v2115 v2122 v2129 = 1#1), ∀ a, (k0_off81 v1940 v1947 v1954 v1961 v1968 v1975 v1982 v1989 v1996 v2003 v2010 v2017 v2024 v2031 v2038 v2045 v2052 v2059 v2066 v2073 v2080 v2087 v2094 v2101 v2108 v2115 v2122 v2129) a + S1x1x128.size a ≤ S2x8x128.size a := fun i v1940 v1947 v1954 v1961 v1968 v1975 v1982 v1989 v1996 v2003 v2010 v2017 v2024 v2031 v2038 v2045 v2052 v2059 v2066 v2073 v2080 v2087 v2094 v2101 v2108 v2115 v2122 v2129 k0_hw2 k0_h1 k0_h29 => k0_hw2.2.2.2.2.2.2.2.2.2.2 k0_h1 k0_h29

def k0_mult1 (v12 : BitVec 32) : BitVec 32 :=
  let c128_i32 : BitVec 32 := 128#32
  let v13 : BitVec 32 := Scalar.muli v12 c128_i32
  v13
def k0_cond30 (v3 : BitVec 32) : BitVec 1 :=
  let c1_i32 : BitVec 32 := 1#32
  let v4 : BitVec 1 := Scalar.cmpi .eq v3 c1_i32
  let v5 : BitVec 32 := Scalar.extui v4
  let c0_i32_1 : BitVec 32 := 0#32
  let v6 : BitVec 1 := Scalar.cmpi .ne v5 c0_i32_1
  v6

def k0_off82 (v12 : BitVec 32) : Fin 2 → Nat :=
  let c0_7 : Index := 0#32
  let c128_i32 : BitVec 32 := 128#32
  let v13 : BitVec 32 := Scalar.muli v12 c128_i32
  let v14 : BitVec 32 := v13
  let v15 : Index := Scalar.indexCast v14
  ![0, v15.toNat]

def k0_chk3 (v3 : BitVec 32) (v12 : BitVec 32) : Prop :=
  (∀ (k0_h30 : k0_cond30 v3 = 1#1), 128 ∣ (k0_mult1 v12).toNat) ∧
  (∀ (k0_h30 : k0_cond30 v3 = 1#1), ∀ a, (k0_off82 v12) a + S512x128.size a ≤ S512x3584.size a)
theorem k0_mult1_dvd : ∀ (v3 : BitVec 32) (v12 : BitVec 32) (k0_hw3 : k0_chk3 v3 v12), ∀ (k0_h30 : k0_cond30 v3 = 1#1), 128 ∣ (k0_mult1 v12).toNat := fun v3 v12 k0_hw3 k0_h30 => k0_hw3.1 k0_h30
theorem k0_off82_inb : ∀ (v3 : BitVec 32) (v12 : BitVec 32) (k0_hw3 : k0_chk3 v3 v12), ∀ (k0_h30 : k0_cond30 v3 = 1#1), ∀ a, (k0_off82 v12) a + S512x128.size a ≤ S512x3584.size a := fun v3 v12 k0_hw3 k0_h30 => k0_hw3.2 k0_h30

def k0_mult2 (v23 : BitVec 32) : BitVec 32 :=
  let c128_i32_11 : BitVec 32 := 128#32
  let v24 : BitVec 32 := Scalar.muli v23 c128_i32_11
  v24

def k0_off83 (v23 : BitVec 32) : Fin 2 → Nat :=
  let c0_12 : Index := 0#32
  let c128_i32_11 : BitVec 32 := 128#32
  let v24 : BitVec 32 := Scalar.muli v23 c128_i32_11
  let v25 : BitVec 32 := v24
  let v26 : Index := Scalar.indexCast v25
  ![0, v26.toNat]

def k0_chk4 (v3 : BitVec 32) (v23 : BitVec 32) : Prop :=
  (∀ (k0_h30 : k0_cond30 v3 = 1#1), 128 ∣ (k0_mult2 v23).toNat) ∧
  (∀ (k0_h30 : k0_cond30 v3 = 1#1), ∀ a, (k0_off83 v23) a + S512x128.size a ≤ S512x3584.size a)
theorem k0_mult2_dvd : ∀ (v3 : BitVec 32) (v23 : BitVec 32) (k0_hw4 : k0_chk4 v3 v23), ∀ (k0_h30 : k0_cond30 v3 = 1#1), 128 ∣ (k0_mult2 v23).toNat := fun v3 v23 k0_hw4 k0_h30 => k0_hw4.1 k0_h30
theorem k0_off83_inb : ∀ (v3 : BitVec 32) (v23 : BitVec 32) (k0_hw4 : k0_chk4 v3 v23), ∀ (k0_h30 : k0_cond30 v3 = 1#1), ∀ a, (k0_off83 v23) a + S512x128.size a ≤ S512x3584.size a := fun v3 v23 k0_hw4 k0_h30 => k0_hw4.2 k0_h30

def k0_mult3 (v34 : BitVec 32) : BitVec 32 :=
  let c128_i32_16 : BitVec 32 := 128#32
  let v35 : BitVec 32 := Scalar.muli v34 c128_i32_16
  v35

def k0_off84 (v34 : BitVec 32) : Fin 2 → Nat :=
  let c0_17 : Index := 0#32
  let c128_i32_16 : BitVec 32 := 128#32
  let v35 : BitVec 32 := Scalar.muli v34 c128_i32_16
  let v36 : BitVec 32 := v35
  let v37 : Index := Scalar.indexCast v36
  ![0, v37.toNat]

def k0_chk5 (v3 : BitVec 32) (v34 : BitVec 32) : Prop :=
  (∀ (k0_h30 : k0_cond30 v3 = 1#1), 128 ∣ (k0_mult3 v34).toNat) ∧
  (∀ (k0_h30 : k0_cond30 v3 = 1#1), ∀ a, (k0_off84 v34) a + S512x128.size a ≤ S512x3584.size a)
theorem k0_mult3_dvd : ∀ (v3 : BitVec 32) (v34 : BitVec 32) (k0_hw5 : k0_chk5 v3 v34), ∀ (k0_h30 : k0_cond30 v3 = 1#1), 128 ∣ (k0_mult3 v34).toNat := fun v3 v34 k0_hw5 k0_h30 => k0_hw5.1 k0_h30
theorem k0_off84_inb : ∀ (v3 : BitVec 32) (v34 : BitVec 32) (k0_hw5 : k0_chk5 v3 v34), ∀ (k0_h30 : k0_cond30 v3 = 1#1), ∀ a, (k0_off84 v34) a + S512x128.size a ≤ S512x3584.size a := fun v3 v34 k0_hw5 k0_h30 => k0_hw5.2 k0_h30

def k0_mult4 (v45 : BitVec 32) : BitVec 32 :=
  let c128_i32_21 : BitVec 32 := 128#32
  let v46 : BitVec 32 := Scalar.muli v45 c128_i32_21
  v46

def k0_off85 (v45 : BitVec 32) : Fin 2 → Nat :=
  let c0_22 : Index := 0#32
  let c128_i32_21 : BitVec 32 := 128#32
  let v46 : BitVec 32 := Scalar.muli v45 c128_i32_21
  let v47 : BitVec 32 := v46
  let v48 : Index := Scalar.indexCast v47
  ![0, v48.toNat]

def k0_chk6 (v3 : BitVec 32) (v45 : BitVec 32) : Prop :=
  (∀ (k0_h30 : k0_cond30 v3 = 1#1), 128 ∣ (k0_mult4 v45).toNat) ∧
  (∀ (k0_h30 : k0_cond30 v3 = 1#1), ∀ a, (k0_off85 v45) a + S512x128.size a ≤ S512x3584.size a)
theorem k0_mult4_dvd : ∀ (v3 : BitVec 32) (v45 : BitVec 32) (k0_hw6 : k0_chk6 v3 v45), ∀ (k0_h30 : k0_cond30 v3 = 1#1), 128 ∣ (k0_mult4 v45).toNat := fun v3 v45 k0_hw6 k0_h30 => k0_hw6.1 k0_h30
theorem k0_off85_inb : ∀ (v3 : BitVec 32) (v45 : BitVec 32) (k0_hw6 : k0_chk6 v3 v45), ∀ (k0_h30 : k0_cond30 v3 = 1#1), ∀ a, (k0_off85 v45) a + S512x128.size a ≤ S512x3584.size a := fun v3 v45 k0_hw6 k0_h30 => k0_hw6.2 k0_h30

def k0_mult5 (v56 : BitVec 32) : BitVec 32 :=
  let c128_i32_26 : BitVec 32 := 128#32
  let v57 : BitVec 32 := Scalar.muli v56 c128_i32_26
  v57

def k0_off86 (v56 : BitVec 32) : Fin 2 → Nat :=
  let c0_27 : Index := 0#32
  let c128_i32_26 : BitVec 32 := 128#32
  let v57 : BitVec 32 := Scalar.muli v56 c128_i32_26
  let v58 : BitVec 32 := v57
  let v59 : Index := Scalar.indexCast v58
  ![0, v59.toNat]

def k0_chk7 (v3 : BitVec 32) (v56 : BitVec 32) : Prop :=
  (∀ (k0_h30 : k0_cond30 v3 = 1#1), 128 ∣ (k0_mult5 v56).toNat) ∧
  (∀ (k0_h30 : k0_cond30 v3 = 1#1), ∀ a, (k0_off86 v56) a + S512x128.size a ≤ S512x3584.size a)
theorem k0_mult5_dvd : ∀ (v3 : BitVec 32) (v56 : BitVec 32) (k0_hw7 : k0_chk7 v3 v56), ∀ (k0_h30 : k0_cond30 v3 = 1#1), 128 ∣ (k0_mult5 v56).toNat := fun v3 v56 k0_hw7 k0_h30 => k0_hw7.1 k0_h30
theorem k0_off86_inb : ∀ (v3 : BitVec 32) (v56 : BitVec 32) (k0_hw7 : k0_chk7 v3 v56), ∀ (k0_h30 : k0_cond30 v3 = 1#1), ∀ a, (k0_off86 v56) a + S512x128.size a ≤ S512x3584.size a := fun v3 v56 k0_hw7 k0_h30 => k0_hw7.2 k0_h30

def k0_mult6 (v67 : BitVec 32) : BitVec 32 :=
  let c128_i32_31 : BitVec 32 := 128#32
  let v68 : BitVec 32 := Scalar.muli v67 c128_i32_31
  v68

def k0_off87 (v67 : BitVec 32) : Fin 2 → Nat :=
  let c0_32 : Index := 0#32
  let c128_i32_31 : BitVec 32 := 128#32
  let v68 : BitVec 32 := Scalar.muli v67 c128_i32_31
  let v69 : BitVec 32 := v68
  let v70 : Index := Scalar.indexCast v69
  ![0, v70.toNat]

def k0_chk8 (v3 : BitVec 32) (v67 : BitVec 32) : Prop :=
  (∀ (k0_h30 : k0_cond30 v3 = 1#1), 128 ∣ (k0_mult6 v67).toNat) ∧
  (∀ (k0_h30 : k0_cond30 v3 = 1#1), ∀ a, (k0_off87 v67) a + S512x128.size a ≤ S512x3584.size a)
theorem k0_mult6_dvd : ∀ (v3 : BitVec 32) (v67 : BitVec 32) (k0_hw8 : k0_chk8 v3 v67), ∀ (k0_h30 : k0_cond30 v3 = 1#1), 128 ∣ (k0_mult6 v67).toNat := fun v3 v67 k0_hw8 k0_h30 => k0_hw8.1 k0_h30
theorem k0_off87_inb : ∀ (v3 : BitVec 32) (v67 : BitVec 32) (k0_hw8 : k0_chk8 v3 v67), ∀ (k0_h30 : k0_cond30 v3 = 1#1), ∀ a, (k0_off87 v67) a + S512x128.size a ≤ S512x3584.size a := fun v3 v67 k0_hw8 k0_h30 => k0_hw8.2 k0_h30

def k0_mult7 (v78 : BitVec 32) : BitVec 32 :=
  let c128_i32_36 : BitVec 32 := 128#32
  let v79 : BitVec 32 := Scalar.muli v78 c128_i32_36
  v79

def k0_off88 (v78 : BitVec 32) : Fin 2 → Nat :=
  let c0_37 : Index := 0#32
  let c128_i32_36 : BitVec 32 := 128#32
  let v79 : BitVec 32 := Scalar.muli v78 c128_i32_36
  let v80 : BitVec 32 := v79
  let v81 : Index := Scalar.indexCast v80
  ![0, v81.toNat]

def k0_chk9 (v3 : BitVec 32) (v78 : BitVec 32) : Prop :=
  (∀ (k0_h30 : k0_cond30 v3 = 1#1), 128 ∣ (k0_mult7 v78).toNat) ∧
  (∀ (k0_h30 : k0_cond30 v3 = 1#1), ∀ a, (k0_off88 v78) a + S512x128.size a ≤ S512x3584.size a)
theorem k0_mult7_dvd : ∀ (v3 : BitVec 32) (v78 : BitVec 32) (k0_hw9 : k0_chk9 v3 v78), ∀ (k0_h30 : k0_cond30 v3 = 1#1), 128 ∣ (k0_mult7 v78).toNat := fun v3 v78 k0_hw9 k0_h30 => k0_hw9.1 k0_h30
theorem k0_off88_inb : ∀ (v3 : BitVec 32) (v78 : BitVec 32) (k0_hw9 : k0_chk9 v3 v78), ∀ (k0_h30 : k0_cond30 v3 = 1#1), ∀ a, (k0_off88 v78) a + S512x128.size a ≤ S512x3584.size a := fun v3 v78 k0_hw9 k0_h30 => k0_hw9.2 k0_h30

def k0_mult8 (v89 : BitVec 32) : BitVec 32 :=
  let c128_i32_41 : BitVec 32 := 128#32
  let v90 : BitVec 32 := Scalar.muli v89 c128_i32_41
  v90

def k0_off89 (v89 : BitVec 32) : Fin 2 → Nat :=
  let c0_42 : Index := 0#32
  let c128_i32_41 : BitVec 32 := 128#32
  let v90 : BitVec 32 := Scalar.muli v89 c128_i32_41
  let v91 : BitVec 32 := v90
  let v92 : Index := Scalar.indexCast v91
  ![0, v92.toNat]

def k0_chk10 (v3 : BitVec 32) (v89 : BitVec 32) : Prop :=
  (∀ (k0_h30 : k0_cond30 v3 = 1#1), 128 ∣ (k0_mult8 v89).toNat) ∧
  (∀ (k0_h30 : k0_cond30 v3 = 1#1), ∀ a, (k0_off89 v89) a + S512x128.size a ≤ S512x3584.size a)
theorem k0_mult8_dvd : ∀ (v3 : BitVec 32) (v89 : BitVec 32) (k0_hw10 : k0_chk10 v3 v89), ∀ (k0_h30 : k0_cond30 v3 = 1#1), 128 ∣ (k0_mult8 v89).toNat := fun v3 v89 k0_hw10 k0_h30 => k0_hw10.1 k0_h30
theorem k0_off89_inb : ∀ (v3 : BitVec 32) (v89 : BitVec 32) (k0_hw10 : k0_chk10 v3 v89), ∀ (k0_h30 : k0_cond30 v3 = 1#1), ∀ a, (k0_off89 v89) a + S512x128.size a ≤ S512x3584.size a := fun v3 v89 k0_hw10 k0_h30 => k0_hw10.2 k0_h30

def k0_mult9 (v102 : BitVec 32) : BitVec 32 :=
  let c128_i32_48 : BitVec 32 := 128#32
  let v103 : BitVec 32 := Scalar.muli v102 c128_i32_48
  v103

def k0_off90 (v102 : BitVec 32) : Fin 2 → Nat :=
  let c0_49 : Index := 0#32
  let c128_i32_48 : BitVec 32 := 128#32
  let v103 : BitVec 32 := Scalar.muli v102 c128_i32_48
  let v104 : BitVec 32 := v103
  let v105 : Index := Scalar.indexCast v104
  ![0, v105.toNat]

def k0_chk11 (v3 : BitVec 32) (v102 : BitVec 32) : Prop :=
  (∀ (k0_h30 : k0_cond30 v3 = 1#1), 128 ∣ (k0_mult9 v102).toNat) ∧
  (∀ (k0_h30 : k0_cond30 v3 = 1#1), ∀ a, (k0_off90 v102) a + S512x128.size a ≤ S512x3584.size a)
theorem k0_mult9_dvd : ∀ (v3 : BitVec 32) (v102 : BitVec 32) (k0_hw11 : k0_chk11 v3 v102), ∀ (k0_h30 : k0_cond30 v3 = 1#1), 128 ∣ (k0_mult9 v102).toNat := fun v3 v102 k0_hw11 k0_h30 => k0_hw11.1 k0_h30
theorem k0_off90_inb : ∀ (v3 : BitVec 32) (v102 : BitVec 32) (k0_hw11 : k0_chk11 v3 v102), ∀ (k0_h30 : k0_cond30 v3 = 1#1), ∀ a, (k0_off90 v102) a + S512x128.size a ≤ S512x3584.size a := fun v3 v102 k0_hw11 k0_h30 => k0_hw11.2 k0_h30

def k0_mult10 (v113 : BitVec 32) : BitVec 32 :=
  let c128_i32_54 : BitVec 32 := 128#32
  let v114 : BitVec 32 := Scalar.muli v113 c128_i32_54
  v114

def k0_off91 (v113 : BitVec 32) : Fin 2 → Nat :=
  let c0_55 : Index := 0#32
  let c128_i32_54 : BitVec 32 := 128#32
  let v114 : BitVec 32 := Scalar.muli v113 c128_i32_54
  let v115 : BitVec 32 := v114
  let v116 : Index := Scalar.indexCast v115
  ![0, v116.toNat]

def k0_chk12 (v3 : BitVec 32) (v113 : BitVec 32) : Prop :=
  (∀ (k0_h30 : k0_cond30 v3 = 1#1), 128 ∣ (k0_mult10 v113).toNat) ∧
  (∀ (k0_h30 : k0_cond30 v3 = 1#1), ∀ a, (k0_off91 v113) a + S512x128.size a ≤ S512x3584.size a)
theorem k0_mult10_dvd : ∀ (v3 : BitVec 32) (v113 : BitVec 32) (k0_hw12 : k0_chk12 v3 v113), ∀ (k0_h30 : k0_cond30 v3 = 1#1), 128 ∣ (k0_mult10 v113).toNat := fun v3 v113 k0_hw12 k0_h30 => k0_hw12.1 k0_h30
theorem k0_off91_inb : ∀ (v3 : BitVec 32) (v113 : BitVec 32) (k0_hw12 : k0_chk12 v3 v113), ∀ (k0_h30 : k0_cond30 v3 = 1#1), ∀ a, (k0_off91 v113) a + S512x128.size a ≤ S512x3584.size a := fun v3 v113 k0_hw12 k0_h30 => k0_hw12.2 k0_h30

def k0_mult11 (v124 : BitVec 32) : BitVec 32 :=
  let c128_i32_60 : BitVec 32 := 128#32
  let v125 : BitVec 32 := Scalar.muli v124 c128_i32_60
  v125

def k0_off92 (v124 : BitVec 32) : Fin 2 → Nat :=
  let c0_61 : Index := 0#32
  let c128_i32_60 : BitVec 32 := 128#32
  let v125 : BitVec 32 := Scalar.muli v124 c128_i32_60
  let v126 : BitVec 32 := v125
  let v127 : Index := Scalar.indexCast v126
  ![0, v127.toNat]

def k0_chk13 (v3 : BitVec 32) (v124 : BitVec 32) : Prop :=
  (∀ (k0_h30 : k0_cond30 v3 = 1#1), 128 ∣ (k0_mult11 v124).toNat) ∧
  (∀ (k0_h30 : k0_cond30 v3 = 1#1), ∀ a, (k0_off92 v124) a + S512x128.size a ≤ S512x3584.size a)
theorem k0_mult11_dvd : ∀ (v3 : BitVec 32) (v124 : BitVec 32) (k0_hw13 : k0_chk13 v3 v124), ∀ (k0_h30 : k0_cond30 v3 = 1#1), 128 ∣ (k0_mult11 v124).toNat := fun v3 v124 k0_hw13 k0_h30 => k0_hw13.1 k0_h30
theorem k0_off92_inb : ∀ (v3 : BitVec 32) (v124 : BitVec 32) (k0_hw13 : k0_chk13 v3 v124), ∀ (k0_h30 : k0_cond30 v3 = 1#1), ∀ a, (k0_off92 v124) a + S512x128.size a ≤ S512x3584.size a := fun v3 v124 k0_hw13 k0_h30 => k0_hw13.2 k0_h30

def k0_mult12 (v135 : BitVec 32) : BitVec 32 :=
  let c128_i32_66 : BitVec 32 := 128#32
  let v136 : BitVec 32 := Scalar.muli v135 c128_i32_66
  v136

def k0_off93 (v135 : BitVec 32) : Fin 2 → Nat :=
  let c0_67 : Index := 0#32
  let c128_i32_66 : BitVec 32 := 128#32
  let v136 : BitVec 32 := Scalar.muli v135 c128_i32_66
  let v137 : BitVec 32 := v136
  let v138 : Index := Scalar.indexCast v137
  ![0, v138.toNat]

def k0_chk14 (v3 : BitVec 32) (v135 : BitVec 32) : Prop :=
  (∀ (k0_h30 : k0_cond30 v3 = 1#1), 128 ∣ (k0_mult12 v135).toNat) ∧
  (∀ (k0_h30 : k0_cond30 v3 = 1#1), ∀ a, (k0_off93 v135) a + S512x128.size a ≤ S512x3584.size a)
theorem k0_mult12_dvd : ∀ (v3 : BitVec 32) (v135 : BitVec 32) (k0_hw14 : k0_chk14 v3 v135), ∀ (k0_h30 : k0_cond30 v3 = 1#1), 128 ∣ (k0_mult12 v135).toNat := fun v3 v135 k0_hw14 k0_h30 => k0_hw14.1 k0_h30
theorem k0_off93_inb : ∀ (v3 : BitVec 32) (v135 : BitVec 32) (k0_hw14 : k0_chk14 v3 v135), ∀ (k0_h30 : k0_cond30 v3 = 1#1), ∀ a, (k0_off93 v135) a + S512x128.size a ≤ S512x3584.size a := fun v3 v135 k0_hw14 k0_h30 => k0_hw14.2 k0_h30

def k0_mult13 (v146 : BitVec 32) : BitVec 32 :=
  let c128_i32_72 : BitVec 32 := 128#32
  let v147 : BitVec 32 := Scalar.muli v146 c128_i32_72
  v147

def k0_off94 (v146 : BitVec 32) : Fin 2 → Nat :=
  let c0_73 : Index := 0#32
  let c128_i32_72 : BitVec 32 := 128#32
  let v147 : BitVec 32 := Scalar.muli v146 c128_i32_72
  let v148 : BitVec 32 := v147
  let v149 : Index := Scalar.indexCast v148
  ![0, v149.toNat]

def k0_chk15 (v3 : BitVec 32) (v146 : BitVec 32) : Prop :=
  (∀ (k0_h30 : k0_cond30 v3 = 1#1), 128 ∣ (k0_mult13 v146).toNat) ∧
  (∀ (k0_h30 : k0_cond30 v3 = 1#1), ∀ a, (k0_off94 v146) a + S512x128.size a ≤ S512x3584.size a)
theorem k0_mult13_dvd : ∀ (v3 : BitVec 32) (v146 : BitVec 32) (k0_hw15 : k0_chk15 v3 v146), ∀ (k0_h30 : k0_cond30 v3 = 1#1), 128 ∣ (k0_mult13 v146).toNat := fun v3 v146 k0_hw15 k0_h30 => k0_hw15.1 k0_h30
theorem k0_off94_inb : ∀ (v3 : BitVec 32) (v146 : BitVec 32) (k0_hw15 : k0_chk15 v3 v146), ∀ (k0_h30 : k0_cond30 v3 = 1#1), ∀ a, (k0_off94 v146) a + S512x128.size a ≤ S512x3584.size a := fun v3 v146 k0_hw15 k0_h30 => k0_hw15.2 k0_h30

def k0_mult14 (v157 : BitVec 32) : BitVec 32 :=
  let c128_i32_78 : BitVec 32 := 128#32
  let v158 : BitVec 32 := Scalar.muli v157 c128_i32_78
  v158

def k0_off95 (v157 : BitVec 32) : Fin 2 → Nat :=
  let c0_79 : Index := 0#32
  let c128_i32_78 : BitVec 32 := 128#32
  let v158 : BitVec 32 := Scalar.muli v157 c128_i32_78
  let v159 : BitVec 32 := v158
  let v160 : Index := Scalar.indexCast v159
  ![0, v160.toNat]

def k0_chk16 (v3 : BitVec 32) (v157 : BitVec 32) : Prop :=
  (∀ (k0_h30 : k0_cond30 v3 = 1#1), 128 ∣ (k0_mult14 v157).toNat) ∧
  (∀ (k0_h30 : k0_cond30 v3 = 1#1), ∀ a, (k0_off95 v157) a + S512x128.size a ≤ S512x3584.size a)
theorem k0_mult14_dvd : ∀ (v3 : BitVec 32) (v157 : BitVec 32) (k0_hw16 : k0_chk16 v3 v157), ∀ (k0_h30 : k0_cond30 v3 = 1#1), 128 ∣ (k0_mult14 v157).toNat := fun v3 v157 k0_hw16 k0_h30 => k0_hw16.1 k0_h30
theorem k0_off95_inb : ∀ (v3 : BitVec 32) (v157 : BitVec 32) (k0_hw16 : k0_chk16 v3 v157), ∀ (k0_h30 : k0_cond30 v3 = 1#1), ∀ a, (k0_off95 v157) a + S512x128.size a ≤ S512x3584.size a := fun v3 v157 k0_hw16 k0_h30 => k0_hw16.2 k0_h30

def k0_mult15 (v168 : BitVec 32) : BitVec 32 :=
  let c128_i32_84 : BitVec 32 := 128#32
  let v169 : BitVec 32 := Scalar.muli v168 c128_i32_84
  v169

def k0_off96 (v168 : BitVec 32) : Fin 2 → Nat :=
  let c0_85 : Index := 0#32
  let c128_i32_84 : BitVec 32 := 128#32
  let v169 : BitVec 32 := Scalar.muli v168 c128_i32_84
  let v170 : BitVec 32 := v169
  let v171 : Index := Scalar.indexCast v170
  ![0, v171.toNat]

def k0_chk17 (v3 : BitVec 32) (v168 : BitVec 32) : Prop :=
  (∀ (k0_h30 : k0_cond30 v3 = 1#1), 128 ∣ (k0_mult15 v168).toNat) ∧
  (∀ (k0_h30 : k0_cond30 v3 = 1#1), ∀ a, (k0_off96 v168) a + S512x128.size a ≤ S512x3584.size a)
theorem k0_mult15_dvd : ∀ (v3 : BitVec 32) (v168 : BitVec 32) (k0_hw17 : k0_chk17 v3 v168), ∀ (k0_h30 : k0_cond30 v3 = 1#1), 128 ∣ (k0_mult15 v168).toNat := fun v3 v168 k0_hw17 k0_h30 => k0_hw17.1 k0_h30
theorem k0_off96_inb : ∀ (v3 : BitVec 32) (v168 : BitVec 32) (k0_hw17 : k0_chk17 v3 v168), ∀ (k0_h30 : k0_cond30 v3 = 1#1), ∀ a, (k0_off96 v168) a + S512x128.size a ≤ S512x3584.size a := fun v3 v168 k0_hw17 k0_h30 => k0_hw17.2 k0_h30

def k0_mult16 (v179 : BitVec 32) : BitVec 32 :=
  let c128_i32_90 : BitVec 32 := 128#32
  let v180 : BitVec 32 := Scalar.muli v179 c128_i32_90
  v180

def k0_off97 (v179 : BitVec 32) : Fin 2 → Nat :=
  let c0_91 : Index := 0#32
  let c128_i32_90 : BitVec 32 := 128#32
  let v180 : BitVec 32 := Scalar.muli v179 c128_i32_90
  let v181 : BitVec 32 := v180
  let v182 : Index := Scalar.indexCast v181
  ![0, v182.toNat]

def k0_chk18 (v3 : BitVec 32) (v179 : BitVec 32) : Prop :=
  (∀ (k0_h30 : k0_cond30 v3 = 1#1), 128 ∣ (k0_mult16 v179).toNat) ∧
  (∀ (k0_h30 : k0_cond30 v3 = 1#1), ∀ a, (k0_off97 v179) a + S512x128.size a ≤ S512x3584.size a)
theorem k0_mult16_dvd : ∀ (v3 : BitVec 32) (v179 : BitVec 32) (k0_hw18 : k0_chk18 v3 v179), ∀ (k0_h30 : k0_cond30 v3 = 1#1), 128 ∣ (k0_mult16 v179).toNat := fun v3 v179 k0_hw18 k0_h30 => k0_hw18.1 k0_h30
theorem k0_off97_inb : ∀ (v3 : BitVec 32) (v179 : BitVec 32) (k0_hw18 : k0_chk18 v3 v179), ∀ (k0_h30 : k0_cond30 v3 = 1#1), ∀ a, (k0_off97 v179) a + S512x128.size a ≤ S512x3584.size a := fun v3 v179 k0_hw18 k0_h30 => k0_hw18.2 k0_h30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3584 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3584 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S2x128x3584 : Shape := ⟨3, ![2, 128, 3584]⟩
abbrev S18944x3584 : Shape := ⟨2, ![18944, 3584]⟩
abbrev S18944 : Shape := ⟨1, ![18944]⟩
abbrev S_ : Shape := ⟨0, ![]⟩
abbrev S3584 : Shape := ⟨1, ![3584]⟩
abbrev S2x128 : Shape := ⟨2, ![2, 128]⟩
abbrev S2x128x1 : Shape := ⟨3, ![2, 128, 1]⟩
abbrev S2x128x18944 : Shape := ⟨3, ![2, 128, 18944]⟩
abbrev S1x1x18944 : Shape := ⟨3, ![1, 1, 18944]⟩

abbrev nBuf : Space → Nat
  | .hbm => 99
  | .vmem => 0
  | .smem => 0
  | _ => 0

abbrev bufTy : (tb : Table) → Fin (tcTables nBuf tb) → BufTy
  | .hbm, ⟨0, _⟩ => ⟨S2x128x3584, .bf16⟩
  | .hbm, ⟨1, _⟩ => ⟨S18944x3584, .i8⟩
  | .hbm, ⟨2, _⟩ => ⟨S18944, .f32⟩
  | .hbm, ⟨3, _⟩ => ⟨S2x128x3584, .f32⟩
  | .hbm, ⟨4, _⟩ => ⟨S2x128x3584, .f32⟩
  | .hbm, ⟨5, _⟩ => ⟨S_, .f32⟩
  | .hbm, ⟨6, _⟩ => ⟨S3584, .f32⟩
  | .hbm, ⟨7, _⟩ => ⟨S_, .f32⟩
  | .hbm, ⟨8, _⟩ => ⟨S3584, .f32⟩
  | .hbm, ⟨9, _⟩ => ⟨S3584, .i1⟩
  | .hbm, ⟨10, _⟩ => ⟨S3584, .i32⟩
  | .hbm, ⟨11, _⟩ => ⟨S18944x3584, .i32⟩
  | .hbm, ⟨12, _⟩ => ⟨S18944x3584, .bf16⟩
  | .hbm, ⟨13, _⟩ => ⟨S_, .f32⟩
  | .hbm, ⟨14, _⟩ => ⟨S_, .f32⟩
  | .hbm, ⟨15, _⟩ => ⟨S2x128x3584, .i1⟩
  | .hbm, ⟨16, _⟩ => ⟨S2x128x3584, .f32⟩
  | .hbm, ⟨17, _⟩ => ⟨S2x128x3584, .f32⟩
  | .hbm, ⟨18, _⟩ => ⟨S_, .f32⟩
  | .hbm, ⟨19, _⟩ => ⟨S2x128, .f32⟩
  | .hbm, ⟨20, _⟩ => ⟨S_, .f32⟩
  | .hbm, ⟨21, _⟩ => ⟨S2x128, .f32⟩
  | .hbm, ⟨22, _⟩ => ⟨S2x128, .f32⟩
  | .hbm, ⟨23, _⟩ => ⟨S_, .f32⟩
  | .hbm, ⟨24, _⟩ => ⟨S2x128, .f32⟩
  | .hbm, ⟨25, _⟩ => ⟨S_, .f32⟩
  | .hbm, ⟨26, _⟩ => ⟨S2x128, .f32⟩
  | .hbm, ⟨27, _⟩ => ⟨S2x128, .f32⟩
  | .hbm, ⟨28, _⟩ => ⟨S2x128, .i1⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S_, .f32⟩
  | .hbm, ⟨34, _⟩ => ⟨S_, .f32⟩
  | .hbm, ⟨35, _⟩ => ⟨S2x128, .f32⟩
  | .hbm, ⟨36, _⟩ => ⟨S2x128, .f32⟩
  | .hbm, ⟨37, _⟩ => ⟨S2x128, .f32⟩
  | .hbm, ⟨38, _⟩ => ⟨S2x128, .f32⟩
  | .hbm, ⟨39, _⟩ => ⟨S_, .f32⟩
  | .hbm, ⟨40, _⟩ => ⟨S2x128, .f32⟩
  | .hbm, ⟨41, _⟩ => ⟨S2x128, .f32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S2x128, .f32⟩
  | .hbm, ⟨46, _⟩ => ⟨S2x128, .f32⟩
  | .hbm, ⟨47, _⟩ => ⟨S_, .f32⟩
  | .hbm, ⟨48, _⟩ => ⟨S2x128, .f32⟩
  | .hbm, ⟨49, _⟩ => ⟨S2x128, .f32⟩
  | .hbm, ⟨50, _⟩ => ⟨S2x128, .i32⟩
  | .hbm, ⟨51, _⟩ => ⟨S2x128x1, .f32⟩
  | .hbm, ⟨52, _⟩ => ⟨S2x128x3584, .f32⟩
  | .hbm, ⟨53, _⟩ => ⟨S2x128x3584, .f32⟩
  | .hbm, ⟨54, _⟩ => ⟨S2x128x3584, .f32⟩
  | .hbm, ⟨55, _⟩ => ⟨S2x128, .f32⟩
  | .hbm, ⟨56, _⟩ => ⟨S2x128x1, .f32⟩
  | .hbm, ⟨57, _⟩ => ⟨S2x128x3584, .f32⟩
  | .hbm, ⟨58, _⟩ => ⟨S2x128x3584, .f32⟩
  | .hbm, ⟨59, _⟩ => ⟨S_, .i32⟩
  | .hbm, ⟨60, _⟩ => ⟨S_, .i32⟩
  | .hbm, ⟨61, _⟩ => ⟨S_, .f32⟩
  | .hbm, ⟨62, _⟩ => ⟨S2x128x3584, .f32⟩
  | .hbm, ⟨63, _⟩ => ⟨S2x128x3584, .f32⟩
  | .hbm, ⟨64, _⟩ => ⟨S_, .f32⟩
  | .hbm, ⟨65, _⟩ => ⟨S2x128x3584, .f32⟩
  | .hbm, ⟨66, _⟩ => ⟨S2x128x3584, .f32⟩
  | .hbm, ⟨67, _⟩ => ⟨S2x128x3584, .i32⟩
  | .hbm, ⟨68, _⟩ => ⟨S2x128x3584, .i8⟩
  | .hbm, ⟨69, _⟩ => ⟨S2x128x3584, .i8⟩
  | .hbm, ⟨70, _⟩ => ⟨S2x128, .f32⟩
  | .hbm, ⟨71, _⟩ => ⟨S2x128, .i32⟩
  | .hbm, ⟨72, _⟩ => ⟨S2x128x3584, .i32⟩
  | .hbm, ⟨73, _⟩ => ⟨S2x128x3584, .bf16⟩
  | .hbm, ⟨74, _⟩ => ⟨S2x128x18944, .f32⟩
  | .hbm, ⟨75, _⟩ => ⟨S18944x3584, .i32⟩
  | .hbm, ⟨76, _⟩ => ⟨S_, .i32⟩
  | .hbm, ⟨77, _⟩ => ⟨S18944, .i32⟩
  | .hbm, ⟨78, _⟩ => ⟨S18944, .f32⟩
  | .hbm, ⟨79, _⟩ => ⟨S2x128, .f32⟩
  | .hbm, ⟨80, _⟩ => ⟨S2x128x1, .f32⟩
  | .hbm, ⟨81, _⟩ => ⟨S1x1x18944, .f32⟩
  | .hbm, ⟨82, _⟩ => ⟨S2x128x18944, .f32⟩
  | .hbm, ⟨83, _⟩ => ⟨S2x128x18944, .f32⟩
  | .hbm, ⟨84, _⟩ => ⟨S2x128x18944, .f32⟩
  | .hbm, ⟨85, _⟩ => ⟨S2x128x18944, .f32⟩
  | .hbm, ⟨86, _⟩ => ⟨S_, .bf16⟩
  | .hbm, ⟨87, _⟩ => ⟨S2x128x3584, .i1⟩
  | .hbm, ⟨88, _⟩ => ⟨S2x128x3584, .bf16⟩
  | .hbm, ⟨89, _⟩ => ⟨S2x128x3584, .bf16⟩
  | .hbm, ⟨90, _⟩ => ⟨S2x128x18944, .f32⟩
  | .hbm, ⟨91, _⟩ => ⟨S2x128x1, .f32⟩
  | .hbm, ⟨92, _⟩ => ⟨S2x128x18944, .f32⟩
  | .hbm, ⟨93, _⟩ => ⟨S2x128x18944, .f32⟩
  | .hbm, ⟨94, _⟩ => ⟨S2x128x18944, .f32⟩
  | .hbm, ⟨95, _⟩ => ⟨S1x1x18944, .f32⟩
  | .hbm, ⟨96, _⟩ => ⟨S2x128x18944, .f32⟩
  | .hbm, ⟨97, _⟩ => ⟨S2x128x18944, .f32⟩
  | .hbm, ⟨98, _⟩ => ⟨S2x128x18944, .bf16⟩
  | _, _ => ⟨S2x128x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_v23 : Ref sig .tc := ⟨.hbm, 41, rfl⟩
abbrev main_c : Ref sig .tc := ⟨.hbm, 42, rfl⟩
abbrev main_c_9 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_c_11 : Ref sig .tc := ⟨.hbm, 60, rfl⟩
abbrev main_call5_v0 : Ref sig .tc := ⟨.hbm, 61, rfl⟩
abbrev main_call5_v1 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37_0 : Ref sig .tc := ⟨.hbm, 69, rfl⟩
abbrev main_v37_1 : Ref sig .tc := ⟨.hbm, 70, rfl⟩
abbrev main_v37_2 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_12 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_13 : Ref sig .tc := ⟨.hbm, 86, rfl⟩
abbrev main_call6_v0 : Ref sig .tc := ⟨.hbm, 87, rfl⟩
abbrev main_call6_v1 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩

abbrev nD : Nat := 1
abbrev τ : Topo := Topo.v7x

variable {F : FTy → Type} [FloatOps F]
-- ==== Proof.Chk.lean ====
/-
  The side conditions the body assumes of the words it computes: the slot the prologue stores into lies inside the
  table of slots whenever the store is reached, because the running count is a sum of bits and is tested against eight.
-/
module

public import proofs.«01_k».proof.Proof.Gen.KernelIdeal.Frame

@[expose] public section

noncomputable section

namespace Cert.KernelIdeal.Hand

open Idealize.ShloMosaic Idealize.ShloMosaic.TcCoe Idealize.ShloMosaic.Tactic
open Cert.KernelIdeal Cert.KernelIdeal.Gen

/-- A word at most `k`. -/
def Small (k : Nat) (n : BitVec 32) : Prop := n.toNat ≤ k

theorem small_zero (k : Nat) : Small k 0#32 := by unfold Small; simp

/-- Adding one bit raises the bound by one. -/
theorem small_step {k : Nat} (hk : k < 64) {n x : BitVec 32} (h : Small k n) :
    Small (k + 1) (Scalar.addi n (Scalar.andi x 1#32)) := by
  unfold Small at *
  show (n + (x &&& 1#32)).toNat ≤ k + 1
  have h1 : (x &&& 1#32).toNat ≤ 1 := by
    rw [BitVec.toNat_and]; exact Nat.and_le_right
  rw [BitVec.toNat_add]
  exact (Nat.mod_le _ _).trans (by omega)

/-- The condition under which the prologue stores: the chunk is active and the slot is below eight. -/
abbrev slotCond (a n : BitVec 32) : BitVec 1 :=
  Scalar.cmpi .ne (Scalar.extui (Scalar.andi (Scalar.cmpi .eq a 1#32) (Scalar.cmpi .slt n 8#32)) : BitVec 32) 0#32

theorem slot_lt {a n : BitVec 32} (h : slotCond a n = 1#1) (hn : Small 64 n) : n.toNat < 8 := by
  unfold Small at hn
  by_contra hlt
  have h8 : Scalar.cmpi .slt n 8#32 = 0#1 := by
    simp only [Scalar.cmpi, IntOp.cmpi]
    have : n.slt 8#32 = false := by
      rw [BitVec.slt_eq_decide]
      have : n.toInt = n.toNat := BitVec.toInt_eq_toNat_of_lt (by omega)
      rw [this]
      simp; omega
    simp [this]
  unfold slotCond at h
  rw [h8] at h
  revert h
  generalize Scalar.cmpi .eq a 1#32 = b
  revert b; decide

theorem off_one {a n : BitVec 32} (h : slotCond a n = 1#1) (hn : Small 64 n) :
    ∀ ax, (![(Scalar.indexCast n : Index).toNat] : Fin 1 → Nat) ax + S1.size ax ≤ S8.size ax := by
  have := slot_lt h hn
  intro ax; fin_cases ax
  show n.toNat + 1 ≤ 8; omega

theorem off_plane0 {a n : BitVec 32} (h : slotCond a n = 1#1) (hn : Small 64 n) :
    ∀ ax, (![0, (Scalar.indexCast n : Index).toNat, 0] : Fin 3 → Nat) ax + S1x1x128.size ax ≤ S2x8x128.size ax := by
  have := slot_lt h hn
  intro ax; fin_cases ax
  · show 0 + 1 ≤ 2; omega
  · show n.toNat + 1 ≤ 8; omega
  · show 0 + 128 ≤ 128; omega

theorem off_plane1 {a n : BitVec 32} (h : slotCond a n = 1#1) (hn : Small 64 n) :
    ∀ ax, (![1, (Scalar.indexCast n : Index).toNat, 0] : Fin 3 → Nat) ax + S1x1x128.size ax ≤ S2x8x128.size ax := by
  have := slot_lt h hn
  intro ax; fin_cases ax
  · show 1 + 1 ≤ 2; omega
  · show n.toNat + 1 ≤ 8; omega
  · show 0 + 128 ≤ 128; omega

set_option maxRecDepth 65536 in
theorem chk1 (i : grid0.Coords) (v1940 v1947 v1954 v1961 v1968 v1975 v1982 v1989 v1996 v2003 v2010 v2017 v2024 v2031 : BitVec 32) :
    k0_chk1 i v1940 v1947 v1954 v1961 v1968 v1975 v1982 v1989 v1996 v2003 v2010 v2017 v2024 v2031 := by
  unfold k0_chk1 k0_chk1_0 k0_chk1_1
  refine ⟨?_, ?_⟩ <;> (repeat' apply And.intro) <;> intro _ h <;>
    first
    | (refine off_one h ?_; repeat (first | exact small_zero _ | refine small_step (by decide) ?_))
    | (refine off_plane0 h ?_; repeat (first | exact small_zero _ | refine small_step (by decide) ?_))
    | (refine off_plane1 h ?_; repeat (first | exact small_zero _ | refine small_step (by decide) ?_))

set_option maxRecDepth 65536 in
theorem chk2 (i : grid0.Coords) (v1940 v1947 v1954 v1961 v1968 v1975 v1982 v1989 v1996 v2003 v2010 v2017 v2024 v2031 v2038 v2045 v2052 v2059 v2066 v2073 v2080 v2087 v2094 v2101 v2108 v2115 v2122 v2129 : BitVec 32) :
    k0_chk2 i v1940 v1947 v1954 v1961 v1968 v1975 v1982 v1989 v1996 v2003 v2010 v2017 v2024 v2031 v2038 v2045 v2052 v2059 v2066 v2073 v2080 v2087 v2094 v2101 v2108 v2115 v2122 v2129 := by
  unfold k0_chk2 k0_chk2_0 k0_chk2_1
  refine ⟨?_, ?_⟩ <;> (repeat' apply And.intro) <;> intro _ h <;>
    first
    | (refine off_one h ?_; repeat (first | exact small_zero _ | refine small_step (by decide) ?_))
    | (refine off_plane0 h ?_; repeat (first | exact small_zero _ | refine small_step (by decide) ?_))
    | (refine off_plane1 h ?_; repeat (first | exact small_zero _ | refine small_step (by decide) ?_))

/-- A chunk number at most 27 addresses 128 lanes inside the row, at a multiple of 128. -/
theorem chunk_ok {w : BitVec 32} (hw : Small 27 w) :
    128 ∣ (Scalar.muli w 128#32).toNat ∧
      ∀ a, (![0, (Scalar.indexCast (Scalar.muli w 128#32) : Index).toNat] : Fin 2 → Nat) a + S512x128.size a ≤ S512x3584.size a := by
  unfold Small at hw
  have h : (Scalar.muli w 128#32).toNat = w.toNat * 128 := by
    show (w * 128#32).toNat = _
    rw [BitVec.toNat_mul]
    exact Nat.mod_eq_of_lt (by simp; omega)
  refine ⟨by rw [h]; exact Dvd.intro_left _ rfl, ?_⟩
  intro a; fin_cases a
  · show 0 + 512 ≤ 512; omega
  · show (Scalar.muli w 128#32).toNat + 128 ≤ 3584; rw [h]; omega

theorem chk3 {v3 w : BitVec 32} (hw : Small 27 w) : k0_chk3 v3 w := ⟨fun _ => (chunk_ok hw).1, fun _ => (chunk_ok hw).2⟩

end Cert.KernelIdeal.Hand

end
-- ==== Proof.Steps.lean ====
module

public import proofs.«01_k».proof.Proof.Chk
public import proofs.«01_k».proof.Proof.Gen.KernelIdeal.Skeleton

/-! The 28 guarded updates of the prologue, one per chunk of 128 lanes, as one program and one step on
what the three small buffers hold. -/

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev Bf (F : FTy → Type) [FloatOps F] (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The update of one chunk: its number into the slot, its two plane masks into the slot's rows, and its
    selected columns of outliers into the two folded planes. -/
noncomputable def chunkStep (arg10 : Memref sig .tc .vmem S256x3584 .bf16)
    (arg11 : Memref sig .tc .vmem S256x256 .bf16) (harg11 : arg11.IsWhole)
    (arg13 : Memref sig .tc .vmem S2x8x128 .i32) (arg14 : Memref sig .tc .smem S8 .i32)
    (o1 : Fin 1 → ℕ) (o2 o3 : Fin 3 → ℕ) (oc : Fin 2 → ℕ)
    (ic : ∀ a, oc a + S256x128.size a ≤ S256x3584.size a) (w : BitVec 32) (m0 m1 : IVec S1x128 32)
    (i1 : ∀ a, o1 a + S1.size a ≤ S8.size a)
    (i2 : ∀ a, o2 a + S1x1x128.size a ≤ S2x8x128.size a)
    (i3 : ∀ a, o3 a + S1x1x128.size a ≤ S2x8x128.size a) :
    Prog (TpuEff nD τ sig (Elt F) Λ₀ .tc) PUnit := do
  let _ : Elt F .i32 ← smemLoad arg14 (Rect.unit (s := S8) o1 S1.size i1) numel1_S1 rfl
  Prog.lift (.store arg14 (Rect.unit (s := S8) o1 S1.size i1) (fun _ => w) Finset.univ (View.stores_smem_one rfl numel1_S1) (.inl rfl))
  let _ : Vec F S1x1x128 .i32 ← Prog.lift (.load arg13 (Rect.unit (s := S2x8x128) o2 S1x1x128.size i2).toLoadRect (View.loadsAt_vmem h_S1x1x128))
  Prog.lift (.store arg13 (Rect.unit (s := S2x8x128) o2 S1x1x128.size i2) (k0_pay9 m0) Finset.univ (View.stores_vmem_bits_univ h_S1x1x128 rfl) (.inl rfl))
  let x0 : Vec F S256x128 .bf16 ← Prog.lift (.load arg10 (Rect.unit (s := S256x3584) oc S256x128.size ic).toLoadRect (View.loadsAt_vmem h_S256x128))
  let f0 : Vec F S256x128 .bf16 ← Prog.lift (.load arg11 (Rect.unit (s := S256x256) ![0, 0] S256x128.size inb_S256x256_S256x128_0_0).toLoadRect (View.loadsAt_vmem h_S256x128))
  let _ : Vec F S256x128 .bf16 ← Prog.lift (.load arg11 (Rect.unit (s := S256x256) ![0, 0] S256x128.size inb_S256x256_S256x128_0_0).toLoadRect (View.loadsAt_vmem h_S256x128))
  Prog.lift (.store arg11 (Rect.unit (s := S256x256) ![0, 0] S256x128.size inb_S256x256_S256x128_0_0) (k0_pay10 m0 x0 f0) Finset.univ (View.stores_vmem h_S256x128 (harg11.storeExact_slice rfl _ packedbf16_S256x256_S256x128_0_0) (fun _ => rfl)) (.inl rfl))
  let _ : Vec F S1x1x128 .i32 ← Prog.lift (.load arg13 (Rect.unit (s := S2x8x128) o3 S1x1x128.size i3).toLoadRect (View.loadsAt_vmem h_S1x1x128))
  Prog.lift (.store arg13 (Rect.unit (s := S2x8x128) o3 S1x1x128.size i3) (k0_pay9 m1) Finset.univ (View.stores_vmem_bits_univ h_S1x1x128 rfl) (.inl rfl))
  let x1 : Vec F S256x128 .bf16 ← Prog.lift (.load arg10 (Rect.unit (s := S256x3584) oc S256x128.size ic).toLoadRect (View.loadsAt_vmem h_S256x128))
  let f1 : Vec F S256x128 .bf16 ← Prog.lift (.load arg11 (Rect.unit (s := S256x256) ![0, 128] S256x128.size inb_S256x256_S256x128_0_128).toLoadRect (View.loadsAt_vmem h_S256x128))
  let _ : Vec F S256x128 .bf16 ← Prog.lift (.load arg11 (Rect.unit (s := S256x256) ![0, 128] S256x128.size inb_S256x256_S256x128_0_128).toLoadRect (View.loadsAt_vmem h_S256x128))
  Prog.lift (.store arg11 (Rect.unit (s := S256x256) ![0, 128] S256x128.size inb_S256x256_S256x128_0_128) (k0_pay10 m1 x1 f1) Finset.univ (View.stores_vmem h_S256x128 (harg11.storeExact_slice rfl _ packedbf16_S256x256_S256x128_0_128) (fun _ => rfl)) (.inl rfl))
  pure ⟨⟩

/-- What the folded planes, the lane masks and the slots hold. -/
abbrev St (F : FTy → Type) [FloatOps F] (c : Dev nD) (M11 : Memref sig .tc .vmem S256x256 .bf16)
    (M13 : Memref sig .tc .vmem S2x8x128 .i32) (M14 : Memref sig .tc .smem S8 .i32) : Type :=
  Bf F c M11 × Bf F c M13 × Bf F c M14

variable (c : Dev nD) (M10 : Memref sig .tc .vmem S256x3584 .bf16) (h10 : M10.IsWhole)
    (M11 : Memref sig .tc .vmem S256x256 .bf16) (h11 : M11.IsWhole)
    (M13 : Memref sig .tc .vmem S2x8x128 .i32) (h13 : M13.IsWhole) (M14 : Memref sig .tc .smem S8 .i32) (h14 : M14.IsWhole)

/-- The update of one chunk, run: what it leaves. -/
noncomputable def chunkRun (o1 : Fin 1 → ℕ) (o2 o3 : Fin 3 → ℕ) (oc : Fin 2 → ℕ)
    (ic : ∀ a, oc a + S256x128.size a ≤ S256x3584.size a) (w : BitVec 32) (m0 m1 : IVec S1x128 32)
    (i1 : ∀ a, o1 a + S1.size a ≤ S8.size a)
    (i2 : ∀ a, o2 a + S1x1x128.size a ≤ S2x8x128.size a)
    (i3 : ∀ a, o3 a + S1x1x128.size a ≤ S2x8x128.size a)
    (f10 : Bf F c M10) (f11 : Bf F c M11) (f13 : Bf F c M13) (f14 : Bf F c M14) :
    { W : St F c M11 M13 M14 //
      ∀ (E : Set ℕ) (Q : PUnit → sProp 𝕄),
        iprop(pt c M10 f10 ∗ pt c M11 f11 ∗ pt c M13 f13 ∗ pt c M14 f14
          ∗ (iprop(pt c M10 f10 ∗ pt c M11 W.1 ∗ pt c M13 W.2.1 ∗ pt c M14 W.2.2) -∗ Q ⟨⟩))
        ⊢ wp frame (wpE (defs₀ (F := F)) Variants.none c none) E
            (chunkStep M10 M11 h11 M13 M14 o1 o2 o3 oc ic w m0 m1 i1 i2 i3) Q } := by
  refine ⟨⟨?_, ?_, ?_⟩, fun E Q => ?run⟩
  case run =>
    unfold chunkStep
    iintro ⟨H10, H11, H13, H14, Hk⟩
    sl_exec
    sl_step
    iapply Hk
    isplitl [H10]
    · iexact H10
    isplitl [H11]
    · iexact H11
    isplitl [H13]
    · iexact H13
    iexact H14

/-- The folded planes, the lane masks and the slots, with the outliers they are filled from, held whole. -/
def stRes (f10 : Bf F c M10) (S : St F c M11 M13 M14) : sProp 𝕄 :=
  iprop(pt c M10 f10 ∗ pt c M11 S.1 ∗ pt c M13 S.2.1 ∗ pt c M14 S.2.2)

/-- The update of one chunk under its guard. -/
noncomputable def gstep (C : Prop) [Decidable C] (o1 : Fin 1 → ℕ) (o2 o3 : Fin 3 → ℕ) (oc : Fin 2 → ℕ)
    (ic : ∀ a, oc a + S256x128.size a ≤ S256x3584.size a) (w : BitVec 32) (m0 m1 : IVec S1x128 32)
    (i1 : C → ∀ a, o1 a + S1.size a ≤ S8.size a)
    (i2 : C → ∀ a, o2 a + S1x1x128.size a ≤ S2x8x128.size a)
    (i3 : C → ∀ a, o3 a + S1x1x128.size a ≤ S2x8x128.size a)
    (f10 : Bf F c M10) (S : St F c M11 M13 M14) : St F c M11 M13 M14 :=
  if h : C then (chunkRun c M10 M11 h11 M13 M14 o1 o2 o3 oc ic w m0 m1 (i1 h) (i2 h) (i3 h) f10 S.1 S.2.1 S.2.2).1 else S

variable {c M10 M11 h11 M13 M14}

theorem guard_rule {α : Type} {C : Prop} [Decidable C] {o1 : Fin 1 → ℕ} {o2 o3 : Fin 3 → ℕ} {oc : Fin 2 → ℕ}
    {ic : ∀ a, oc a + S256x128.size a ≤ S256x3584.size a} {w : BitVec 32} {m0 m1 : IVec S1x128 32}
    {i1 : C → ∀ a, o1 a + S1.size a ≤ S8.size a}
    {i2 : C → ∀ a, o2 a + S1x1x128.size a ≤ S2x8x128.size a}
    {i3 : C → ∀ a, o3 a + S1x1x128.size a ≤ S2x8x128.size a}
    {f10 : Bf F c M10} {S : St F c M11 M13 M14} {E : Set ℕ} {Q : α → sProp 𝕄}
    (p : C → Prog (TpuEff nD τ sig (Elt F) Λ₀ .tc) PUnit) (k : Prog (TpuEff nD τ sig (Elt F) Λ₀ .tc) α)
    (hp : ∀ h, p h = chunkStep M10 M11 h11 M13 M14 o1 o2 o3 oc ic w m0 m1 (i1 h) (i2 h) (i3 h)) :
    stRes c M10 M11 M13 M14 f10 S ⊢
      iprop((stRes c M10 M11 M13 M14 f10 (gstep c M10 M11 h11 M13 M14 C o1 o2 o3 oc ic w m0 m1 i1 i2 i3 f10 S)
          -∗ wp frame (wpE (defs₀ (F := F)) Variants.none c none) E k Q)
        -∗ wp frame (wpE (defs₀ (F := F)) Variants.none c none) E
            (dite C (fun h => p h >>= fun _ => k) (fun _ => k)) Q) := by
  by_cases h : C
  · rw [dif_pos h, hp h, wp_bind]
    unfold gstep
    rw [dif_pos h]
    unfold stRes
    iintro ⟨H10, H11, H13, H14⟩ Hk
    iapply (chunkRun c M10 M11 h11 M13 M14 o1 o2 o3 oc ic w m0 m1 (i1 h) (i2 h) (i3 h) f10 S.1 S.2.1 S.2.2).2
    isplitl [H10]
    · iexact H10
    isplitl [H11]
    · iexact H11
    isplitl [H13]
    · iexact H13
    isplitl [H14]
    · iexact H14
    iexact Hk
  · rw [dif_neg h]
    unfold gstep
    rw [dif_neg h]
    iintro HS Hk
    iapply Hk
    iexact HS

theorem guard_rule0 {α : Type} {C : Prop} [Decidable C] {o1 : Fin 1 → ℕ} {o2 o3 : Fin 3 → ℕ} {oc : Fin 2 → ℕ}
    {ic : ∀ a, oc a + S256x128.size a ≤ S256x3584.size a} {w : BitVec 32} {m0 m1 : IVec S1x128 32}
    {i1 : C → ∀ a, o1 a + S1.size a ≤ S8.size a}
    {i2 : C → ∀ a, o2 a + S1x1x128.size a ≤ S2x8x128.size a}
    {i3 : C → ∀ a, o3 a + S1x1x128.size a ≤ S2x8x128.size a}
    {f10 : Bf F c M10} {f11 : Bf F c M11} {f13 : Bf F c M13} {f14 : Bf F c M14} {E : Set ℕ} {Q : α → sProp 𝕄}
    (p : Prog (TpuEff nD τ sig (Elt F) Λ₀ .tc) PUnit) (k : Prog (TpuEff nD τ sig (Elt F) Λ₀ .tc) α)
    (hp : ∀ h, p = chunkStep M10 M11 h11 M13 M14 o1 o2 o3 oc ic w m0 m1 (i1 h) (i2 h) (i3 h)) :
    iprop(pt c M10 f10 ∗ pt c M11 f11 ∗ pt c M13 f13 ∗ pt c M14 f14) ⊢
      iprop((stRes c M10 M11 M13 M14 f10 (gstep c M10 M11 h11 M13 M14 C o1 o2 o3 oc ic w m0 m1 i1 i2 i3 f10 (f11, f13, f14))
          -∗ wp frame (wpE (defs₀ (F := F)) Variants.none c none) E k Q)
        -∗ wp frame (wpE (defs₀ (F := F)) Variants.none c none) E
            (ite C (p >>= fun _ => k) k) Q) :=
  guard_rule (S := (f11, f13, f14)) (fun _ => p) k hp

end Cert.KernelIdeal.Hand

end
-- ==== Proof.Pro.lean ====
module

public import proofs.«01_k».proof.Proof.Steps

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

/-- The prologue, which the first point runs before its tile. -/
noncomputable def proK (k0_h1 : k0_cond1 i = 1#1) (k : Prog (TpuEff nD τ sig (Elt F) Λ₀ .tc) PUnit) :
    Prog (TpuEff nD τ sig (Elt F) Λ₀ .tc) PUnit := do
  let ⟨v1163, v1169, v1171, v1940, v1947, v1954, v1961, v1968, v1975, v1982, v1989, v1996, v2003, v2010, v2017, v2024, v2031, v2038, v2045, v2052, v2059, v2066, v2073, v2080, v2087, v2094, v2101, v2108, v2115, v2122, v2129, k0_hw2, v2130, v2366, c13_i32_984⟩ : Σ' (v1163 : IVec S1x128 32) (v1169 : IVec S1x128 32) (v1171 : IVec S1x128 32) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129) (v2130 : BitVec 32) (v2366 : BitVec 32), BitVec 32 ← k0_part88 i M1 h1 M2 h2 M3 h3 M4 h4 M5 h5 M6 h6 M7 h7 M8 h8 M9 h9 M10 h10 M11 h11 M12 h12 M13 h13 M14 h14 M15 h15 k0_h1
  let v2367 : BitVec 32 := Scalar.shrsi v2130 c13_i32_984
  let c1_i32_985 : BitVec 32 := 1#32
  let v2368 : BitVec 32 := Scalar.andi v2367 c1_i32_985
  let c1_i32_986 : BitVec 32 := 1#32
  let v2369 : BitVec 1 := Scalar.cmpi .eq v2368 c1_i32_986
  let c8_i32_987 : BitVec 32 := 8#32
  let v2370 : BitVec 1 := Scalar.cmpi .slt v2366 c8_i32_987
  let v2371 : BitVec 1 := Scalar.andi v2369 v2370
  let v2372 : BitVec 32 := Scalar.extui v2371
  let c0_i32_988 : BitVec 32 := 0#32
  let v2373 : BitVec 1 := Scalar.cmpi .ne v2372 c0_i32_988
  if k0_h29 : k0_cond29 v1940 v1947 v1954 v1961 v1968 v1975 v1982 v1989 v1996 v2003 v2010 v2017 v2024 v2031 v2038 v2045 v2052 v2059 v2066 v2073 v2080 v2087 v2094 v2101 v2108 v2115 v2122 v2129 = 1#1 then do
    k0_part28 i M1 h1 M2 h2 M3 h3 M4 h4 M5 h5 M6 h6 M7 h7 M8 h8 M9 h9 M10 h10 M11 h11 M12 h12 M13 h13 M14 h14 M15 h15 k0_h1 v1163 v1169 v1940 v1947 v1954 v1961 v1968 v1975 v1982 v1989 v1996 v2003 v2010 v2017 v2024 v2031 v2038 v2045 v2052 v2059 v2066 v2073 v2080 v2087 v2094 v2101 v2108 v2115 v2122 v2129 k0_hw2 v2366 k0_h29
    pure ⟨⟩
  else do
    pure ⟨⟩
  let v2374 : BitVec 32 := Scalar.addi v2366 v2368
  let c8_i32_989 : BitVec 32 := 8#32
  let v2375 : BitVec 1 := Scalar.cmpi .sle v2374 c8_i32_989
  have v2376 : FVec F S1x128 .f32 := sitofp .f32 v1171
  have v2377 : FVec F S1x1x128 .f32 := shapeCast S1x1x128 v2376 shapeCasts_S1x128_S1x1x128
  have cst_990 : FVec F S1 .f32 := constant S1 .f32 0xFF800000#32
  have v2378 : FVec F S1 .f32 := multiReduction .maximumf [1, 2] S1 v2377 0xFF800000#32 reduces_S1x1x128_S1 (.inl rfl) rfl
  have v2379 : FVec F S1x1x1 .f32 := shapeCast S1x1x1 v2378 shapeCasts_S1_S1x1x1
  have v2380 : F .f32 := extractAt ![0, 0, 0] v2379 inpos_S1x1x1_p0_0_0
  have cst_991 : F .f32 := Scalar.ofBits .f32 0x40000000#32
  let v2381 : BitVec 1 := Scalar.cmpf .ole v2380 cst_991
  let v2382 : BitVec 1 := Scalar.andi v2375 v2381
  let v2383 : BitVec 32 := Scalar.extui v2382
  let c0_992 : Index := 0#32
  let v2384 : Elt F .i32 ← smemLoad M15 (Rect.unit (s := S1) ![0] S1.size inb_S1_S1_0) numel1_S1 rfl
  Prog.lift (.store M15 (Rect.unit (s := S1) ![0] S1.size inb_S1_S1_0) (fun _ => v2383) Finset.univ (View.stores_smem_one rfl numel1_S1) (.inl rfl))
  k

/-- What the prologue leaves: mask, codes, scales, zero points, normal codes, outliers, broadcast scales, the
    control word, and the three buffers of the folded path. -/
structure After (F : FTy → Type) [FloatOps F] (c : Dev nD)
    (M5 : Memref sig .tc .vmem S1x3584 .i32) (M6 : Memref sig .tc .vmem S256x3584 .i8) (M7 : Memref sig .tc .vmem S2x128 .f32) (M8 : Memref sig .tc .vmem S2x128 .i32) (M9 : Memref sig .tc .vmem S256x3584 .bf16) (M10 : Memref sig .tc .vmem S256x3584 .bf16) (M11 : Memref sig .tc .vmem S256x256 .bf16) (M12 : Memref sig .tc .vmem S256x128 .f32) (M13 : Memref sig .tc .vmem S2x8x128 .i32) (M14 : Memref sig .tc .smem S8 .i32) (M15 : Memref sig .tc .smem S1 .i32) where
  mask : Bf F c M5
  codes : Bf F c M6
  scales : Bf F c M7
  zero : Bf F c M8
  q : Bf F c M9
  xo : Bf F c M10
  sb : Bf F c M12
  ctl : Bf F c M15
  st : St F c M11 M13 M14

/-- The prologue, run: what it leaves in every buffer. -/
noncomputable def proRun (k0_h1 : k0_cond1 i = 1#1)
    (f1 : Bf F c M1) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) :
    { W : After F c M5 M6 M7 M8 M9 M10 M11 M12 M13 M14 M15 //
      ∀ (E : Set ℕ) (Q : PUnit → sProp 𝕄) (k : Prog (TpuEff nD τ sig (Elt F) Λ₀ .tc) PUnit),
        iprop(pt c M1 f1 ∗ pt c M5 f5 ∗ pt c M6 f6 ∗ pt c M7 f7 ∗ pt c M8 f8 ∗ pt c M9 f9 ∗ pt c M10 f10 ∗ pt c M11 f11
          ∗ pt c M12 f12 ∗ pt c M13 f13 ∗ pt c M14 f14 ∗ pt c M15 f15
          ∗ (iprop(pt c M1 f1 ∗ pt c M5 W.mask ∗ pt c M6 W.codes ∗ pt c M7 W.scales ∗ pt c M8 W.zero
            ∗ pt c M9 W.q ∗ pt c M12 W.sb ∗ pt c M15 W.ctl
            ∗ stRes c M10 M11 M13 M14 W.xo W.st) -∗ wp frame (wpE (defs₀ (F := F)) Variants.none c none) E k Q))
        ⊢ wp frame (wpE (defs₀ (F := F)) Variants.none c none) E
            (proK i M1 h1 M2 h2 M3 h3 M4 h4 M5 h5 M6 h6 M7 h7 M8 h8 M9 h9 M10 h10 M11 h11 M12 h12 M13 h13 M14 h14 M15 h15 k0_h1 k) Q } := by
  refine ⟨⟨?_, ?_, ?_, ?_, ?_, ?_, ?_, ?_, ?_⟩, fun E Q k => ?run⟩
  case run =>
    iintro ⟨H1, H5, H6, H7, H8, H9, H10, H11, H12, H13, H14, H15, Hk⟩
    unfold proK
    rw [wp_bind, k0_part88_eq_skeleton]
    unfold k0_part88_skel
    set_option sl_exec.stopBefore "k0_part81" in
    sl_exec_parts! (disch := first | with_reducible exact chk1 .. | with_reducible exact chk2 ..)
    rw [wp_bind, k0_part81_eq_skeleton]
    unfold k0_part81_skel
    set_option sl_exec.stopBefore "k0_part1" in
    sl_exec
    iapply (guard_rule0 (h11 := h11) _ _ ?_) $$ [H10 H11 H13 H14]
    exact fun _ => rfl
    isplitl [H10]
    iexact H10
    isplitl [H11]
    iexact H11
    isplitl [H13]
    iexact H13
    iexact H14
    iintro HS
    try dsimp only
    sl_step
    try dsimp only
    rw [wp_bind, k0_part82_eq_skeleton]
    unfold k0_part82_skel
    iterate 4
      iapply (guard_rule (h11 := h11) _ _ ?_) $$ [HS]
      exact fun _ => rfl
      iexact HS
      iintro HS
    try dsimp only
    sl_step
    try dsimp only
    rw [wp_bind, k0_part83_eq_skeleton]
    unfold k0_part83_skel
    iterate 4
      iapply (guard_rule (h11 := h11) _ _ ?_) $$ [HS]
      exact fun _ => rfl
      iexact HS
      iintro HS
    try dsimp only
    sl_step
    try dsimp only
    rw [wp_bind, k0_part84_eq_skeleton]
    unfold k0_part84_skel
    iterate 5
      iapply (guard_rule (h11 := h11) _ _ ?_) $$ [HS]
      exact fun _ => rfl
      iexact HS
      iintro HS
    try dsimp only
    sl_step
    try dsimp only
    rw [wp_bind, k0_part85_eq_skeleton]
    unfold k0_part85_skel
    iterate 4
      iapply (guard_rule (h11 := h11) _ _ ?_) $$ [HS]
      exact fun _ => rfl
      iexact HS
      iintro HS
    try dsimp only
    sl_step
    try dsimp only
    rw [wp_bind, k0_part86_eq_skeleton]
    unfold k0_part86_skel
    iterate 4
      iapply (guard_rule (h11 := h11) _ _ ?_) $$ [HS]
      exact fun _ => rfl
      iexact HS
      iintro HS
    try dsimp only
    sl_step
    try dsimp only
    rw [wp_bind, k0_part87_eq_skeleton]
    unfold k0_part87_skel
    iterate 5
      iapply (guard_rule (h11 := h11) _ _ ?_) $$ [HS]
      exact fun _ => rfl
      iexact HS
      iintro HS
    try dsimp only
    sl_step
    try dsimp only
    try dsimp only
    sl_step
    try dsimp only
    iapply (guard_rule (h11 := h11) _ _ ?_) $$ [HS]
    exact fun _ => rfl
    iexact HS
    iintro HS
    try dsimp only
    sl_exec
    iapply Hk
    isplitl [H1]
    · iexact H1
    isplitl [H5]
    · iexact H5
    isplitl [H6]
    · iexact H6
    isplitl [H7]
    · iexact H7
    isplitl [H8]
    · iexact H8
    isplitl [H9]
    · iexact H9
    isplitl [H12]
    · iexact H12
    isplitl [H15]
    · iexact H15
    iexact HS

end Cert.KernelIdeal.Hand

end
-- ==== Proof.Tail.lean ====
module

public import proofs.«01_k».proof.Proof.Steps

@[expose] public section

set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

/-- Every word of the slots is a chunk number. -/
def SlotsOk (f14 : Bf F c M14) : Prop :=
  ∀ (r : Rect S8) (x), Small 27 (View.readAt (Elt F) M14.view r.toLoadRect f14 x)

/-- The folded path of one point: the four lane blocks of the output from the folded planes. -/
noncomputable def foldK (v3 : BitVec 32) (k0_h30 : k0_cond30 v3 = 1#1) (k : Prog (TpuEff nD τ sig (Elt F) Λ₀ .tc) PUnit) :
    Prog (TpuEff nD τ sig (Elt F) Λ₀ .tc) PUnit := do
  let ⟨v44, v45, k0_hw6, c128_i32_21⟩ : Σ' (v44 : IVec S128x128 32) (v45 : Elt F .i32) (k0_hw6 : k0_chk6 v3 v45), BitVec 32 ← k0_part89 i M1 h1 M2 h2 M3 h3 M4 h4 M5 h5 M6 h6 M7 h7 M8 h8 M9 h9 M10 h10 M11 h11 M12 h12 M13 h13 M14 h14 M15 h15 v3 k0_h30
  let ⟨v77, v83⟩ : Σ' (v77 : IVec S128x128 32), IVec S128x128 32 ← k0_part90 i M1 h1 M2 h2 M3 h3 M4 h4 M5 h5 M6 h6 M7 h7 M8 h8 M9 h9 M10 h10 M11 h11 M12 h12 M13 h13 M14 h14 M15 h15 v3 k0_h30 v44 v45 k0_hw6 c128_i32_21
  let ⟨v100, v112, v118⟩ : Σ' (v100 : IVec S512x128 8) (v112 : IVec S128x128 32), IVec S128x128 32 ← k0_part91 i M1 h1 M2 h2 M3 h3 M4 h4 M5 h5 M6 h6 M7 h7 M8 h8 M9 h9 M10 h10 M11 h11 M12 h12 M13 h13 M14 h14 M15 h15 v3 k0_h30 v77 v83
  let v156 : IVec S128x128 32 ← k0_part92 i M1 h1 M2 h2 M3 h3 M4 h4 M5 h5 M6 h6 M7 h7 M8 h8 M9 h9 M10 h10 M11 h11 M12 h12 M13 h13 M14 h14 M15 h15 v3 k0_h30 v112 v118
  let ⟨v192, v193⟩ : Σ' (v192 : FVec F S512x256 .bf16), Vec F S256x3584 .bf16 ← k0_part93 i M1 h1 M2 h2 M3 h3 M4 h4 M5 h5 M6 h6 M7 h7 M8 h8 M9 h9 M10 h10 M11 h11 M12 h12 M13 h13 M14 h14 M15 h15 v3 k0_h30 v100 v156
  let ⟨v196, v198, v230⟩ : Σ' (v196 : FVec F S256x512 .f32) (v198 : FVec F S256x512 .f32), FVec F S256x128 .bf16 ← k0_part94 i M1 h1 M2 h2 M3 h3 M4 h4 M5 h5 M6 h6 M7 h7 M8 h8 M9 h9 M10 h10 M11 h11 M12 h12 M13 h13 M14 h14 M15 h15 v192 v193
  let c0_116 : Index := 0#32
  let c256_117 : Index := 256#32
  let v231 : Vec F S256x128 .bf16 ← Prog.lift (.load M4 (Rect.unit (s := S256x512) ![0, 256] S256x128.size inb_S256x512_S256x128_0_256).toLoadRect (View.loadsAt_vmem h_S256x128))
  Prog.lift (.store M4 (Rect.unit (s := S256x512) ![0, 256] S256x128.size inb_S256x512_S256x128_0_256) v230 Finset.univ (View.stores_vmem h_S256x128 (h4.storeExact_slice rfl _ packedbf16_S256x512_S256x128_0_256) (fun _ => rfl)) (.inl rfl))
  have v232 : FVec F S256x128 .f32 := extractStridedSlice S256x128 ![0, 384] v196 slices_S256x512_o0_384_S256x128
  let c0_118 : Index := 0#32
  let c0_119 : Index := 0#32
  let v233 : Vec F S256x128 .f32 ← Prog.lift (.load M12 (Rect.unit (s := S256x128) ![0, 0] S256x128.size inb_S256x128_S256x128_0_0).toLoadRect (View.loadsAt_vmem h_S256x128))
  have v234 : FVec F S256x128 .f32 := mulf v232 v233
  have v235 : FVec F S256x128 .f32 := extractStridedSlice S256x128 ![0, 384] v198 slices_S256x512_o0_384_S256x128
  have v236 : FVec F S256x128 .f32 := addf v234 v235
  let c0_120 : Index := 0#32
  let c384 : Index := 384#32
  let v237 : Vec F S1x128 .f32 ← Prog.lift (.load M3 (Rect.unit (s := S1x512) ![0, 384] S1x128.size inb_S1x512_S1x128_0_384).toLoadRect (View.loadsAt_vmem h_S1x128))
  have v238 : FVec F S1x128 .f32 := shapeCast S1x128 v237 shapeCasts_S1x128_S1x128
  have v239 : FVec F S256x128 .f32 := broadcastTo S256x128 v238 broadcasts_S1x128_S256x128
  have v240 : FVec F S256x128 .f32 := mulf v236 v239
  have v241 : FVec F S256x128 .bf16 := truncf .bf16 v240 bitsLt_bf16_f32
  let c0_121 : Index := 0#32
  let c384_122 : Index := 384#32
  let v242 : Vec F S256x128 .bf16 ← Prog.lift (.load M4 (Rect.unit (s := S256x512) ![0, 384] S256x128.size inb_S256x512_S256x128_0_384).toLoadRect (View.loadsAt_vmem h_S256x128))
  Prog.lift (.store M4 (Rect.unit (s := S256x512) ![0, 384] S256x128.size inb_S256x512_S256x128_0_384) v241 Finset.univ (View.stores_vmem h_S256x128 (h4.storeExact_slice rfl _ packedbf16_S256x512_S256x128_0_384) (fun _ => rfl)) (.inl rfl))
  k

/-- The dense path of one point: the four lane blocks of the output from the whole row of outliers. -/
noncomputable def denseK (k : Prog (TpuEff nD τ sig (Elt F) Λ₀ .tc) PUnit) :
    Prog (TpuEff nD τ sig (Elt F) Λ₀ .tc) PUnit := do
  let ⟨v14, v18, v43, v44⟩ : Σ' (v14 : FVec F S256x512 .f32) (v18 : FVec F S256x512 .f32) (v43 : FVec F S256x128 .f32), FVec F S256x128 .f32 ← k0_part95 i M1 h1 M2 h2 M3 h3 M4 h4 M5 h5 M6 h6 M7 h7 M8 h8 M9 h9 M10 h10 M11 h11 M12 h12 M13 h13 M14 h14 M15 h15
  have v45 : FVec F S256x128 .f32 := addf v43 v44
  let c0_27 : Index := 0#32
  let c256 : Index := 256#32
  let v46 : Vec F S1x128 .f32 ← Prog.lift (.load M3 (Rect.unit (s := S1x512) ![0, 256] S1x128.size inb_S1x512_S1x128_0_256).toLoadRect (View.loadsAt_vmem h_S1x128))
  have v47 : FVec F S1x128 .f32 := shapeCast S1x128 v46 shapeCasts_S1x128_S1x128
  have v48 : FVec F S256x128 .f32 := broadcastTo S256x128 v47 broadcasts_S1x128_S256x128
  have v49 : FVec F S256x128 .f32 := mulf v45 v48
  have v50 : FVec F S256x128 .bf16 := truncf .bf16 v49 bitsLt_bf16_f32
  let c0_28 : Index := 0#32
  let c256_29 : Index := 256#32
  let v51 : Vec F S256x128 .bf16 ← Prog.lift (.load M4 (Rect.unit (s := S256x512) ![0, 256] S256x128.size inb_S256x512_S256x128_0_256).toLoadRect (View.loadsAt_vmem h_S256x128))
  Prog.lift (.store M4 (Rect.unit (s := S256x512) ![0, 256] S256x128.size inb_S256x512_S256x128_0_256) v50 Finset.univ (View.stores_vmem h_S256x128 (h4.storeExact_slice rfl _ packedbf16_S256x512_S256x128_0_256) (fun _ => rfl)) (.inl rfl))
  have v52 : FVec F S256x128 .f32 := extractStridedSlice S256x128 ![0, 384] v14 slices_S256x512_o0_384_S256x128
  let c0_30 : Index := 0#32
  let c0_31 : Index := 0#32
  let v53 : Vec F S256x128 .f32 ← Prog.lift (.load M12 (Rect.unit (s := S256x128) ![0, 0] S256x128.size inb_S256x128_S256x128_0_0).toLoadRect (View.loadsAt_vmem h_S256x128))
  have v54 : FVec F S256x128 .f32 := mulf v52 v53
  have v55 : FVec F S256x128 .f32 := extractStridedSlice S256x128 ![0, 384] v18 slices_S256x512_o0_384_S256x128
  have v56 : FVec F S256x128 .f32 := addf v54 v55
  let c0_32 : Index := 0#32
  let c384 : Index := 384#32
  let v57 : Vec F S1x128 .f32 ← Prog.lift (.load M3 (Rect.unit (s := S1x512) ![0, 384] S1x128.size inb_S1x512_S1x128_0_384).toLoadRect (View.loadsAt_vmem h_S1x128))
  have v58 : FVec F S1x128 .f32 := shapeCast S1x128 v57 shapeCasts_S1x128_S1x128
  have v59 : FVec F S256x128 .f32 := broadcastTo S256x128 v58 broadcasts_S1x128_S256x128
  have v60 : FVec F S256x128 .f32 := mulf v56 v59
  have v61 : FVec F S256x128 .bf16 := truncf .bf16 v60 bitsLt_bf16_f32
  let c0_33 : Index := 0#32
  let c384_34 : Index := 384#32
  let v62 : Vec F S256x128 .bf16 ← Prog.lift (.load M4 (Rect.unit (s := S256x512) ![0, 384] S256x128.size inb_S256x512_S256x128_0_384).toLoadRect (View.loadsAt_vmem h_S256x128))
  Prog.lift (.store M4 (Rect.unit (s := S256x512) ![0, 384] S256x128.size inb_S256x512_S256x128_0_384) v61 Finset.univ (View.stores_vmem h_S256x128 (h4.storeExact_slice rfl _ packedbf16_S256x512_S256x128_0_384) (fun _ => rfl)) (.inl rfl))
  k

noncomputable def denseRun (f2 : Bf F c M2) (f3 : Bf F c M3) (f4 : Bf F c M4) (f9 : Bf F c M9) (f10 : Bf F c M10) (f12 : Bf F c M12) :
    { W : Bf F c M4 //
      ∀ (E : Set ℕ) (Q : PUnit → sProp 𝕄) (k : Prog (TpuEff nD τ sig (Elt F) Λ₀ .tc) PUnit),
        iprop(pt c M2 f2 ∗ pt c M3 f3 ∗ pt c M4 f4 ∗ pt c M9 f9 ∗ pt c M10 f10 ∗ pt c M12 f12
          ∗ (iprop(pt c M2 f2 ∗ pt c M3 f3 ∗ pt c M4 W ∗ pt c M9 f9 ∗ pt c M10 f10 ∗ pt c M12 f12) -∗ wp frame (wpE (defs₀ (F := F)) Variants.none c none) E k Q))
        ⊢ wp frame (wpE (defs₀ (F := F)) Variants.none c none) E (denseK i M1 h1 M2 h2 M3 h3 M4 h4 M5 h5 M6 h6 M7 h7 M8 h8 M9 h9 M10 h10 M11 h11 M12 h12 M13 h13 M14 h14 M15 h15 k) Q } := by
  refine ⟨?_, fun E Q k => ?run⟩
  case run =>
    iintro ⟨H2, H3, H4, H9, H10, H12, Hk⟩
    unfold denseK
    sl_exec_parts!
    iapply Hk
    isplitl [H2]
    · iexact H2
    isplitl [H3]
    · iexact H3
    isplitl [H4]
    · iexact H4
    isplitl [H9]
    · iexact H9
    isplitl [H10]
    · iexact H10
    iexact H12

noncomputable def foldRun (v3 : BitVec 32) (k0_h30 : k0_cond30 v3 = 1#1) (f2 : Bf F c M2) (f3 : Bf F c M3) (f4 : Bf F c M4) (f9 : Bf F c M9) (f11 : Bf F c M11) (f12 : Bf F c M12) (f13 : Bf F c M13) (f14 : Bf F c M14)
    (hs : SlotsOk c M14 f14) :
    { W : Bf F c M4 //
      ∀ (E : Set ℕ) (Q : PUnit → sProp 𝕄) (k : Prog (TpuEff nD τ sig (Elt F) Λ₀ .tc) PUnit),
        iprop(pt c M2 f2 ∗ pt c M3 f3 ∗ pt c M4 f4 ∗ pt c M9 f9 ∗ pt c M11 f11 ∗ pt c M12 f12 ∗ pt c M13 f13 ∗ pt c M14 f14
          ∗ (iprop(pt c M2 f2 ∗ pt c M3 f3 ∗ pt c M4 W ∗ pt c M9 f9 ∗ pt c M11 f11 ∗ pt c M12 f12 ∗ pt c M13 f13 ∗ pt c M14 f14) -∗ wp frame (wpE (defs₀ (F := F)) Variants.none c none) E k Q))
        ⊢ wp frame (wpE (defs₀ (F := F)) Variants.none c none) E (foldK i M1 h1 M2 h2 M3 h3 M4 h4 M5 h5 M6 h6 M7 h7 M8 h8 M9 h9 M10 h10 M11 h11 M12 h12 M13 h13 M14 h14 M15 h15 v3 k0_h30 k) Q } := by
  refine ⟨?_, fun E Q k => ?run⟩
  case run =>
    iintro ⟨H2, H3, H4, H9, H11, H12, H13, H14, Hk⟩
    unfold foldK
    sl_exec_parts! (disch := (refine chk3 ?_; exact hs _ _))
    iapply Hk
    isplitl [H2]
    · iexact H2
    isplitl [H3]
    · iexact H3
    isplitl [H4]
    · iexact H4
    isplitl [H9]
    · iexact H9
    isplitl [H11]
    · iexact H11
    isplitl [H12]
    · iexact H12
    isplitl [H13]
    · iexact H13
    iexact H14

end Cert.KernelIdeal.Hand

end
-- ==== Proof.Body.lean ====
module

public import proofs.«01_k».proof.Proof.Pro
public import proofs.«01_k».proof.Proof.Tail

@[expose] public section

set_option maxHeartbeats 1000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Slots

variable {c : Dev nD} {M10 : Memref sig .tc .vmem S256x3584 .bf16}
    {M11 : Memref sig .tc .vmem S256x256 .bf16} {h11 : M11.IsWhole}
    {M13 : Memref sig .tc .vmem S2x8x128 .i32} {M14 : Memref sig .tc .smem S8 .i32}

/-- Every word of the slots, read one by one, is a chunk number. -/
def SlotsR (f14 : Bf F c M14) : Prop := ∀ j, Small 27 (M14.view.read (Elt F) f14 j)

theorem SlotsR.ok {f14 : Bf F c M14} (h : SlotsR (M14 := M14) f14) : SlotsOk c M14 f14 := fun _ _ => h _

theorem gstep_slots {C : Prop} [Decidable C] {o1 : Fin 1 → ℕ} {o2 o3 : Fin 3 → ℕ} {oc : Fin 2 → ℕ}
    {ic : ∀ a, oc a + S256x128.size a ≤ S256x3584.size a} {w : BitVec 32} {m0 m1 : IVec S1x128 32}
    {i1 : C → ∀ a, o1 a + S1.size a ≤ S8.size a}
    {i2 : C → ∀ a, o2 a + S1x1x128.size a ≤ S2x8x128.size a}
    {i3 : C → ∀ a, o3 a + S1x1x128.size a ≤ S2x8x128.size a}
    {f10 : Bf F c M10} {S : St F c M11 M13 M14} (hw : Small 27 w) (h : SlotsR (M14 := M14) S.2.2) :
    SlotsR (M14 := M14) (gstep c M10 M11 h11 M13 M14 C o1 o2 o3 oc ic w m0 m1 i1 i2 i3 f10 S).2.2 := by
  unfold gstep
  split
  · rename_i hC
    intro j
    show Small 27 (M14.view.read (Elt F) (M14.view.writes (Elt F) S.2.2
      [⟨Rect.unit (s := S8) o1 S1.size (i1 hC), fun _ => w⟩]) j)
    by_cases hj : j ∈ (Rect.unit (s := S8) o1 S1.size (i1 hC)).set
    · obtain ⟨x, rfl⟩ := (Rect.unit (s := S8) o1 S1.size (i1 hC)).exists_idx_of_mem hj
      refine (congrArg (Small 27) (View.read_writes_cons_emb M14.view S.2.2 (Rect.unit (s := S8) o1 S1.size (i1 hC)) (fun _ => w) [] x)).mpr hw
    · rw [View.read_writes_cons_miss (hy := hj)]; exact h j
  · exact h

end Slots

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

theorem pro_slots (k0_h1 : k0_cond1 i = 1#1)
    (f1 : Bf F c M1) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) :
    SlotsR (M14 := M14) (proRun c i M1 h1 M2 h2 M3 h3 M4 h4 M5 h5 M6 h6 M7 h7 M8 h8 M9 h9 M10 h10 M11 h11 M12 h12 M13 h13 M14 h14 M15 h15 k0_h1 f1 f5 f6 f7 f8 f9 f10 f11 f12 f13 f14 f15).1.st.2.2 := by
  unfold proRun
  dsimp only
  iterate 28 refine gstep_slots (by unfold Small; decide) ?_
  intro j
  dsimp only
  rw [View.read_writes_apply_of_pieces _ _ (fun _ => 0#32) _ (by simp) j (View.cover_of_tiled _ ![1] rfl j)]
  exact small_zero 27

/-- The dense path, taken when the plan does not fold. -/
noncomputable def k2 : Prog (TpuEff nD τ sig (Elt F) Λ₀ .tc) PUnit := do
  let v7 : Elt F .i32 ← smemLoad M15 (Rect.unit (s := S1) ![0] S1.size inb_S1_S1_0) numel1_S1 rfl
  if Scalar.cmpi .ne (Scalar.extui (Scalar.cmpi .eq v7 0#32) : BitVec 32) 0#32 = 1#1 then
    denseK i M1 h1 M2 h2 M3 h3 M4 h4 M5 h5 M6 h6 M7 h7 M8 h8 M9 h9 M10 h10 M11 h11 M12 h12 M13 h13 M14 h14 M15 h15 (pure ⟨⟩)
  else pure ⟨⟩

/-- What every point does after the prologue. -/
noncomputable def tailP : Prog (TpuEff nD τ sig (Elt F) Λ₀ .tc) PUnit := do
  let v3 : Elt F .i32 ← smemLoad M15 (Rect.unit (s := S1) ![0] S1.size inb_S1_S1_0) numel1_S1 rfl
  if k0_h30 : k0_cond30 v3 = 1#1 then
    foldK i M1 h1 M2 h2 M3 h3 M4 h4 M5 h5 M6 h6 M7 h7 M8 h8 M9 h9 M10 h10 M11 h11 M12 h12 M13 h13 M14 h14 M15 h15 v3 k0_h30 (k2 i M1 h1 M2 h2 M3 h3 M4 h4 M5 h5 M6 h6 M7 h7 M8 h8 M9 h9 M10 h10 M11 h11 M12 h12 M13 h13 M14 h14 M15 h15)
  else k2 i M1 h1 M2 h2 M3 h3 M4 h4 M5 h5 M6 h6 M7 h7 M8 h8 M9 h9 M10 h10 M11 h11 M12 h12 M13 h13 M14 h14 M15 h15

theorem cc0_pos (h : k0_cond1 i = 1#1) :
    cc0_llm_int8_linear (F := F) i M1 h1 M2 h2 M3 h3 M4 h4 M5 h5 M6 h6 M7 h7 M8 h8 M9 h9 M10 h10 M11 h11 M12 h12 M13 h13 M14 h14 M15 h15 = proK i M1 h1 M2 h2 M3 h3 M4 h4 M5 h5 M6 h6 M7 h7 M8 h8 M9 h9 M10 h10 M11 h11 M12 h12 M13 h13 M14 h14 M15 h15 h (tailP i M1 h1 M2 h2 M3 h3 M4 h4 M5 h5 M6 h6 M7 h7 M8 h8 M9 h9 M10 h10 M11 h11 M12 h12 M13 h13 M14 h14 M15 h15) := by
  unfold cc0_llm_int8_linear
  exact dif_pos h

theorem cc0_neg (h : ¬ k0_cond1 i = 1#1) :
    cc0_llm_int8_linear (F := F) i M1 h1 M2 h2 M3 h3 M4 h4 M5 h5 M6 h6 M7 h7 M8 h8 M9 h9 M10 h10 M11 h11 M12 h12 M13 h13 M14 h14 M15 h15 = tailP i M1 h1 M2 h2 M3 h3 M4 h4 M5 h5 M6 h6 M7 h7 M8 h8 M9 h9 M10 h10 M11 h11 M12 h12 M13 h13 M14 h14 M15 h15 := by
  unfold cc0_llm_int8_linear
  exact dif_neg h

/-- The word that says whether the plan folds. -/
noncomputable def ctlW (f15 : Bf F c M15) : BitVec 32 :=
  View.readAt (Elt F) M15.view (Rect.unit (s := S1) ![0] S1.size inb_S1_S1_0).toLoadRect f15 (Shape.Idx.first (numel1_S1.symm ▸ Nat.one_pos))

/-- The condition of the dense path. -/
abbrev densC (w : BitVec 32) : BitVec 1 := Scalar.cmpi .ne (Scalar.extui (Scalar.cmpi .eq w 0#32) : BitVec 32) 0#32

/-- The output's block after the dense path, taken or not. -/
noncomputable def k2W (f2 : Bf F c M2) (f3 : Bf F c M3) (f4 : Bf F c M4) (f9 : Bf F c M9) (f10 : Bf F c M10) (f12 : Bf F c M12) (f15 : Bf F c M15) : Bf F c M4 :=
  if densC (ctlW c M15 f15) = 1#1 then (denseRun c i M1 h1 M2 h2 M3 h3 M4 h4 M5 h5 M6 h6 M7 h7 M8 h8 M9 h9 M10 h10 M11 h11 M12 h12 M13 h13 M14 h14 M15 h15 f2 f3 f4 f9 f10 f12).1 else f4

/-- The output's block after a point. -/
noncomputable def tailW (f2 : Bf F c M2) (f3 : Bf F c M3) (f4 : Bf F c M4) (f9 : Bf F c M9) (f10 : Bf F c M10) (f11 : Bf F c M11) (f12 : Bf F c M12) (f13 : Bf F c M13) (f14 : Bf F c M14) (f15 : Bf F c M15)
    (hs : SlotsOk c M14 f14) : Bf F c M4 :=
  if h : k0_cond30 (ctlW c M15 f15) = 1#1 then
    k2W c i M1 h1 M2 h2 M3 h3 M4 h4 M5 h5 M6 h6 M7 h7 M8 h8 M9 h9 M10 h10 M11 h11 M12 h12 M13 h13 M14 h14 M15 h15 f2 f3 (foldRun c i M1 h1 M2 h2 M3 h3 M4 h4 M5 h5 M6 h6 M7 h7 M8 h8 M9 h9 M10 h10 M11 h11 M12 h12 M13 h13 M14 h14 M15 h15 (ctlW c M15 f15) h f2 f3 f4 f9 f11 f12 f13 f14 hs).1 f9 f10 f12 f15
  else k2W c i M1 h1 M2 h2 M3 h3 M4 h4 M5 h5 M6 h6 M7 h7 M8 h8 M9 h9 M10 h10 M11 h11 M12 h12 M13 h13 M14 h14 M15 h15 f2 f3 f4 f9 f10 f12 f15

theorem k2Run (f2 : Bf F c M2) (f3 : Bf F c M3) (f4 : Bf F c M4) (f9 : Bf F c M9) (f10 : Bf F c M10) (f12 : Bf F c M12) (f15 : Bf F c M15)
    (E : Set ℕ) (Q : PUnit → sProp 𝕄) :
        iprop(pt c M2 f2 ∗ pt c M3 f3 ∗ pt c M4 f4 ∗ pt c M9 f9 ∗ pt c M10 f10 ∗ pt c M12 f12 ∗ pt c M15 f15
          ∗ (iprop(pt c M2 f2 ∗ pt c M3 f3 ∗ pt c M4 (k2W c i M1 h1 M2 h2 M3 h3 M4 h4 M5 h5 M6 h6 M7 h7 M8 h8 M9 h9 M10 h10 M11 h11 M12 h12 M13 h13 M14 h14 M15 h15 f2 f3 f4 f9 f10 f12 f15) ∗ pt c M9 f9 ∗ pt c M10 f10 ∗ pt c M12 f12 ∗ pt c M15 f15) -∗ Q ⟨⟩))
        ⊢ wp frame (wpE (defs₀ (F := F)) Variants.none c none) E (k2 i M1 h1 M2 h2 M3 h3 M4 h4 M5 h5 M6 h6 M7 h7 M8 h8 M9 h9 M10 h10 M11 h11 M12 h12 M13 h13 M14 h14 M15 h15) Q := by
  iintro ⟨H2, H3, H4, H9, H10, H12, H15, Hk⟩
  unfold k2
  set_option sl_exec.stopBefore "denseK" in
  sl_exec
  by_cases h : densC (ctlW c M15 f15) = 1#1
  · rw [show k2W c i M1 h1 M2 h2 M3 h3 M4 h4 M5 h5 M6 h6 M7 h7 M8 h8 M9 h9 M10 h10 M11 h11 M12 h12 M13 h13 M14 h14 M15 h15 f2 f3 f4 f9 f10 f12 f15 = (denseRun c i M1 h1 M2 h2 M3 h3 M4 h4 M5 h5 M6 h6 M7 h7 M8 h8 M9 h9 M10 h10 M11 h11 M12 h12 M13 h13 M14 h14 M15 h15 f2 f3 f4 f9 f10 f12).1 from if_pos h,
      if_pos (show Scalar.cmpi .ne (Scalar.extui (Scalar.cmpi .eq (k2Run.sl.r c M15 f15) 0#32) : BitVec 32) 0#32 = 1#1 from h)]
    iapply (denseRun c i M1 h1 M2 h2 M3 h3 M4 h4 M5 h5 M6 h6 M7 h7 M8 h8 M9 h9 M10 h10 M11 h11 M12 h12 M13 h13 M14 h14 M15 h15 f2 f3 f4 f9 f10 f12).2
    isplitl [H2]
    · iexact H2
    isplitl [H3]
    · iexact H3
    isplitl [H4]
    · iexact H4
    isplitl [H9]
    · iexact H9
    isplitl [H10]
    · iexact H10
    isplitl [H12]
    · iexact H12
    iintro ⟨H2, H3, H4, H9, H10, H12⟩
    sl_step
    iapply Hk
    isplitl [H2]
    · iexact H2
    isplitl [H3]
    · iexact H3
    isplitl [H4]
    · iexact H4
    isplitl [H9]
    · iexact H9
    isplitl [H10]
    · iexact H10
    isplitl [H12]
    · iexact H12
    iexact H15
  · rw [show k2W c i M1 h1 M2 h2 M3 h3 M4 h4 M5 h5 M6 h6 M7 h7 M8 h8 M9 h9 M10 h10 M11 h11 M12 h12 M13 h13 M14 h14 M15 h15 f2 f3 f4 f9 f10 f12 f15 = f4 from if_neg h,
      if_neg (show ¬ (Scalar.cmpi .ne (Scalar.extui (Scalar.cmpi .eq (k2Run.sl.r c M15 f15) 0#32) : BitVec 32) 0#32 = 1#1) from h)]
    sl_step
    iapply Hk
    isplitl [H2]
    · iexact H2
    isplitl [H3]
    · iexact H3
    isplitl [H4]
    · iexact H4
    isplitl [H9]
    · iexact H9
    isplitl [H10]
    · iexact H10
    isplitl [H12]
    · iexact H12
    iexact H15

theorem tailRun (f2 : Bf F c M2) (f3 : Bf F c M3) (f4 : Bf F c M4) (f9 : Bf F c M9) (f10 : Bf F c M10) (f11 : Bf F c M11) (f12 : Bf F c M12) (f13 : Bf F c M13) (f14 : Bf F c M14) (f15 : Bf F c M15)
    (hs : SlotsOk c M14 f14) (E : Set ℕ) (Q : PUnit → sProp 𝕄) :
        iprop(pt c M2 f2 ∗ pt c M3 f3 ∗ pt c M4 f4 ∗ pt c M9 f9 ∗ pt c M10 f10 ∗ pt c M11 f11 ∗ pt c M12 f12 ∗ pt c M13 f13 ∗ pt c M14 f14 ∗ pt c M15 f15
          ∗ (iprop(pt c M2 f2 ∗ pt c M3 f3 ∗ pt c M4 (tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs) ∗ pt c M9 f9 ∗ pt c M10 f10 ∗ pt c M11 f11 ∗ pt c M12 f12 ∗ pt c M13 f13 ∗ pt c M14 f14 ∗ pt c M15 f15) -∗ Q ⟨⟩))
        ⊢ wp frame (wpE (defs₀ (F := F)) Variants.none c none) E (tailP i M1 h1 M2 h2 M3 h3 M4 h4 M5 h5 M6 h6 M7 h7 M8 h8 M9 h9 M10 h10 M11 h11 M12 h12 M13 h13 M14 h14 M15 h15) Q := by
  iintro ⟨H2, H3, H4, H9, H10, H11, H12, H13, H14, H15, Hk⟩
  unfold tailP
  sl_exec
  by_cases h : k0_cond30 (ctlW c M15 f15) = 1#1
  · rw [show tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs = k2W c i M1 h1 M2 h2 M3 h3 M4 h4 M5 h5 M6 h6 M7 h7 M8 h8 M9 h9 M10 h10 M11 h11 M12 h12 M13 h13 M14 h14 M15 h15 f2 f3 (foldRun c i M1 h1 M2 h2 M3 h3 M4 h4 M5 h5 M6 h6 M7 h7 M8 h8 M9 h9 M10 h10 M11 h11 M12 h12 M13 h13 M14 h14 M15 h15 (ctlW c M15 f15) h f2 f3 f4 f9 f11 f12 f13 f14 hs).1 f9 f10 f12 f15 from dif_pos h,
      dif_pos (show k0_cond30 (tailRun.sl.r c M15 f15) = 1#1 from h)]
    iapply (foldRun c i M1 h1 M2 h2 M3 h3 M4 h4 M5 h5 M6 h6 M7 h7 M8 h8 M9 h9 M10 h10 M11 h11 M12 h12 M13 h13 M14 h14 M15 h15 (ctlW c M15 f15) h f2 f3 f4 f9 f11 f12 f13 f14 hs).2
    isplitl [H2]
    · iexact H2
    isplitl [H3]
    · iexact H3
    isplitl [H4]
    · iexact H4
    isplitl [H9]
    · iexact H9
    isplitl [H11]
    · iexact H11
    isplitl [H12]
    · iexact H12
    isplitl [H13]
    · iexact H13
    isplitl [H14]
    · iexact H14
    iintro ⟨H2, H3, H4, H9, H11, H12, H13, H14⟩
    iapply k2Run
    isplitl [H2]
    · iexact H2
    isplitl [H3]
    · iexact H3
    isplitl [H4]
    · iexact H4
    isplitl [H9]
    · iexact H9
    isplitl [H10]
    · iexact H10
    isplitl [H12]
    · iexact H12
    isplitl [H15]
    · iexact H15
    iintro ⟨H2, H3, H4, H9, H10, H12, H15⟩
    iapply Hk
    isplitl [H2]
    · iexact H2
    isplitl [H3]
    · iexact H3
    isplitl [H4]
    · iexact H4
    isplitl [H9]
    · iexact H9
    isplitl [H10]
    · iexact H10
    isplitl [H11]
    · iexact H11
    isplitl [H12]
    · iexact H12
    isplitl [H13]
    · iexact H13
    isplitl [H14]
    · iexact H14
    iexact H15
  · rw [show tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs = k2W c i M1 h1 M2 h2 M3 h3 M4 h4 M5 h5 M6 h6 M7 h7 M8 h8 M9 h9 M10 h10 M11 h11 M12 h12 M13 h13 M14 h14 M15 h15 f2 f3 f4 f9 f10 f12 f15 from dif_neg h,
      dif_neg (show ¬ (k0_cond30 (tailRun.sl.r c M15 f15) = 1#1) from h)]
    iapply k2Run
    isplitl [H2]
    · iexact H2
    isplitl [H3]
    · iexact H3
    isplitl [H4]
    · iexact H4
    isplitl [H9]
    · iexact H9
    isplitl [H10]
    · iexact H10
    isplitl [H12]
    · iexact H12
    isplitl [H15]
    · iexact H15
    iintro ⟨H2, H3, H4, H9, H10, H12, H15⟩
    iapply Hk
    isplitl [H2]
    · iexact H2
    isplitl [H3]
    · iexact H3
    isplitl [H4]
    · iexact H4
    isplitl [H9]
    · iexact H9
    isplitl [H10]
    · iexact H10
    isplitl [H11]
    · iexact H11
    isplitl [H12]
    · iexact H12
    isplitl [H13]
    · iexact H13
    isplitl [H14]
    · iexact H14
    iexact H15

/-- The first point, run: the prologue, then its tile. -/
theorem body_pos (h : k0_cond1 i = 1#1) (f1 : Bf F c M1) (f2 : Bf F c M2) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15)
    (W : After F c M5 M6 M7 M8 M9 M10 M11 M12 M13 M14 M15) (hW : W = (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1)
    (hs : SlotsOk c M14 W.st.2.2) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
      ∗ (iprop(pt c M1 f1 ∗ pt c M2 f2 ∗ pt c M3 f3 ∗ pt c M4 (tailW c i M1 h1 M2 h2 M3 h3 M4 h4 M5 h5 M6 h6 M7 h7 M8 h8 M9 h9 M10 h10 M11 h11 M12 h12 M13 h13 M14 h14 M15 h15 f2 f3 f4 W.q W.xo W.st.1 W.sb W.st.2.1 W.st.2.2 W.ctl hs) ∗ pt c M5 W.mask ∗ pt c M6 W.codes ∗ pt c M7 W.scales ∗ pt c M8 W.zero ∗ pt c M9 W.q ∗ pt c M10 W.xo ∗ pt c M11 W.st.1 ∗ pt c M12 W.sb ∗ pt c M13 W.st.2.1 ∗ pt c M14 W.st.2.2 ∗ pt c M15 W.ctl) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [cc0_pos (h := h)]
  iintro ⟨H1, H2, H3, H4, H5, H6, H7, H8, H9, H10, H11, H12, H13, H14, H15, Hk⟩
  iapply (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).2
  isplitl [H1]
  · iexact H1
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  rw [← hW]
  unfold stRes
  iintro ⟨H1, H5, H6, H7, H8, H9, H12, H15, H10, H11, H13, H14⟩
  iapply (tailRun c i M1 h1 M2 h2 M3 h3 M4 h4 M5 h5 M6 h6 M7 h7 M8 h8 M9 h9 M10 h10 M11 h11 M12 h12 M13 h13 M14 h14 M15 h15 f2 f3 f4 W.q W.xo W.st.1 W.sb W.st.2.1 W.st.2.2 W.ctl hs)
  isplitl [H2]
  · iexact H2
  isplitl [H3]
  · iexact H3
  isplitl [H4]
  · iexact H4
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H2, H3, H4, H9, H10, H11, H12, H13, H14, H15⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  iexact H15

/-- Any later point, run: its tile. -/
theorem body_neg (h : ¬ k0_cond1 i = 1#1) (f1 : Bf F c M1) (f2 : Bf F c M2) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15)
    (hs : SlotsOk c M14 f14) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
      ∗ (iprop(pt c M1 f1 ∗ pt c M2 f2 ∗ pt c M3 f3 ∗ pt c M4 (tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs) ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [cc0_neg (h := h)]
  iintro ⟨H1, H2, H3, H4, H5, H6, H7, H8, H9, H10, H11, H12, H13, H14, H15, Hk⟩
  iapply (tailRun c i M1 h1 M2 h2 M3 h3 M4 h4 M5 h5 M6 h6 M7 h7 M8 h8 M9 h9 M10 h10 M11 h11 M12 h12 M13 h13 M14 h14 M15 h15 f2 f3 f4 f9 f10 f11 f12 f13 f14 f15 hs)
  isplitl [H2]
  · iexact H2
  isplitl [H3]
  · iexact H3
  isplitl [H4]
  · iexact H4
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H2, H3, H4, H9, H10, H11, H12, H13, H14, H15⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  iexact H15

/-- The prologue's point is the first. -/
theorem cond1_iff : ∀ t : Fin cfg0.N, k0_cond1 (grid0.coords t) = 1#1 ↔ t.val = 0 := by decide

end Cert.KernelIdeal.Hand

end
-- ==== Proof.Fr.lean ====
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The body over what the pipeline owns -/

section Owned

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

variable {c} in
theorem own_eq {sp : Space} {S : Shape} {e : EltTy} {M : Memref sig .tc sp S e} (h : M.IsWhole) (X : S.Idx → Elt F e) :
    (owns (c : Thread nD τ) M fullShare X : sProp 𝕄) = iprop(∃ f : Bf F c M, ⌜M.view.read (Elt F) f = X⌝ ∗ pt c M f) := by
  unfold owns; rw [h.set_eq_univ]

theorem own_pos (h : k0_cond1 i = 1#1) (X1 : S256x3584.Idx → Elt F .bf16) (X2 : S512x3584.Idx → Elt F .i8) (X3 : S1x512.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, pt c M14 f) ∗ (∃ f : Bf F c M15, pt c M15 f)
      ∗ (iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, iprop(⌜SlotsR (M14 := M14) f⌝ ∗ pt c M14 f)) ∗ (∃ f : Bf F c M15, pt c M15 f)) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [own_eq h1, own_eq h2, own_eq h3]
  simp only [own_eq h4, own_eq h5, own_eq h6, own_eq h7, own_eq h8]
  iintro ⟨⟨%f1, %e1, H1⟩, ⟨%f2, %e2, H2⟩, ⟨%f3, %e3, H3⟩, ⟨%X4, %f4, -, H4⟩, ⟨%X5, %f5, -, H5⟩, ⟨%X6, %f6, -, H6⟩, ⟨%X7, %f7, -, H7⟩, ⟨%X8, %f8, -, H8⟩, ⟨%f9, H9⟩, ⟨%f10, H10⟩, ⟨%f11, H11⟩, ⟨%f12, H12⟩, ⟨%f13, H13⟩, ⟨%f14, H14⟩, ⟨%f15, H15⟩, Hk⟩
  have hs := pro_slots c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15
  iapply (body_pos c i M1 h1 M2 h2 M3 h3 M4 h4 M5 h5 M6 h6 M7 h7 M8 h8 M9 h9 M10 h10 M11 h11 M12 h12 M13 h13 M14 h14 M15 h15 h f1 f2 f3 f4 f5 f6 f7 f8 f9 f10 f11 f12 f13 f14 f15 _ rfl hs.ok)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H1, H2, H3, H4, H5, H6, H7, H8, H9, H10, H11, H12, H13, H14, H15⟩
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; isplitr; swap; · iexact H14
    ipureintro; exact hs
  iexists _; iexact H15

theorem own_neg (h : ¬ k0_cond1 i = 1#1) (X1 : S256x3584.Idx → Elt F .bf16) (X2 : S512x3584.Idx → Elt F .i8) (X3 : S1x512.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, iprop(⌜SlotsR (M14 := M14) f⌝ ∗ pt c M14 f)) ∗ (∃ f : Bf F c M15, pt c M15 f)
      ∗ (iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, iprop(⌜SlotsR (M14 := M14) f⌝ ∗ pt c M14 f)) ∗ (∃ f : Bf F c M15, pt c M15 f)) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [own_eq h1, own_eq h2, own_eq h3]
  simp only [own_eq h4, own_eq h5, own_eq h6, own_eq h7, own_eq h8]
  iintro ⟨⟨%f1, %e1, H1⟩, ⟨%f2, %e2, H2⟩, ⟨%f3, %e3, H3⟩, ⟨%X4, %f4, -, H4⟩, ⟨%X5, %f5, -, H5⟩, ⟨%X6, %f6, -, H6⟩, ⟨%X7, %f7, -, H7⟩, ⟨%X8, %f8, -, H8⟩, ⟨%f9, H9⟩, ⟨%f10, H10⟩, ⟨%f11, H11⟩, ⟨%f12, H12⟩, ⟨%f13, H13⟩, ⟨%f14, %hs, H14⟩, ⟨%f15, H15⟩, Hk⟩
  iapply (body_neg c i M1 h1 M2 h2 M3 h3 M4 h4 M5 h5 M6 h6 M7 h7 M8 h8 M9 h9 M10 h10 M11 h11 M12 h12 M13 h13 M14 h14 M15 h15 h f1 f2 f3 f4 f5 f6 f7 f8 f9 f10 f11 f12 f13 f14 f15 hs.ok)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H1, H2, H3, H4, H5, H6, H7, H8, H9, H10, H11, H12, H13, H14, H15⟩
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; isplitr; swap; · iexact H14
    ipureintro; exact hs
  iexists _; iexact H15

end Owned

/-! ## The proof data of the frame -/

variable (m : (ℓ : Loc nD τ sig) → Buf (Elt F) ℓ) (ρ : Dev nD → PrngReg)

/-- Between points: the scratch buffers at some contents, every slot a chunk number. -/
def PhiS (c : Dev nD) : sProp 𝕄 :=
  iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Bf F c (Memref.whole cc0_scratch5), iprop(⌜SlotsR (M14 := Memref.whole cc0_scratch5) f⌝ ∗ pt c (Memref.whole cc0_scratch5) f)) ∗ (∃ f : Buf (Elt F) ((c : Thread nD τ).loc cc0_scratch6), ((c : Thread nD τ).loc cc0_scratch6) ↦{fullShare} f)) ∗ ∃ r, prngReg c r)

theorem PhiS_out (c : Dev nD) : PhiS (F := F) c ⊢ Pipeline.ΦA spec0 c := by
  unfold PhiS Pipeline.ΦA
  rw [scopedRest0_eq]
  iintro ⟨⟨H0, H1, H2, H3, H4, ⟨%f, -, H5⟩, H6⟩, Hg⟩
  isplitr [Hg]
  · isplitl [H0]; · iexact H0
    isplitl [H1]; · iexact H1
    isplitl [H2]; · iexact H2
    isplitl [H3]; · iexact H3
    isplitl [H4]; · iexact H4
    isplitl [H5]; · iexists f; iexact H5
    iexact H6
  iexact Hg

/-- The five outputs are forgotten: a frame reads none of them. -/
def forgets0 : Fin 8 → Bool := fun w => decide (3 ≤ w.val)

def fdats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | w => Pipeline.Dat.unnamed (cfg := cfg0) w t
  Φ t := if t.val = 0 then Pipeline.ΦA spec0 c else PhiS c
  q _ := fullShare
  owed _ := 0

theorem fA_eq (c : Dev nD) (w : Fin cfg0.W) : (fdats m 0 c).A w = V m c (Pipeline.arrRef spec0 w) := by dsimp only [fdats]

def fPre (c : Dev nD) (t : Fin cfg0.N) : sProp 𝕄 :=
  iprop((fdats m 0 c).Φ t.castSucc ∗ (fdats m 0 c).owesAt () t.castSucc ∗ (∃ d, owns (c : Thread nD τ) (st0_0 t) fullShare ((fdats m 0 c).before 0 t d)) ∗ (∃ d, owns (c : Thread nD τ) (st0_1 t) fullShare ((fdats m 0 c).before 1 t d)) ∗ (∃ d, owns (c : Thread nD τ) (st0_2 t) fullShare ((fdats m 0 c).before 2 t d)) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X))
def fPost (c : Dev nD) (t : Fin cfg0.N) : sProp 𝕄 :=
  iprop((fdats m 0 c).Φ t.succ ∗ (fdats m 0 c).owesAt () t.succ ∗ owns (c : Thread nD τ) (st0_0 t) fullShare ((fdats m 0 c).after 0 t) ∗ owns (c : Thread nD τ) (st0_1 t) fullShare ((fdats m 0 c).after 1 t) ∗ owns (c : Thread nD τ) (st0_2 t) fullShare ((fdats m 0 c).after 2 t) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X))

theorem fΦ_pos (c : Dev nD) (t : Fin (cfg0.N + 1)) (h : t.val = 0) : (fdats m 0 c).Φ t = Pipeline.ΦA spec0 c := if_pos h
theorem fΦ_neg (c : Dev nD) (t : Fin (cfg0.N + 1)) (h : ¬ t.val = 0) : (fdats m 0 c).Φ t = PhiS c := if_neg h

set_option maxHeartbeats 4000000 in
theorem f_body (c : Dev nD) (t : Fin cfg0.N) :
    fPre m c t ⊢ wp frame (wpE (defs₀ (F := F)) Variants.none c none) Set.univ (bodyAt0 t) (fun _ => fPost m c t) := by
  unfold fPre fPost bodyAt0
  rw [show (fdats m 0 c).owesAt () t.succ = (fdats m 0 c).owesAt () t.castSucc from rfl,
    show (fdats m 0 c).Φ t.succ = PhiS c from fΦ_neg m c _ (Nat.succ_ne_zero _)]
  simp only [before0_0_of m (fdats m 0 c) rfl (fun _ => rfl), before0_1_of m (fdats m 0 c) rfl (fun _ => rfl), before0_2_of m (fdats m 0 c) rfl (fun _ => rfl)]
  rw [show (fdats m 0 c).after 0 t = iblk m c 0 t from rfl, show (fdats m 0 c).after 1 t = iblk m c 1 t from rfl, show (fdats m 0 c).after 2 t = iblk m c 2 t from rfl]
  by_cases ht : t.val = 0
  · rw [show (fdats m 0 c).Φ t.castSucc = Pipeline.ΦA spec0 c from fΦ_pos m c _ ht]
    unfold Pipeline.ΦA PhiS
    rw [scopedRest0_eq]
    iintro ⟨⟨⟨G0, G1, G2, G3, G4, G5, G6⟩, Hg⟩, HO, ⟨%d0, W0⟩, ⟨%d1, W1⟩, ⟨%d2, W2⟩, W3, W4, W5, W6, W7⟩
    iapply (own_pos c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) ((cond1_iff t).mpr ht) (iblk m c 0 t) (iblk m c 1 t) (iblk m c 2 t))
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [G0]; · iexact G0
    isplitl [G1]; · iexact G1
    isplitl [G2]; · iexact G2
    isplitl [G3]; · iexact G3
    isplitl [G4]; · iexact G4
    isplitl [G5]; · iexact G5
    isplitl [G6]; · iexact G6
    iintro ⟨W0, W1, W2, W3, W4, W5, W6, W7, G0, G1, G2, G3, G4, G5, G6⟩
    isplitl [G0 G1 G2 G3 G4 G5 G6 Hg]
    · isplitr [Hg]
      · isplitl [G0]; · iexact G0
        isplitl [G1]; · iexact G1
        isplitl [G2]; · iexact G2
        isplitl [G3]; · iexact G3
        isplitl [G4]; · iexact G4
        isplitl [G5]; · iexact G5
        iexact G6
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  · rw [show (fdats m 0 c).Φ t.castSucc = PhiS c from fΦ_neg m c _ ht]
    unfold PhiS
    iintro ⟨⟨⟨G0, G1, G2, G3, G4, G5, G6⟩, Hg⟩, HO, ⟨%d0, W0⟩, ⟨%d1, W1⟩, ⟨%d2, W2⟩, W3, W4, W5, W6, W7⟩
    iapply (own_neg c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (fun h => ht ((cond1_iff t).mp h)) (iblk m c 0 t) (iblk m c 1 t) (iblk m c 2 t))
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [G0]; · iexact G0
    isplitl [G1]; · iexact G1
    isplitl [G2]; · iexact G2
    isplitl [G3]; · iexact G3
    isplitl [G4]; · iexact G4
    isplitl [G5]; · iexact G5
    isplitl [G6]; · iexact G6
    iintro ⟨W0, W1, W2, W3, W4, W5, W6, W7, G0, G1, G2, G3, G4, G5, G6⟩
    isplitl [G0 G1 G2 G3 G4 G5 G6 Hg]
    · isplitr [Hg]
      · isplitl [G0]; · iexact G0
        isplitl [G1]; · iexact G1
        isplitl [G2]; · iexact G2
        isplitl [G3]; · iexact G3
        isplitl [G4]; · iexact G4
        isplitl [G5]; · iexact G5
        iexact G6
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7

theorem defs₀_row (t : Fin cfg0.N) : defs₀ (F := F) .tc cfg0.body (cfg0.bodyArgs t (cfg0.slots t)) = bodyAt0 t := by
  unfold defs₀; rw [Defs.onTc_tc]

theorem f_obligation (c : Dev nD) :
    BodyObligation (fdats (F := F) m 0 c) (defs₀ (F := F)) Variants.none () Set.univ forgets0 := fun t => by
  rw [bigSep_W0, bigSep_W0, defs₀_row]
  exact triple_restated (f_body m c t) rfl .rfl fun _ => .rfl

/-! ## The launch -/

theorem sfx_T : ∀ ops ∈ ([hostOps1] : List (List (HloOp τ sig (Elt F)))), ∀ op ∈ ops, ∀ b : Ref sig .tc,
    Proc.devRef .tc b ∈ op.writes → b ∈ ({main_v3, main_v4, main_v5} : Finset (Ref sig .tc)) := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, Finset.mem_singleton] at hb
    have := Proc.devRef_injective .tc hb
    subst this
    decide

set_option backward.isDefEq.respectTransparency.types false in
theorem run_main :
    θ_run defs (onTc (τ := τ) (main (F := F))) (s₀ m ρ)
      (fun r => Pipeline.RDat.FramePostR (cfgs 0) (fun c => (fdats m 0 c).toRForget forgets0) {main_v3, main_v4, main_v5} (V m) r ∧ r.2.sem = fun _ => 0) :=
  Pipeline.θ_run_frame_around_T_track_forget (Q' := _) cfgs (fdats m) (0 : Fin 1) launch0 defs₀ Variants.none forgets0 {main_v3, main_v4, main_v5} m ρ main
    (hbody := fun c => (f_obligation m c).loose) (hshare := fun c => (fdats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := fA_eq m)
    (hin := fun c => Entails.of_eq (fΦ_pos m c 0 rfl).symm) (hout := fun c => (Entails.of_eq (fΦ_neg m c (Fin.last _) (by decide))).trans (PhiS_out c))

theorem frame_main :
    θ_run defs (onTc (τ := τ) (main (F := F))) (s₀ m ρ)
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run _ _ _).mono (fun r h => ⟨fun c => ⟨
    ((h.1 c).2 main_arg0 (by decide)).trans (V_main_arg0 m c),
    (Pipeline.RDat.FramePostR.arr_in h.1 c 1 rfl).trans (V_main_arg1 m c),
    ((h.1 c).2 main_arg2 (by decide)).trans (V_main_arg2 m c)⟩, h.2⟩) (run_main m ρ)

end Cert.KernelIdeal.Hand

end
-- ==== Proof.Val.lean ====
module

public import proofs.«01_k».proof.Proof.Body
public import Idealize.ShloMosaic.Lib.ValueIdx

/-! What the prologue leaves, read through each buffer: every array is one formula of the block of inputs,
the same in each of the 28 chunks of 128 columns. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe Idealize.ShloMosaic.Tactic
open Idealize.ShloMosaic.ValueIdx (ix2)

variable {F : FTy → Type} [FloatOps F]

variable (X : S256x3584.Idx → Elt F .bf16)

theorem xinb (k : Fin 28) : ∀ a : Fin 2, (![0, 128 * k.1] : Fin 2 → ℕ) a + S256x128.size a ≤ S256x3584.size a :=
  Rect.inb₂ (Nat.le_refl 256) (by show 128 * k.1 + 128 ≤ 3584; omega)

/-- Chunk `k` of the inputs, 128 columns. -/
def xk (k : Fin 28) : Vec F S256x128 .bf16 :=
  fun x => X ((Rect.unit (s := S256x3584) ![0, 128 * k.1] S256x128.size (xinb k)).toLoadRect.idx x)

/-- The columns' count of outliers per lane, over the first `n` chunks. -/
def cntN : (n : ℕ) → n ≤ 28 → IVec S1x128 32
  | 0, _ => k0_pay117
  | n + 1, h => k0_pay139 (cntN n (by omega)) (xk X ⟨n, h⟩)
/-- The greatest normal entry per row and lane, over the first `n` chunks, from zero. -/
def hiN : (n : ℕ) → n ≤ 28 → FVec F S256x128 .bf16
  | 0, _ => k0_pay118
  | n + 1, h => k0_pay132 (hiN n (by omega)) (k0_pay128 (xk X ⟨n, h⟩))
/-- The least, from zero. -/
def loN : (n : ℕ) → n ≤ 28 → FVec F S256x128 .bf16
  | 0, _ => k0_pay119
  | n + 1, h => k0_pay133 (loN n (by omega)) (k0_pay128 (xk X ⟨n, h⟩))

/-- The scales, in every lane of their row. -/
def sbV : FVec F S256x128 .f32 := k0_pay512 (hiN X 27 (by omega)) (loN X 27 (by omega)) (k0_pay128 (xk X 27))
/-- The zero points, in every lane of their row. -/
def zbV : FVec F S256x128 .f32 := k0_pay513 (hiN X 27 (by omega)) (loN X 27 (by omega)) (k0_pay128 (xk X 27))

variable (c : Dev nD) (M1 : Memref sig .tc .vmem S256x3584 .bf16) (f1 : Bf F c M1)
theorem sbV_eq : proRun.sl.r_223 c M1 f1 = sbV (M1.view.read (Elt F) f1) := by rfl
theorem zbV_eq : proRun.sl.r_224 c M1 f1 = zbV (M1.view.read (Elt F) f1) := by rfl

/-- The chunk of a column, and the column's lane. -/
def ck (d : Fin 3584) : Fin 28 := ⟨d.1 / 128, by omega⟩
def ln (d : Fin 3584) : Fin 128 := ⟨d.1 % 128, by omega⟩

/-- An array of `R` rows given by chunks. -/
def spread {e : EltTy} {R : ℕ} (g : Fin 28 → (⟨2, ![R, 128]⟩ : Shape).Idx → Elt F e) : (⟨2, ![R, 3584]⟩ : Shape).Idx → Elt F e :=
  fun y => g (ck (y 1)) (ix2 (y 0) (ln (y 1)))

variable (M5 : Memref sig .tc .vmem S1x3584 .i32) (f5 : Bf F c M5)
/-- The arrays the prologue leaves, by chunks. -/
def maskV : S1x3584.Idx → Elt F .i32 := spread (R := 1) fun k => k0_pay122 (xk X k)
def xoV : S256x3584.Idx → Elt F .bf16 := spread (R := 256) fun k => k0_pay130 (k0_pay129 (xk X k))
def codesV : S256x3584.Idx → Elt F .i8 :=
  spread (R := 256) fun k => k0_pay521 (sbV X) (zbV X) (k0_pay122 (xk X k)) (xk X k)
def qV : S256x3584.Idx → Elt F .bf16 :=
  spread (R := 256) fun k => k0_pay522 (sbV X) (zbV X) (k0_pay122 (xk X k)) (xk X k)

theorem ck_emb (o : ℕ) (n : ℕ) (hn : n < 28) (x : Fin 128) (d : Fin 3584) (ho : o = 128 * n) (hd : d.1 = o + 1 * x.1) :
    ck d = ⟨n, hn⟩ ∧ ln d = x := by
  constructor <;> (apply Fin.ext; simp only [ck, ln]; omega)

/-- A piece over one chunk of an array of `R` rows whose value is a function `g` of the chunk agrees with that
    function of the column's chunk. -/
theorem piece_ok {e : EltTy} {R : ℕ} (g : Fin 28 → (⟨2, ![R, 128]⟩ : Shape).Idx → Elt F e) (o : ℕ)
    (ib : ∀ a : Fin 2, (![0, o] : Fin 2 → ℕ) a + (⟨2, ![R, 128]⟩ : Shape).size a ≤ (⟨2, ![R, 3584]⟩ : Shape).size a)
    (w : (⟨2, ![R, 128]⟩ : Shape).Idx → Elt F e) (hn : o / 128 < 28) (ho : o = 128 * (o / 128)) (hw : w = g ⟨o / 128, hn⟩) (x : (⟨2, ![R, 128]⟩ : Shape).Idx) :
    w x = spread g ((Rect.unit (s := ⟨2, ![R, 3584]⟩) ![0, o] (⟨2, ![R, 128]⟩ : Shape).size ib).emb x) := by
  obtain ⟨h1, h2⟩ := ck_emb o (o / 128) hn (x 1) ((Rect.unit (s := ⟨2, ![R, 3584]⟩) ![0, o] (⟨2, ![R, 128]⟩ : Shape).size ib).emb x 1) ho rfl
  have h0 : (Rect.unit (s := ⟨2, ![R, 3584]⟩) ![0, o] (⟨2, ![R, 128]⟩ : Shape).size ib).emb x 0 = x 0 := Fin.ext (by
    show 0 + 1 * (x 0).1 = (x 0).1; omega)
  show _ = g _ _
  rw [h1, h2, h0, hw]
  congr 1
  funext a
  match a with
  | ⟨0, _⟩ => rfl
  | ⟨1, _⟩ => rfl

theorem mask_pieces : ∀ p ∈ proRun.sl.H5_28 c M1 f1, ∀ x : p.1.shape.Idx, p.2 x = maskV (M1.view.read (Elt F) f1) (p.1.emb x) := by
  unfold maskV
  iterate 28
    refine List.forall_mem_cons.mpr ⟨piece_ok (R := 1) _ _ (by decide) _ (by decide) (by decide) rfl, ?_⟩
  exact fun p hp => absurd hp List.not_mem_nil

theorem read_mask (y : S1x3584.Idx) : M5.view.read (Elt F) (M5.view.writes (Elt F) f5 (proRun.sl.H5_28 c M1 f1)) y = maskV (M1.view.read (Elt F) f1) y :=
  View.read_writes_apply_of_pieces (s := S1x3584) _ _ (maskV (M1.view.read (Elt F) f1)) _ (mask_pieces c M1 f1) y
    (View.cover_of_tiled (s := S1x3584) (proRun.sl.H5_28 c M1 f1) S1x128.size rfl y)

variable (M6 : Memref sig .tc .vmem S256x3584 .i8) (f6 : Bf F c M6)
  (M9 : Memref sig .tc .vmem S256x3584 .bf16) (f9 : Bf F c M9)
  (M10 : Memref sig .tc .vmem S256x3584 .bf16) (f10 : Bf F c M10)

/-- The mask loaded back is the chunk's own. -/
theorem mask_back (o : ℕ) (ib : ∀ a : Fin 2, (![0, o] : Fin 2 → ℕ) a + S1x128.size a ≤ S1x3584.size a) (hn : o / 128 < 28) (ho : o = 128 * (o / 128)) :
    M5.view.readCov (Val := Elt F) (proRun.sl.H5_28 c M1 f1) (Rect.unit (s := S1x3584) ![0, o] S1x128.size ib).toLoadRect = k0_pay122 (xk (M1.view.read (Elt F) f1) ⟨o / 128, hn⟩) := by
  funext x
  exact (read_mask c M1 f1 M5 _ _).trans (piece_ok (F := F) (e := .i32) (R := 1) (fun k => k0_pay122 (xk (M1.view.read (Elt F) f1) k)) o ib (k0_pay122 (xk (M1.view.read (Elt F) f1) ⟨o / 128, hn⟩)) hn ho rfl x).symm

theorem xo_pieces : ∀ p ∈ proRun.sl.H10_28 c M1 f1, ∀ x : p.1.shape.Idx, p.2 x = xoV (M1.view.read (Elt F) f1) (p.1.emb x) := by
  unfold xoV
  iterate 28
    refine List.forall_mem_cons.mpr ⟨piece_ok (R := 256) _ _ (by decide) _ (by decide) (by decide) rfl, ?_⟩
  exact fun p hp => absurd hp List.not_mem_nil

theorem read_xo (y : S256x3584.Idx) : M10.view.read (Elt F) (M10.view.writes (Elt F) f10 (proRun.sl.H10_28 c M1 f1)) y = xoV (M1.view.read (Elt F) f1) y :=
  View.read_writes_apply_of_pieces (s := S256x3584) _ _ (xoV (M1.view.read (Elt F) f1)) _ (xo_pieces c M1 f1) y
    (View.cover_of_tiled (s := S256x3584) (proRun.sl.H10_28 c M1 f1) S256x128.size rfl y)

/-- The codes' piece of a chunk, from the mask loaded back. -/
def codesOf (m : Fin 28 → Vec F S1x128 .i32) (k : Fin 28) : IVec S256x128 8 :=
  k0_pay521 (sbV X) (zbV X) (m k) (xk X k)
def qOf (m : Fin 28 → Vec F S1x128 .i32) (k : Fin 28) : FVec F S256x128 .bf16 :=
  k0_pay522 (sbV X) (zbV X) (m k) (xk X k)
theorem minb (k : Fin 28) : ∀ a : Fin 2, (![0, 128 * k.1] : Fin 2 → ℕ) a + S1x128.size a ≤ S1x3584.size a :=
  Rect.inb₂ (Nat.le_refl 1) (by show 128 * k.1 + 128 ≤ 3584; omega)
def mb (k : Fin 28) : Vec F S1x128 .i32 :=
  M5.view.readCov (Val := Elt F) (proRun.sl.H5_28 c M1 f1) (Rect.unit (s := S1x3584) ![0, 128 * k.1] S1x128.size (minb k)).toLoadRect
theorem mb_eq : mb c M1 f1 M5 = fun k => k0_pay122 (xk (M1.view.read (Elt F) f1) k) := by
  funext k
  refine (mask_back c M1 f1 M5 (128 * k.1) (minb k) (by omega) (by omega)).trans ?_
  congr 2
  exact Fin.ext (by show 128 * k.1 / 128 = k.1; omega)

theorem codes_pieces : ∀ p ∈ proRun.sl.H6_28 c M1 M5 f1, ∀ x : p.1.shape.Idx, p.2 x = codesV (M1.view.read (Elt F) f1) (p.1.emb x) := by
  have e : codesV (M1.view.read (Elt F) f1) = spread (R := 256) fun k => codesOf (M1.view.read (Elt F) f1) (mb c M1 f1 M5) k := by
    rw [mb_eq]; rfl
  rw [e]
  iterate 28
    refine List.forall_mem_cons.mpr ⟨piece_ok (R := 256) _ _ (by decide) _ (by decide) (by decide) rfl, ?_⟩
  exact fun p hp => absurd hp List.not_mem_nil

theorem read_codes (y : S256x3584.Idx) : M6.view.read (Elt F) (M6.view.writes (Elt F) f6 (proRun.sl.H6_28 c M1 M5 f1)) y = codesV (M1.view.read (Elt F) f1) y :=
  View.read_writes_apply_of_pieces (s := S256x3584) _ _ (codesV (M1.view.read (Elt F) f1)) _ (codes_pieces c M1 f1 M5) y
    (View.cover_of_tiled (s := S256x3584) (proRun.sl.H6_28 c M1 M5 f1) S256x128.size rfl y)

theorem q_pieces : ∀ p ∈ proRun.sl.H9_28 c M1 M5 f1, ∀ x : p.1.shape.Idx, p.2 x = qV (M1.view.read (Elt F) f1) (p.1.emb x) := by
  have e : qV (M1.view.read (Elt F) f1) = spread (R := 256) fun k => qOf (M1.view.read (Elt F) f1) (mb c M1 f1 M5) k := by
    rw [mb_eq]; rfl
  rw [e]
  iterate 28
    refine List.forall_mem_cons.mpr ⟨piece_ok (R := 256) _ _ (by decide) _ (by decide) (by decide) rfl, ?_⟩
  exact fun p hp => absurd hp List.not_mem_nil

theorem read_q (y : S256x3584.Idx) : M9.view.read (Elt F) (M9.view.writes (Elt F) f9 (proRun.sl.H9_28 c M1 M5 f1)) y = qV (M1.view.read (Elt F) f1) y :=
  View.read_writes_apply_of_pieces (s := S256x3584) _ _ (qV (M1.view.read (Elt F) f1)) _ (q_pieces c M1 f1 M5) y
    (View.cover_of_tiled (s := S256x3584) (proRun.sl.H9_28 c M1 M5 f1) S256x128.size rfl y)

variable (M7 : Memref sig .tc .vmem S2x128 .f32) (f7 : Bf F c M7) (M8 : Memref sig .tc .vmem S2x128 .i32) (f8 : Bf F c M8)
  (M12 : Memref sig .tc .vmem S256x128 .f32) (f12 : Bf F c M12)

/-- Row `128 a + l` of the broadcast block, in any lane. -/
def rw2 (y : S2x128.Idx) : Fin 256 := ⟨128 * (y 0).1 + (y 1).1, by
  have h0 : (y 0).1 < 2 := (y 0).isLt
  have h1 : (y 1).1 < 128 := (y 1).isLt
  omega⟩
def scalesV (y : S2x128.Idx) : Elt F .f32 := sbV X (ix2 (rw2 y) 0)
def zeroV (y : S2x128.Idx) : Elt F .i32 := FloatOps.fptosi 32 (zbV X (ix2 (rw2 y) 0))

end Cert.KernelIdeal.Hand
-- ==== Proof.ValRow.lean ====
module

public import proofs.«01_k».proof.Proof.Val
public import Idealize.ShloMosaic.Lib.Pipeline.Value

/-! The scale and zero-point rows and the broadcast scales, read through their buffers. -/

@[expose] public section

set_option maxHeartbeats 400000

noncomputable section
set_option maxRecDepth 20000

namespace Cert.KernelIdeal.Hand

open Cert.KernelIdeal Cert.KernelIdeal.Gen
open Idealize.ShloMosaic Idealize.ShloMosaic.TcCoe Idealize.ShloMosaic.Tactic
open Idealize.ShloMosaic.ValueIdx (ix2)

variable {F : FTy → Type} [FloatOps F]

variable (X : S256x3584.Idx → Elt F .bf16) (c : Dev nD) (M1 : Memref sig .tc .vmem S256x3584 .bf16) (f1 : Bf F c M1)

variable (M7 : Memref sig .tc .vmem S2x128 .f32) (f7 : Bf F c M7) (M8 : Memref sig .tc .vmem S2x128 .i32) (f8 : Bf F c M8)
  (M12 : Memref sig .tc .vmem S256x128 .f32) (f12 : Bf F c M12)

/-- Lane 0 of 128 rows, as a row. -/
theorem row_of {α : Type} (o : ℕ) (ho : o + 128 ≤ 256) (h1 : S256x128.Slices ![o, 0] S128x128) (h2 : S128x128.Transposes [1, 0] S128x128) (h3 : S128x128.Slices ![0, 0] S1x128)
    (v : S256x128.Idx → α) (x : S1x128.Idx) :
    extractStridedSlice S1x128 ![0, 0] (transpose S128x128 [1, 0] (extractStridedSlice S128x128 ![o, 0] v h1) h2) h3 x
      = v (ix2 ⟨o + (x 1).1, by have : (x 1).1 < 128 := (x 1).isLt; omega⟩ 0) := by
  have h0 : (x 0).1 = 0 := by have : (x 0).1 < 1 := (x 0).isLt; omega
  refine congrArg v (funext fun a => Fin.ext ?_)
  match a with
  | ⟨0, _⟩ => show o + (0 + (x 1).1) = o + (x 1).1; omega
  | ⟨1, _⟩ => show 0 + (0 + (x 0).1) = 0; omega

theorem rw2_emb (a : ℕ) (ib : ∀ b : Fin 2, (![a, 0] : Fin 2 → ℕ) b + S1x128.size b ≤ S2x128.size b) (x : (Rect.unit (s := S2x128) ![a, 0] S1x128.size ib).shape.Idx) (h : 128 * a + (x 1).1 < 256) :
    rw2 ((Rect.unit (s := S2x128) ![a, 0] S1x128.size ib).emb x) = ⟨128 * a + (x 1).1, h⟩ := by
  have h0 : (x 0).1 = 0 := by have : (x 0).1 < 1 := (x 0).isLt; omega
  refine Fin.ext ?_
  show 128 * (a + 1 * (x 0).1) + (0 + 1 * (x 1).1) = 128 * a + (x 1).1
  omega

theorem scales_pieces : ∀ p ∈ proRun.sl.H7_2 c M1 f1, ∀ x : p.1.shape.Idx, p.2 x = scalesV (M1.view.read (Elt F) f1) (p.1.emb x) := by
  refine List.forall_mem_cons.mpr ⟨fun x => ?_, List.forall_mem_cons.mpr ⟨fun x => ?_, fun p hp => absurd hp List.not_mem_nil⟩⟩
  · have h1 : (x 1).1 < 128 := (x 1).isLt
    refine (row_of 128 (by omega) slices_S256x128_o128_0_S128x128 transposes_S128x128_p1_0_S128x128 slices_S128x128_o0_0_S1x128 (sbV (M1.view.read (Elt F) f1)) x).trans ?_
    exact congrArg (fun r => sbV (M1.view.read (Elt F) f1) (ix2 r 0)) (rw2_emb 1 inb_S2x128_S1x128_1_0 x (by omega)).symm
  · have h1 : (x 1).1 < 128 := (x 1).isLt
    refine (row_of 0 (by omega) slices_S256x128_o0_0_S128x128 transposes_S128x128_p1_0_S128x128 slices_S128x128_o0_0_S1x128 (sbV (M1.view.read (Elt F) f1)) x).trans ?_
    exact congrArg (fun r => sbV (M1.view.read (Elt F) f1) (ix2 r 0)) (rw2_emb 0 inb_S2x128_S1x128_0_0 x (by omega)).symm

theorem read_scales (y : S2x128.Idx) : M7.view.read (Elt F) (M7.view.writes (Elt F) f7 (proRun.sl.H7_2 c M1 f1)) y = scalesV (M1.view.read (Elt F) f1) y :=
  View.read_writes_apply_of_pieces (s := S2x128) _ _ (scalesV (M1.view.read (Elt F) f1)) _ (scales_pieces c M1 f1) y
    (View.cover_of_tiled (s := S2x128) (proRun.sl.H7_2 c M1 f1) S1x128.size rfl y)

theorem hi_row (v : FVec F S256x128 .f32) (x : S1x128.Idx) (h : 128 + (x 1).1 < 256) :
    k0_pay519 v x = FloatOps.fptosi 32 (v (ix2 ⟨128 + (x 1).1, h⟩ 0)) :=
  congrArg (FloatOps.fptosi (F := F) (φ := .f32) 32) (row_of 128 (by omega) slices_S256x128_o128_0_S128x128 transposes_S128x128_p1_0_S128x128 slices_S128x128_o0_0_S1x128 v x)

theorem lo_row (a b : FVec F S256x128 .bf16) (d v : FVec F S256x128 .f32) (hv : k0_pay513 a b d = v) (x : S1x128.Idx) (h : 0 + (x 1).1 < 256) :
    k0_pay516 a b d x = FloatOps.fptosi 32 (v (ix2 ⟨0 + (x 1).1, h⟩ 0)) := by
  unfold k0_pay516
  rw [hv]
  exact congrArg (FloatOps.fptosi (F := F) (φ := .f32) 32) (row_of 0 (by omega) slices_S256x128_o0_0_S128x128 transposes_S128x128_p1_0_S128x128 slices_S128x128_o0_0_S1x128 v x)

theorem zero_pieces : ∀ p ∈ proRun.sl.H8_2 c M1 f1, ∀ x : p.1.shape.Idx, p.2 x = zeroV (M1.view.read (Elt F) f1) (p.1.emb x) := by
  refine List.forall_mem_cons.mpr ⟨fun x => ?_, List.forall_mem_cons.mpr ⟨fun x => ?_, fun p hp => absurd hp List.not_mem_nil⟩⟩
  · have h1 : (x 1).1 < 128 := (x 1).isLt
    refine (congrArg (fun v => k0_pay519 v x) (zbV_eq c M1 f1)).trans ((hi_row (zbV (M1.view.read (Elt F) f1)) x (by omega)).trans ?_)
    exact congrArg (fun r => FloatOps.fptosi 32 (zbV (M1.view.read (Elt F) f1) (ix2 r 0))) (rw2_emb 1 inb_S2x128_S1x128_1_0 x (by omega)).symm
  · have h1 : (x 1).1 < 128 := (x 1).isLt
    refine (lo_row _ _ _ (zbV (M1.view.read (Elt F) f1)) (zbV_eq c M1 f1) x (by omega)).trans ?_
    exact congrArg (fun r => FloatOps.fptosi 32 (zbV (M1.view.read (Elt F) f1) (ix2 r 0))) (rw2_emb 0 inb_S2x128_S1x128_0_0 x (by omega)).symm

theorem read_zero (y : S2x128.Idx) : M8.view.read (Elt F) (M8.view.writes (Elt F) f8 (proRun.sl.H8_2 c M1 f1)) y = zeroV (M1.view.read (Elt F) f1) y :=
  View.read_writes_apply_of_pieces (s := S2x128) _ _ (zeroV (M1.view.read (Elt F) f1)) _ (zero_pieces c M1 f1) y
    (View.cover_of_tiled (s := S2x128) (proRun.sl.H8_2 c M1 f1) S1x128.size rfl y)

theorem sb_pieces : ∀ p ∈ proRun.sl.H12_1 c M1 f1, ∀ x : p.1.shape.Idx, p.2 x = sbV (M1.view.read (Elt F) f1) (p.1.emb x) := by
  refine List.forall_mem_cons.mpr ⟨fun x => ?_, fun p hp => absurd hp List.not_mem_nil⟩
  have e : (Rect.unit (s := S256x128) ![0, 0] S256x128.size inb_S256x128_S256x128_0_0).emb x = x := by
    funext a; refine Fin.ext ?_
    match a with
    | ⟨0, _⟩ => show 0 + 1 * (x 0).1 = (x 0).1; omega
    | ⟨1, _⟩ => show 0 + 1 * (x 1).1 = (x 1).1; omega
  show shapeCast S256x128 (sbV (M1.view.read (Elt F) f1)) shapeCasts_S256x128_S256x128 x = _
  rw [shapeCast_self]
  exact congrArg (sbV (M1.view.read (Elt F) f1)) e.symm

theorem read_sb (y : S256x128.Idx) : M12.view.read (Elt F) (M12.view.writes (Elt F) f12 (proRun.sl.H12_1 c M1 f1)) y = sbV (M1.view.read (Elt F) f1) y :=
  View.read_writes_apply_of_pieces (s := S256x128) _ _ (sbV (M1.view.read (Elt F) f1)) _ (sb_pieces c M1 f1) y
    (View.cover_of_tiled (s := S256x128) (proRun.sl.H12_1 c M1 f1) S256x128.size rfl y)

end Cert.KernelIdeal.Hand
-- ==== Proof.VOwn.lean ====
module

public import proofs.«01_k».proof.Proof.Body
public import proofs.«01_k».proof.Proof.ValRow
public import Idealize.ShloMosaic.Lib.Pipeline.ValueKit

/-! The run of the program with every result named: the four small results and the quantised rows are formulas in the
activations; the product's block is whatever the plan `K` says it is. -/
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- What the folded planes, the lane masks, the slots and the word of the plan hold, and the block of the product. -/
structure Plan (F : FTy → Type) [FloatOps F] where
  P : (S256x3584.Idx → Elt F .bf16) → (S256x256.Idx → Elt F .bf16) → (S2x8x128.Idx → Elt F .i32) → (S8.Idx → Elt F .i32) → (S1.Idx → Elt F .i32) → Prop
  yB : (S256x3584.Idx → Elt F .bf16) → (S512x3584.Idx → Elt F .i8) → (S1x512.Idx → Elt F .f32) → S256x512.Idx → Elt F .bf16

variable (K : Plan F)

/-- The scratch buffers after the first point. -/
structure Inv {c : Dev nD} (X : S256x3584.Idx → Elt F .bf16)
    {M9 : Memref sig .tc .vmem S256x3584 .bf16} {M10 : Memref sig .tc .vmem S256x3584 .bf16} {M11 : Memref sig .tc .vmem S256x256 .bf16}
    {M12 : Memref sig .tc .vmem S256x128 .f32} {M13 : Memref sig .tc .vmem S2x8x128 .i32} {M14 : Memref sig .tc .smem S8 .i32} {M15 : Memref sig .tc .smem S1 .i32}
    (f9 : Bf F c M9) (f10 : Bf F c M10) (f11 : Bf F c M11) (f12 : Bf F c M12) (f13 : Bf F c M13) (f14 : Bf F c M14) (f15 : Bf F c M15) : Prop where
  q : M9.view.read (Elt F) f9 = qV X
  xo : M10.view.read (Elt F) f10 = xoV X
  sb : M12.view.read (Elt F) f12 = sbV X
  slots : SlotsR (M14 := M14) f14
  plan : K.P X (M11.view.read (Elt F) f11) (M13.view.read (Elt F) f13) (M14.view.read (Elt F) f14) (M15.view.read (Elt F) f15)

/-- The first point makes the plan true. -/
def ProOk : Prop := ∀ (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole) (h : k0_cond1 i = 1#1)
  (f1 : Bf F c M1) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15),
  K.P (M1.view.read (Elt F) f1) (M11.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.st.1) (M13.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.st.2.1) (M14.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.st.2.2) (M15.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.ctl)

/-- Where the plan is true, a point leaves the product's block. -/
def TailOk : Prop := ∀ (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)
  (f2 : Bf F c M2) (f3 : Bf F c M3) (f4 : Bf F c M4) (f9 : Bf F c M9) (f10 : Bf F c M10) (f11 : Bf F c M11) (f12 : Bf F c M12) (f13 : Bf F c M13) (f14 : Bf F c M14) (f15 : Bf F c M15) (hs : SlotsOk c M14 f14) (X : S256x3584.Idx → Elt F .bf16), Inv K X f9 f10 f11 f12 f13 f14 f15 →
  M4.view.read (Elt F) (tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs) = K.yB X (M2.view.read (Elt F) f2) (M3.view.read (Elt F) f3)

section Owned

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

variable {c} in
theorem vown_eq {sp : Space} {S : Shape} {e : EltTy} {M : Memref sig .tc sp S e} (h : M.IsWhole) (X : S.Idx → Elt F e) :
    (owns (c : Thread nD τ) M fullShare X : sProp 𝕄) = iprop(∃ f : Bf F c M, ⌜M.view.read (Elt F) f = X⌝ ∗ pt c M f) := by
  unfold owns; rw [h.set_eq_univ]

/-- The scratch buffers between points. -/
def scr (K : Plan F) (X : S256x3584.Idx → Elt F .bf16) : sProp 𝕄 :=
  iprop(∃ (f9 : Bf F c M9) (f10 : Bf F c M10) (f11 : Bf F c M11) (f12 : Bf F c M12) (f13 : Bf F c M13) (f14 : Bf F c M14) (f15 : Bf F c M15),
    ⌜Inv K X f9 f10 f11 f12 f13 f14 f15⌝ ∗ pt c M9 f9 ∗ pt c M10 f10 ∗ pt c M11 f11 ∗ pt c M12 f12 ∗ pt c M13 f13 ∗ pt c M14 f14 ∗ pt c M15 f15)

set_option maxHeartbeats 1500000 in
theorem pro_inv (hp : ProOk K) (h : k0_cond1 i = 1#1) (f1 : Bf F c M1) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) :
    Inv K (M1.view.read (Elt F) f1) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.q (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.xo (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.st.1 (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.sb (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.st.2.1 (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.st.2.2 (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.ctl where
  q := funext fun y => read_q c M1 f1 M5 M9 f9 y
  xo := funext fun y => read_xo c M1 f1 M10 f10 y
  sb := funext fun y => read_sb c M1 f1 M12 f12 y
  slots := pro_slots c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15
  plan := hp c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15

set_option maxHeartbeats 4000000 in
theorem vown_pos (hp : ProOk K) (ht : TailOk K) (h : k0_cond1 i = 1#1) (X1 : S256x3584.Idx → Elt F .bf16) (X2 : S512x3584.Idx → Elt F .i8) (X3 : S1x512.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, pt c M14 f) ∗ (∃ f : Bf F c M15, pt c M15 f)
      ∗ (iprop(owns (c : Thread nD τ) M1 fullShare X1 ∗ owns (c : Thread nD τ) M2 fullShare X2 ∗ owns (c : Thread nD τ) M3 fullShare X3 ∗ owns (c : Thread nD τ) M4 fullShare (K.yB X1 X2 X3) ∗ owns (c : Thread nD τ) M5 fullShare (maskV X1) ∗ owns (c : Thread nD τ) M6 fullShare (codesV X1) ∗ owns (c : Thread nD τ) M7 fullShare (scalesV X1) ∗ owns (c : Thread nD τ) M8 fullShare (zeroV X1) ∗ scr c M9 M10 M11 M12 M13 M14 M15 K X1) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [vown_eq h1, vown_eq h2, vown_eq h3]
  simp only [vown_eq h4, vown_eq h5, vown_eq h6, vown_eq h7, vown_eq h8]
  iintro ⟨⟨%f1, %e1, H1⟩, ⟨%f2, %e2, H2⟩, ⟨%f3, %e3, H3⟩, ⟨%X4, %f4, -, H4⟩, ⟨%X5, %f5, -, H5⟩, ⟨%X6, %f6, -, H6⟩, ⟨%X7, %f7, -, H7⟩, ⟨%X8, %f8, -, H8⟩, ⟨%f9, H9⟩, ⟨%f10, H10⟩, ⟨%f11, H11⟩, ⟨%f12, H12⟩, ⟨%f13, H13⟩, ⟨%f14, H14⟩, ⟨%f15, H15⟩, Hk⟩
  have hs := pro_slots c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15
  have hI := pro_inv K c i M1 h1 M2 h2 M3 h3 M4 h4 M5 h5 M6 h6 M7 h7 M8 h8 M9 h9 M10 h10 M11 h11 M12 h12 M13 h13 M14 h14 M15 h15 hp h f1 f5 f6 f7 f8 f9 f10 f11 f12 f13 f14 f15
  have e4 := ht c i M1 h1 M2 h2 M3 h3 M4 h4 M5 h5 M6 h6 M7 h7 M8 h8 M9 h9 M10 h10 M11 h11 M12 h12 M13 h13 M14 h14 M15 h15 f2 f3 f4 _ _ _ _ _ _ _ hs.ok _ hI
  have e5 : M5.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.mask = _ := funext fun y => read_mask c M1 f1 M5 f5 y
  have e6 : M6.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.codes = _ := funext fun y => read_codes c M1 f1 M5 M6 f6 y
  have e7 : M7.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.scales = _ := funext fun y => read_scales c M1 f1 M7 f7 y
  have e8 : M8.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.zero = _ := funext fun y => read_zero c M1 f1 M8 f8 y
  rw [e1] at hI e4 e5 e6 e7 e8
  rw [e2, e3] at e4
  iapply (body_pos c i M1 h1 M2 h2 M3 h3 M4 h4 M5 h5 M6 h6 M7 h7 M8 h8 M9 h9 M10 h10 M11 h11 M12 h12 M13 h13 M14 h14 M15 h15 h f1 f2 f3 f4 f5 f6 f7 f8 f9 f10 f11 f12 f13 f14 f15 _ rfl hs.ok)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H1, H2, H3, H4, H5, H6, H7, H8, H9, H10, H11, H12, H13, H14, H15⟩
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  unfold scr
  iexists _, _, _, _, _, _, _
  isplitr
  · ipureintro; exact hI
  isplitl [H9]
  · iexact H9
  isplitl [H10]
  · iexact H10
  isplitl [H11]
  · iexact H11
  isplitl [H12]
  · iexact H12
  isplitl [H13]
  · iexact H13
  isplitl [H14]
  · iexact H14
  iexact H15

theorem vown_neg (ht : TailOk K) (h : ¬ k0_cond1 i = 1#1) (X1 : S256x3584.Idx → Elt F .bf16) (X2 : S512x3584.Idx → Elt F .i8) (X3 : S1x512.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ (∃ X, owns (c : Thread nD τ) M4 fullShare X) ∗ owns (c : Thread nD τ) M5 fullShare (maskV X1) ∗ owns (c : Thread nD τ) M6 fullShare (codesV X1) ∗ owns (c : Thread nD τ) M7 fullShare (scalesV X1) ∗ owns (c : Thread nD τ) M8 fullShare (zeroV X1) ∗ scr c M9 M10 M11 M12 M13 M14 M15 K X1
      ∗ (iprop(owns (c : Thread nD τ) M1 fullShare X1 ∗ owns (c : Thread nD τ) M2 fullShare X2 ∗ owns (c : Thread nD τ) M3 fullShare X3 ∗ owns (c : Thread nD τ) M4 fullShare (K.yB X1 X2 X3) ∗ owns (c : Thread nD τ) M5 fullShare (maskV X1) ∗ owns (c : Thread nD τ) M6 fullShare (codesV X1) ∗ owns (c : Thread nD τ) M7 fullShare (scalesV X1) ∗ owns (c : Thread nD τ) M8 fullShare (zeroV X1) ∗ scr c M9 M10 M11 M12 M13 M14 M15 K X1) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [vown_eq h1, vown_eq h2, vown_eq h3]
  simp only [vown_eq h4, vown_eq h5, vown_eq h6, vown_eq h7, vown_eq h8]
  unfold scr
  iintro ⟨⟨%f1, %e1, H1⟩, ⟨%f2, %e2, H2⟩, ⟨%f3, %e3, H3⟩, ⟨%X4, %f4, -, H4⟩, ⟨%f5, %e5, H5⟩, ⟨%f6, %e6, H6⟩, ⟨%f7, %e7, H7⟩, ⟨%f8, %e8, H8⟩, ⟨%f9, %f10, %f11, %f12, %f13, %f14, %f15, %hI, H9, H10, H11, H12, H13, H14, H15⟩, Hk⟩
  have hs := hI.slots
  have e4 := ht c i M1 h1 M2 h2 M3 h3 M4 h4 M5 h5 M6 h6 M7 h7 M8 h8 M9 h9 M10 h10 M11 h11 M12 h12 M13 h13 M14 h14 M15 h15 f2 f3 f4 _ _ _ _ _ _ _ hs.ok _ hI
  rw [e2, e3] at e4
  iapply (body_neg c i M1 h1 M2 h2 M3 h3 M4 h4 M5 h5 M6 h6 M7 h7 M8 h8 M9 h9 M10 h10 M11 h11 M12 h12 M13 h13 M14 h14 M15 h15 h f1 f2 f3 f4 f5 f6 f7 f8 f9 f10 f11 f12 f13 f14 f15 hs.ok)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H1, H2, H3, H4, H5, H6, H7, H8, H9, H10, H11, H12, H13, H14, H15⟩
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  isplitl [H7]
  · iexists _; isplitr; swap; · iexact H7
    ipureintro; exact e7
  isplitl [H8]
  · iexists _; isplitr; swap; · iexact H8
    ipureintro; exact e8
  iexists _, _, _, _, _, _, _
  isplitr
  · ipureintro; exact hI
  isplitl [H9]
  · iexact H9
  isplitl [H10]
  · iexact H10
  isplitl [H11]
  · iexact H11
  isplitl [H12]
  · iexact H12
  isplitl [H13]
  · iexact H13
  isplitl [H14]
  · iexact H14
  iexact H15

end Owned

end Cert.KernelIdeal.Hand

end
-- ==== Proof.Model.lean ====
module

public import proofs.«01_k».proof.Proof.VOwn
public import Idealize.ShloMosaic.Lib.VecWindow

/-! The folded planes, the lane masks, the slots and the word of the plan as formulas of the block of inputs,
chunk after chunk. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe Idealize.ShloMosaic.Tactic
open Idealize.ShloMosaic.VecWindow (put window)

variable {F : FTy → Type} [FloatOps F]

/-- The folded planes, the lane masks and the slots. -/
structure MS (F : FTy → Type) [FloatOps F] where
  a : S256x256.Idx → Elt F .bf16
  b : S2x8x128.Idx → Elt F .i32
  s : S8.Idx → Elt F .i32

/-- One chunk's update under its guard. -/
def mstep (C : Prop) [Decidable C] (o1 : Fin 1 → ℕ) (o2 o3 : Fin 3 → ℕ) (w : BitVec 32) (m0 m1 : IVec S1x128 32)
    (x : Vec F S256x128 .bf16) (S : MS F) : MS F :=
  if C then
    { a := put (put S.a ![0, 0] S256x128.size (k0_pay10 m0 x (window S.a ![0, 0] S256x128.size inb_S256x256_S256x128_0_0)))
        ![0, 128] S256x128.size (k0_pay10 m1 x (window S.a ![0, 128] S256x128.size inb_S256x256_S256x128_0_128))
      b := put (put S.b o2 S1x1x128.size (k0_pay9 m0)) o3 S1x1x128.size (k0_pay9 m1)
      s := put S.s o1 S1.size (fun _ => w) }
  else S

section Read
variable {c : Dev nD} {M10 : Memref sig .tc .vmem S256x3584 .bf16} {M11 : Memref sig .tc .vmem S256x256 .bf16} {h11 : M11.IsWhole}
  {M13 : Memref sig .tc .vmem S2x8x128 .i32} {M14 : Memref sig .tc .smem S8 .i32}

/-- What the three buffers hold. -/
def rd (S : St F c M11 M13 M14) : MS F :=
  ⟨M11.view.read (Elt F) S.1, M13.view.read (Elt F) S.2.1, M14.view.read (Elt F) S.2.2⟩

theorem gstep_read {C : Prop} [Decidable C] {o1 : Fin 1 → ℕ} {o2 o3 : Fin 3 → ℕ} {oc : Fin 2 → ℕ}
    {ic : ∀ a, oc a + S256x128.size a ≤ S256x3584.size a} {w : BitVec 32} {m0 m1 : IVec S1x128 32}
    {i1 : C → ∀ a, o1 a + S1.size a ≤ S8.size a}
    {i2 : C → ∀ a, o2 a + S1x1x128.size a ≤ S2x8x128.size a}
    {i3 : C → ∀ a, o3 a + S1x1x128.size a ≤ S2x8x128.size a}
    {f10 : Bf F c M10} {S : St F c M11 M13 M14} {x : Vec F S256x128 .bf16} {T : MS F}
    (hx : View.readAt (Elt F) M10.view (Rect.unit (s := S256x3584) oc S256x128.size ic).toLoadRect f10 = x) (hS : rd S = T) :
    rd (gstep c M10 M11 h11 M13 M14 C o1 o2 o3 oc ic w m0 m1 i1 i2 i3 f10 S) = mstep C o1 o2 o3 w m0 m1 x T := by
  subst hS
  unfold gstep mstep
  by_cases h : C
  · rw [dif_pos h, if_pos h]
    subst hx
    show MS.mk _ _ _ = MS.mk _ _ _
    congr 1
    · refine (View.read_writes_cons_put _ _ _ _ _ rfl).trans ?_
      rw [View.read_writes_cons_put (h := rfl)]
      rfl
    · refine (View.read_writes_cons_put _ _ _ _ _ rfl).trans ?_
      rw [View.read_writes_cons_put (h := rfl)]
      rfl
    · refine (View.read_writes_cons_put _ _ _ _ _ rfl).trans ?_
      rfl
  · rw [dif_neg h, if_neg h]

end Read

variable (X : S256x3584.Idx → Elt F .bf16)

/-- Whether a chunk holds an outlier column, as one or zero. -/
def anyV (k : Fin 28) : F .f32 :=
  extractAt ![0, 0, 0] (shapeCast S1x1x1 (multiReduction .maximumf [1, 2] S1 (shapeCast S1x1x128 (k0_pay126 (xk X k)) shapeCasts_S1x128_S1x1x128) 0xFF800000#32 reduces_S1x1x128_S1 (.inl rfl) rfl : FVec F S1 .f32) shapeCasts_S1_S1x1x1) inpos_S1x1x1_p0_0_0

/-- `2 ^ j` as a number. -/
def p2 (j : ℕ) : BitVec 32 := BitVec.ofNat 32 ((127 + j) * 8388608)

/-- The bit of one chunk. -/
def bitV (k : Fin 28) : BitVec 32 := Scalar.fptosi 32 (Scalar.mulf (anyV X k) (Scalar.ofBits .f32 (p2 (k.1 % 14))))
/-- The bits of the first `n` chunks of half `h`. -/
def wordN (h : Fin 2) : (n : ℕ) → n ≤ 14 → BitVec 32
  | 0, _ => 0#32
  | n + 1, hn => Scalar.addi (wordN h n (by omega)) (bitV X ⟨14 * h.1 + n, by omega⟩)
/-- The active bit of chunk `n`. -/
def actN (n : ℕ) : BitVec 32 :=
  Scalar.andi (Scalar.shrsi (wordN X (if n < 14 then 0 else 1) 14 (Nat.le_refl _)) (BitVec.ofNat 32 (n % 14))) 1#32
/-- The active chunks among the first `n`. -/
def numN : ℕ → BitVec 32
  | 0 => 0#32
  | n + 1 => Scalar.addi (numN n) (actN X n)

/-- The buffers after the first `n` chunks. -/
def msN : (n : ℕ) → n ≤ 28 → MS F
  | 0, _ => ⟨fun _ => Scalar.ofBits .bf16 0x0000#16, fun _ => 0#32, fun _ => 0#32⟩
  | n + 1, h => mstep (slotCond (actN X n) (numN X n) = 1#1) ![(Scalar.indexCast (numN X n) : Index).toNat]
      ![0, (Scalar.indexCast (numN X n) : Index).toNat, 0] ![1, (Scalar.indexCast (numN X n) : Index).toNat, 0] (BitVec.ofNat 32 n)
      (k0_pay137 (cntN X n (by omega)) (xk X ⟨n, h⟩)) (k0_pay138 (cntN X n (by omega)) (xk X ⟨n, h⟩))
      (k0_pay130 (k0_pay129 (xk X ⟨n, h⟩))) (msN n (by omega))

/-- The word of the plan: at most eight active chunks, and at most two outlier columns in a lane. -/
def ctlV : BitVec 32 :=
  Scalar.extui (Scalar.andi (Scalar.cmpi .sle (numN X 28) 8#32)
    (Scalar.cmpf .ole (extractAt ![0, 0, 0] (shapeCast S1x1x1 (multiReduction .maximumf [1, 2] S1 (shapeCast S1x1x128 (sitofp .f32 (cntN X 28 (Nat.le_refl _)) : FVec F S1x128 .f32) shapeCasts_S1x128_S1x1x128) 0xFF800000#32 reduces_S1x1x128_S1 (.inl rfl) rfl : FVec F S1 .f32) shapeCasts_S1_S1x1x1) inpos_S1x1x1_p0_0_0)
      (Scalar.ofBits .f32 0x40000000#32)))

theorem xo_back (c : Dev nD) (M1 : Memref sig .tc .vmem S256x3584 .bf16) (f1 : Bf F c M1) (M10 : Memref sig .tc .vmem S256x3584 .bf16) (f10 : Bf F c M10)
    (o : ℕ) (ib : ∀ a : Fin 2, (![0, o] : Fin 2 → ℕ) a + S256x128.size a ≤ S256x3584.size a) (hn : o / 128 < 28) (ho : o = 128 * (o / 128)) :
    View.readAt (Elt F) M10.view (Rect.unit (s := S256x3584) ![0, o] S256x128.size ib).toLoadRect (M10.view.writes (Elt F) f10 (proRun.sl.H10_28 c M1 f1))
      = k0_pay130 (k0_pay129 (xk (M1.view.read (Elt F) f1) ⟨o / 128, hn⟩)) := by
  funext x
  exact (read_xo c M1 f1 M10 f10 _).trans (piece_ok (F := F) (e := .bf16) (R := 256) (fun k => k0_pay130 (k0_pay129 (xk (M1.view.read (Elt F) f1) k))) o ib (k0_pay130 (k0_pay129 (xk (M1.view.read (Elt F) f1) ⟨o / 128, hn⟩))) hn ho rfl x).symm

/-- The index of a slot. -/
def s8 (j : Fin 8) : S8.Idx := fun a => ⟨j.1, by fin_cases a; exact j.2⟩

/-- The columns of the weights a slot names. -/
def wslot (W : S512x3584.Idx → Elt F .i8) (n : BitVec 32) : Vec F S512x128 .i8 :=
  fun y => W (ValueIdx.ix2 (y 0) ⟨(n.toNat * 128 + (y 1).1) % 3584, Nat.mod_lt _ (by decide)⟩)

/-- A plane of the folded weights, over the first `n` slots. -/
def foN (g : Fin 8 → Vec F S512x128 .i8) (mk : Fin 8 → Vec F S1x1x128 .i32) : (n : ℕ) → n ≤ 8 → IVec S128x128 32
  | 0, _ => broadcast S128x128 0#32
  | n + 1, h => ori (foN g mk n (by omega)) (andi (bitcast S128x128 32 (g ⟨n, h⟩) bitcasts_S512x128_w8_S128x128_w32)
      (broadcastTo S128x128 (shapeCast S1x128 (mk ⟨n, h⟩) shapeCasts_S1x1x128_S1x128) broadcasts_S1x128_S128x128))
/-- The folded weights. -/
def wfoldG (g : Fin 8 → Vec F S512x128 .i8) (mk : Fin 2 → Fin 8 → Vec F S1x1x128 .i32) : FVec F S512x256 .bf16 :=
  sitofp .bf16 (concatenate S512x256 1 [⟨S512x128, bitcast S512x128 8 (foN g (mk 0) 8 (Nat.le_refl _)) bitcasts_S128x128_w32_S512x128_w8⟩,
    ⟨S512x128, bitcast S512x128 8 (foN g (mk 1) 8 (Nat.le_refl _)) bitcasts_S128x128_w32_S512x128_w8⟩] concatenates_S512x128_S512x128_S512x256_d1 : IVec S512x256 8)

theorem minb3 (p : Fin 2) (j : Fin 8) : ∀ a : Fin 3, (![p.1, j.1, 0] : Fin 3 → ℕ) a + S1x1x128.size a ≤ S2x8x128.size a := by
  revert p j; decide

/-- The lane in its block. -/
def l512 (d : Fin 512) : Fin 128 := ⟨d.1 % 128, by omega⟩

/-- One element of the product's block from the two sums. -/
def yPt (a1 a2 : FVec F S256x512 .f32) (sb : FVec F S256x128 .f32) (w : S1x512.Idx → Elt F .f32) : S256x512.Idx → Elt F .bf16 :=
  fun y => FloatOps.truncf .bf16 bitsLt_bf16_f32 (FloatOps.mulf (FloatOps.addf (FloatOps.mulf (a1 y) (sb (ValueIdx.ix2 (y 0) (l512 (y 1))))) (a2 y)) (w (ValueIdx.ix2 0 (y 1))))

/-- The folded product from the model's planes. -/
def accF (W : S512x3584.Idx → Elt F .i8) : FVec F S256x512 .f32 :=
  k0_pay664 (wfoldG (fun j => wslot W ((msN X 28 (Nat.le_refl _)).s (s8 j)))
    (fun p j => window (msN X 28 (Nat.le_refl _)).b ![p.1, j.1, 0] S1x1x128.size (minb3 p j))) (msN X 28 (Nat.le_refl _)).a

/-- The product's block. -/
def yV (W : S512x3584.Idx → Elt F .i8) (w : S1x512.Idx → Elt F .f32) : S256x512.Idx → Elt F .bf16 :=
  if ctlV X = 1#32 then yPt (k0_pay663 (qV X) W) (accF X W) (sbV X) w else yPt (k0_pay668 (qV X) W) (k0_pay669 (xoV X) W) (sbV X) w

/-- What the first point leaves of the plan, and the product's block. -/
def planM : Plan F where
  P X a b s t := (⟨a, b, s⟩ : MS F) = msN X 28 (Nat.le_refl _) ∧ t = fun _ => ctlV X
  yB := yV

section Words
variable (c : Dev nD) (M1 : Memref sig .tc .vmem S256x3584 .bf16) (f1 : Bf F c M1)
theorem word0 : proRun.sl.v2032 c M1 f1 = wordN (M1.view.read (Elt F) f1) 0 14 (Nat.le_refl _) := by rfl
theorem word1 : proRun.sl.v2130 c M1 f1 = wordN (M1.view.read (Elt F) f1) 1 14 (Nat.le_refl _) := by rfl
theorem cnt28 : proRun.sl.r_219 c M1 f1 = cntN (M1.view.read (Elt F) f1) 28 (Nat.le_refl _) := by rfl
end Words

end Cert.KernelIdeal.Hand
-- ==== Proof.ModelPro.lean ====
module

public import proofs.«01_k».proof.Proof.Model

/-! The first point leaves the model's folded planes, lane masks, slots and word. -/

@[expose] public section

set_option maxHeartbeats 4000000

noncomputable section
set_option maxRecDepth 20000

namespace Cert.KernelIdeal.Hand

open Cert.KernelIdeal Cert.KernelIdeal.Gen
open Idealize.ShloMosaic Idealize.ShloMosaic.TcCoe Idealize.ShloMosaic.Tactic
open Idealize.ShloMosaic.VecWindow (put window)

variable {F : FTy → Type} [FloatOps F]

theorem rd_init (c : Dev nD) (M11 : Memref sig .tc .vmem S256x256 .bf16) (f11 : Bf F c M11)
    (M13 : Memref sig .tc .vmem S2x8x128 .i32) (f13 : Bf F c M13) (M14 : Memref sig .tc .smem S8 .i32) (f14 : Bf F c M14) (X : S256x3584.Idx → Elt F .bf16) :
    rd ((M11.view.writes (Elt F) f11 proRun.sl.H11_1, M13.view.writes (Elt F) f13 proRun.sl.H13_2, M14.view.writes (Elt F) f14 proRun.sl.H14_8) : St F c M11 M13 M14)
      = msN X 0 (by omega) := by
  show MS.mk _ _ _ = MS.mk _ _ _
  congr 1
  · funext y
    exact View.read_writes_apply_of_pieces (s := S256x256) M11.view f11 (fun _ => Scalar.ofBits .bf16 0x0000#16) proRun.sl.H11_1
      (List.forall_mem_cons.mpr ⟨fun _ => rfl, fun p hp => absurd hp List.not_mem_nil⟩) y
      (View.cover_of_tiled (s := S256x256) proRun.sl.H11_1 S256x256.size rfl y)
  · funext y
    exact View.read_writes_apply_of_pieces (s := S2x8x128) M13.view f13 (fun _ => (0#32 : BitVec 32)) proRun.sl.H13_2
      (List.forall_mem_cons.mpr ⟨fun _ => rfl, List.forall_mem_cons.mpr ⟨fun _ => rfl, fun p hp => absurd hp List.not_mem_nil⟩⟩) y
      (View.cover_of_tiled (s := S2x8x128) proRun.sl.H13_2 S1x8x128.size rfl y)
  · funext y
    refine View.read_writes_apply_of_pieces (s := S8) M14.view f14 (fun _ => (0#32 : BitVec 32)) proRun.sl.H14_8 ?_ y
      (View.cover_of_tiled (s := S8) proRun.sl.H14_8 S1.size rfl y)
    iterate 8
      refine List.forall_mem_cons.mpr ⟨fun _ => rfl, ?_⟩
    exact fun p hp => absurd hp List.not_mem_nil

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole) (h : k0_cond1 i = 1#1)
  (f1 : Bf F c M1) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15)

theorem pro_state : rd (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.st
    = msN (M1.view.read (Elt F) f1) 28 (Nat.le_refl _) := by
  unfold proRun
  iterate 28
    refine (gstep_read (xo_back c M1 f1 M10 f10 _ _ (by decide) (by decide)) ?_)
  exact rd_init c M11 f11 M13 f13 M14 f14 _

theorem pro_ctl : M15.view.read (Elt F) (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1.ctl
    = fun _ => ctlV (M1.view.read (Elt F) f1) := by
  funext y
  unfold proRun
  refine View.read_writes_cons_unit_of_mem (v := M15.view) (f := f15) _ _ [] y (fun a => ⟨0, by fin_cases a; exact Nat.one_pos⟩) rfl ?_
  intro a
  fin_cases a
  have : (y 0).1 < 1 := (y 0).isLt
  show (y 0).1 = 0 + 0
  omega

end Cert.KernelIdeal.Hand
-- ==== Proof.TailV.lean ====
module

public import proofs.«01_k».proof.Proof.ModelPro

/-! One point's block of the product, on either path. -/

@[expose] public section

set_option maxHeartbeats 4000000

noncomputable section
set_option maxRecDepth 20000

namespace Cert.KernelIdeal.Hand

open Cert.KernelIdeal Cert.KernelIdeal.Gen
open Idealize.ShloMosaic Idealize.ShloMosaic.TcCoe Idealize.ShloMosaic.Tactic
open Idealize.ShloMosaic.VecWindow (put window)

variable {F : FTy → Type} [FloatOps F]

/-- A piece of 128 columns. -/
def pcV (o : ℕ) (hs : S256x512.Slices ![0, o] S256x128) (a1 a2 : FVec F S256x512 .f32) (sb : FVec F S256x128 .f32) (w : Vec F S1x128 .f32) : FVec F S256x128 .bf16 :=
  truncf .bf16 (mulf (addf (mulf (extractStridedSlice S256x128 ![0, o] a1 hs) sb) (extractStridedSlice S256x128 ![0, o] a2 hs))
    (broadcastTo S256x128 (shapeCast S1x128 w shapeCasts_S1x128_S1x128) broadcasts_S1x128_S256x128)) bitsLt_bf16_f32

theorem pc_ok (o : ℕ) (hs : S256x512.Slices ![0, o] S256x128) (a1 a2 : FVec F S256x512 .f32) (sb : FVec F S256x128 .f32) (w : S1x512.Idx → Elt F .f32) (wv : Vec F S1x128 .f32)
    (ib : ∀ a : Fin 2, (![0, o] : Fin 2 → ℕ) a + S256x128.size a ≤ S256x512.size a) (ho : o % 128 = 0)
    (hw : ∀ z : S1x128.Idx, ∀ v : S1x512.Idx, (v 1).1 = o + (z 1).1 → wv z = w v) (x : S256x128.Idx) :
    pcV o hs a1 a2 sb wv x
      = yPt a1 a2 sb w ((Rect.unit (s := S256x512) ![0, o] S256x128.size ib).emb x) := by
  have h0 : (x 0).1 < 256 := (x 0).isLt
  have h1 : (x 1).1 < 128 := (x 1).isLt
  have e1 : ∀ a : FVec F S256x512 .f32, extractStridedSlice S256x128 ![0, o] a hs x = a ((Rect.unit (s := S256x512) ![0, o] S256x128.size ib).emb x) := fun a => by
    refine congrArg a (funext fun ax => Fin.ext ?_)
    match ax with
    | ⟨0, _⟩ => show 0 + (x 0).1 = 0 + 1 * (x 0).1; omega
    | ⟨1, _⟩ => show o + (x 1).1 = o + 1 * (x 1).1; omega
  refine congrArg (FloatOps.truncf .bf16 bitsLt_bf16_f32) (congrArg₂ FloatOps.mulf (congrArg₂ FloatOps.addf (congrArg₂ FloatOps.mulf (e1 a1) ?_) (e1 a2)) ?_)
  · refine congrArg sb (funext fun ax => Fin.ext ?_)
    match ax with
    | ⟨0, _⟩ => show (x 0).1 = 0 + 1 * (x 0).1; omega
    | ⟨1, _⟩ => show (x 1).1 = (o + 1 * (x 1).1) % 128; omega
  · refine (congrFun (congrArg (fun t => broadcastTo S256x128 t broadcasts_S1x128_S256x128) (shapeCast_self wv shapeCasts_S1x128_S1x128)) x).trans (hw _ _ ?_)
    show o + 1 * (x 1).1 = o + (x 1).1
    omega

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)
  (f2 : Bf F c M2) (f3 : Bf F c M3) (f4 : Bf F c M4) (f9 : Bf F c M9) (f10 : Bf F c M10) (f11 : Bf F c M11) (f12 : Bf F c M12) (f13 : Bf F c M13) (f14 : Bf F c M14) (f15 : Bf F c M15)

theorem rd_ws (o : ℕ) (jb : ∀ a : Fin 2, (![0, o] : Fin 2 → ℕ) a + S1x128.size a ≤ S1x512.size a) (z : S1x128.Idx) (v : S1x512.Idx) (hv : (v 1).1 = o + (z 1).1) :
    View.readAt (Elt F) M3.view (Rect.unit (s := S1x512) ![0, o] S1x128.size jb).toLoadRect f3 z = M3.view.read (Elt F) f3 v :=
  congrArg (M3.view.read (Elt F) f3) (funext fun ax => Fin.ext (by
      match ax with
      | ⟨0, _⟩ => have h5 : (v 0).1 < 1 := (v 0).isLt; have h6 : (z 0).1 < 1 := (z 0).isLt; show 0 + 1 * (z 0).1 = (v 0).1; omega
      | ⟨1, _⟩ => show o + 1 * (z 1).1 = (v 1).1; omega))

theorem dense_read (y : S256x512.Idx) : M4.view.read (Elt F) (denseRun c i M1 h1 M2 h2 M3 h3 M4 h4 M5 h5 M6 h6 M7 h7 M8 h8 M9 h9 M10 h10 M11 h11 M12 h12 M13 h13 M14 h14 M15 h15 f2 f3 f4 f9 f10 f12).1 y
    = yPt (k0_pay668 (M9.view.read (Elt F) f9) (M2.view.read (Elt F) f2)) (k0_pay669 (M10.view.read (Elt F) f10) (M2.view.read (Elt F) f2)) (M12.view.read (Elt F) f12) (M3.view.read (Elt F) f3) y := by
  rw [← View.readAt_full M9.view f9 inb_S256x3584_S256x3584_0_0, ← View.readAt_full M2.view f2 inb_S512x3584_S512x3584_0_0,
    ← View.readAt_full M10.view f10 inb_S256x3584_S256x3584_0_0, ← View.readAt_full M12.view f12 inb_S256x128_S256x128_0_0]
  refine View.read_writes_apply_of_pieces (s := S256x512) M4.view M4.view.junk _ (denseRun.sl.H4_4 c M2 M3 M9 M10 M12 f2 f3 f9 f10 f12) ?_ y
      (View.cover_of_tiled (s := S256x512) (denseRun.sl.H4_4 c M2 M3 M9 M10 M12 f2 f3 f9 f10 f12) S256x128.size rfl y)
  refine List.forall_mem_cons.mpr ⟨pc_ok 384 (by decide) _ _ _ (M3.view.read (Elt F) f3) _ (by decide) (by decide) (rd_ws c M3 f3 384 (by decide)), ?_⟩
  refine List.forall_mem_cons.mpr ⟨pc_ok 256 (by decide) _ _ _ (M3.view.read (Elt F) f3) _ (by decide) (by decide) (rd_ws c M3 f3 256 (by decide)), ?_⟩
  refine List.forall_mem_cons.mpr ⟨pc_ok 128 (by decide) _ _ _ (M3.view.read (Elt F) f3) _ (by decide) (by decide) (rd_ws c M3 f3 128 (by decide)), ?_⟩
  refine List.forall_mem_cons.mpr ⟨pc_ok 0 (by decide) _ _ _ (M3.view.read (Elt F) f3) _ (by decide) (by decide) (rd_ws c M3 f3 0 (by decide)), ?_⟩
  exact fun p hp => absurd hp List.not_mem_nil

theorem win_slot (o : Fin 2 → ℕ) (n : BitVec 32) (ho : o = ![0, (Scalar.indexCast (Scalar.muli n 128#32) : Index).toNat]) (hn : Small 27 n)
    (ib : ∀ a, o a + S512x128.size a ≤ S512x3584.size a) :
    View.readAt (Elt F) M2.view (Rect.unit (s := S512x3584) o S512x128.size ib).toLoadRect f2 = wslot (M2.view.read (Elt F) f2) n := by
  subst ho
  funext y
  unfold Small at hn
  have h1 : (y 1).1 < 128 := (y 1).isLt
  have e : (Scalar.indexCast (Scalar.muli n 128#32) : Index).toNat = n.toNat * 128 := by
    show (n * 128#32).toNat = _
    rw [BitVec.toNat_mul]
    show n.toNat * 128 % 4294967296 = _
    omega
  show M2.view.read (Elt F) f2 _ = M2.view.read (Elt F) f2 _
  refine congrArg _ (funext fun ax => Fin.ext ?_)
  match ax with
  | ⟨0, _⟩ => show 0 + 1 * (y 0).1 = (y 0).1; omega
  | ⟨1, _⟩ =>
    show (Scalar.indexCast (Scalar.muli n 128#32) : Index).toNat + 1 * (y 1).1 = (n.toNat * 128 + (y 1).1) % 3584
    omega

/-- The word a slot holds, as the point loads it. -/
def slW (j : Fin 8) : BitVec 32 :=
  View.readAt (Elt F) M14.view (Rect.unit (s := S8) ![j.1] S1.size (by revert j; decide)).toLoadRect f14 (Shape.Idx.first (s := S1) (by decide))

theorem slW_eq (j : Fin 8) : slW c M14 f14 j = M14.view.read (Elt F) f14 (s8 j) := by
  show M14.view.read (Elt F) f14 _ = _
  refine congrArg (M14.view.read (Elt F) f14) (funext fun ax => Fin.ext ?_)
  match ax with
  | ⟨0, _⟩ => rfl

variable (hs : SlotsOk c M14 f14)
include hs in
theorem sl_inb (j : Fin 8) : ∀ a, (![0, (Scalar.indexCast (Scalar.muli (slW c M14 f14 j) 128#32) : Index).toNat] : Fin 2 → ℕ) a + S512x128.size a ≤ S512x3584.size a := by
  have hn : Small 27 (slW c M14 f14 j) := hs _ _
  unfold Small at hn
  have e : (Scalar.indexCast (Scalar.muli (slW c M14 f14 j) 128#32) : Index).toNat = (slW c M14 f14 j).toNat * 128 := by
    show ((slW c M14 f14 j) * 128#32).toNat = _
    rw [BitVec.toNat_mul]
    show (slW c M14 f14 j).toNat * 128 % 4294967296 = _
    omega
  refine Rect.inb₂ (Nat.le_refl 512) ?_
  rw [e]
  show (slW c M14 f14 j).toNat * 128 + 128 ≤ 3584
  omega

theorem fold_w (v3 : BitVec 32) (h : k0_cond30 v3 = 1#1) : foldRun.sl.r_11 c M2 M13 M14 v3 h f2 f13 f14 hs
    = wfoldG (fun j => View.readAt (Elt F) M2.view (Rect.unit (s := S512x3584) ![0, (Scalar.indexCast (Scalar.muli (slW c M14 f14 j) 128#32) : Index).toNat] S512x128.size (sl_inb c M14 f14 hs j)).toLoadRect f2)
        (fun p j => View.readAt (Elt F) M13.view (Rect.unit (s := S2x8x128) ![p.1, j.1, 0] S1x1x128.size (minb3 p j)).toLoadRect f13) := by rfl

theorem fold_w' (v3 : BitVec 32) (h : k0_cond30 v3 = 1#1) : foldRun.sl.r_11 c M2 M13 M14 v3 h f2 f13 f14 hs
    = wfoldG (fun j => wslot (M2.view.read (Elt F) f2) (M14.view.read (Elt F) f14 (s8 j)))
        (fun p j => window (M13.view.read (Elt F) f13) ![p.1, j.1, 0] S1x1x128.size (minb3 p j)) := by
  rw [fold_w]
  congr 1
  funext j
  rw [← slW_eq]
  exact win_slot c M2 f2 _ _ rfl (hs _ _) _

theorem fold_read (v3 : BitVec 32) (h : k0_cond30 v3 = 1#1) (y : S256x512.Idx) : M4.view.read (Elt F) (foldRun c i M1 h1 M2 h2 M3 h3 M4 h4 M5 h5 M6 h6 M7 h7 M8 h8 M9 h9 M10 h10 M11 h11 M12 h12 M13 h13 M14 h14 M15 h15 v3 h f2 f3 f4 f9 f11 f12 f13 f14 hs).1 y
    = yPt (k0_pay663 (M9.view.read (Elt F) f9) (M2.view.read (Elt F) f2)) (k0_pay664 (foldRun.sl.r_11 c M2 M13 M14 v3 h f2 f13 f14 hs) (M11.view.read (Elt F) f11)) (M12.view.read (Elt F) f12) (M3.view.read (Elt F) f3) y := by
  rw [← View.readAt_full M9.view f9 inb_S256x3584_S256x3584_0_0, ← View.readAt_full M2.view f2 inb_S512x3584_S512x3584_0_0,
    ← View.readAt_full M11.view f11 inb_S256x256_S256x256_0_0, ← View.readAt_full M12.view f12 inb_S256x128_S256x128_0_0]
  refine View.read_writes_apply_of_pieces (s := S256x512) M4.view M4.view.junk _ (foldRun.sl.H4_4 c M2 M3 M9 M11 M12 M13 M14 v3 h f2 f3 f9 f11 f12 f13 f14 hs) ?_ y
      (View.cover_of_tiled (s := S256x512) (foldRun.sl.H4_4 c M2 M3 M9 M11 M12 M13 M14 v3 h f2 f3 f9 f11 f12 f13 f14 hs) S256x128.size rfl y)
  refine List.forall_mem_cons.mpr ⟨pc_ok 384 (by decide) _ _ _ (M3.view.read (Elt F) f3) _ (by decide) (by decide) (rd_ws c M3 f3 384 (by decide)), ?_⟩
  refine List.forall_mem_cons.mpr ⟨pc_ok 256 (by decide) _ _ _ (M3.view.read (Elt F) f3) _ (by decide) (by decide) (rd_ws c M3 f3 256 (by decide)), ?_⟩
  refine List.forall_mem_cons.mpr ⟨pc_ok 128 (by decide) _ _ _ (M3.view.read (Elt F) f3) _ (by decide) (by decide) (rd_ws c M3 f3 128 (by decide)), ?_⟩
  refine List.forall_mem_cons.mpr ⟨pc_ok 0 (by decide) _ _ _ (M3.view.read (Elt F) f3) _ (by decide) (by decide) (rd_ws c M3 f3 0 (by decide)), ?_⟩
  exact fun p hp => absurd hp List.not_mem_nil

theorem ctlV_cases (X : S256x3584.Idx → Elt F .bf16) : ctlV X = 0#32 ∨ ctlV X = 1#32 := by
  have : ∀ b : BitVec 1, (b.setWidth 32 = 0#32 ∨ b.setWidth 32 = 1#32) := by decide
  exact this _

omit hs in
theorem ctlW_eq (X : S256x3584.Idx → Elt F .bf16) (h : M15.view.read (Elt F) f15 = fun _ => ctlV X) : ctlW c M15 f15 = ctlV X :=
  congrFun h _

theorem planM_pro : ProOk (F := F) planM := by
  intro c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15
  exact ⟨pro_state c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15, pro_ctl c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15⟩

theorem planM_tail : TailOk (F := F) planM := by
  intro c i M1 h1 M2 h2 M3 h3 M4 h4 M5 h5 M6 h6 M7 h7 M8 h8 M9 h9 M10 h10 M11 h11 M12 h12 M13 h13 M14 h14 M15 h15 f2 f3 f4 f9 f10 f11 f12 f13 f14 f15 hs X hI
  have hc := ctlW_eq c M15 f15 X hI.plan.2
  have hst := hI.plan.1
  have ha : M11.view.read (Elt F) f11 = (msN X 28 (Nat.le_refl _)).a := congrArg MS.a hst
  have hb : M13.view.read (Elt F) f13 = (msN X 28 (Nat.le_refl _)).b := congrArg MS.b hst
  have hsl : M14.view.read (Elt F) f14 = (msN X 28 (Nat.le_refl _)).s := congrArg MS.s hst
  show _ = yV X _ _
  unfold tailW yV
  rcases ctlV_cases X with h0 | h1'
  · rw [dif_neg (by rw [hc, h0]; decide), if_neg (by rw [h0]; decide)]
    unfold k2W
    rw [if_pos (by rw [hc, h0]; decide)]
    funext y
    rw [dense_read, hI.q, hI.xo, hI.sb]
  · rw [dif_pos (by rw [hc, h1']; decide), if_pos h1']
    unfold k2W
    rw [if_neg (by rw [hc, h1']; decide)]
    funext y
    rw [fold_read, fold_w', hI.q, hI.sb, ha, hb, hsl]
    rfl

end Cert.KernelIdeal.Hand
-- ==== Proof.VFr.lean ====
module

public import proofs.«01_k».proof.Proof.VOwn
public import Idealize.ShloMosaic.Lib.Pipeline.TableIdle

/-! The launch with every result named. -/
@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (K : Plan F)

variable (m : (ℓ : Loc nD τ sig) → Buf (Elt F) ℓ) (ρ : Dev nD → PrngReg)

/-- The activations, as the first window holds them. -/
def X0 (c : Dev nD) : S256x3584.Idx → Elt F .bf16 := iblk m c 0 ⟨0, by decide⟩

theorem iblk0 (c : Dev nD) (t : Fin cfg0.N) : iblk m c 0 t = X0 m c := rfl

/-- Between points: the scratch buffers as the first point leaves them. -/
def PhiV (c : Dev nD) : sProp 𝕄 :=
  iprop(scr c (Memref.whole cc0_scratch0) (Memref.whole cc0_scratch1) (Memref.whole cc0_scratch2) (Memref.whole cc0_scratch3) (Memref.whole cc0_scratch4) (Memref.whole cc0_scratch5) (Memref.whole cc0_scratch6) K (X0 m c) ∗ ∃ r, prngReg c r)

theorem PhiV_out (c : Dev nD) : PhiV K m c ⊢ Pipeline.ΦA spec0 c := by
  unfold PhiV Pipeline.ΦA scr
  rw [scopedRest0_eq]
  iintro ⟨⟨%f9, %f10, %f11, %f12, %f13, %f14, %f15, -, H0, H1, H2, H3, H4, H5, H6⟩, Hg⟩
  isplitr [Hg]
  · isplitl [H0]; · iexists f9; iexact H0
    isplitl [H1]; · iexists f10; iexact H1
    isplitl [H2]; · iexists f11; iexact H2
    isplitl [H3]; · iexists f12; iexact H3
    isplitl [H4]; · iexists f13; iexact H4
    isplitl [H5]; · iexists f14; iexact H5
    iexists f15; iexact H6
  iexact Hg

def vdats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => K.yB (X0 m c) (iblk m c 1 t) (iblk m c 2 t)
    | 4 => maskV (X0 m c)
    | 5 => codesV (X0 m c)
    | 6 => scalesV (X0 m c)
    | 7 => zeroV (X0 m c)
  Φ t := if t.val = 0 then Pipeline.ΦA spec0 c else PhiV K m c
  q _ := fullShare
  owed _ := 0

theorem vA_eq (c : Dev nD) (w : Fin cfg0.W) : (vdats K m 0 c).A w = V m c (Pipeline.arrRef spec0 w) := by dsimp only [vdats]

def vPre (c : Dev nD) (t : Fin cfg0.N) : sProp 𝕄 :=
  iprop((vdats K m 0 c).Φ t.castSucc ∗ (vdats K m 0 c).owesAt () t.castSucc ∗ (∃ d, owns (c : Thread nD τ) (st0_0 t) fullShare ((vdats K m 0 c).before 0 t d)) ∗ (∃ d, owns (c : Thread nD τ) (st0_1 t) fullShare ((vdats K m 0 c).before 1 t d)) ∗ (∃ d, owns (c : Thread nD τ) (st0_2 t) fullShare ((vdats K m 0 c).before 2 t d)) ∗ (∃ d, owns (c : Thread nD τ) (st0_3 t) fullShare ((vdats K m 0 c).before 3 t d)) ∗ (∃ d, owns (c : Thread nD τ) (st0_4 t) fullShare ((vdats K m 0 c).before 4 t d)) ∗ (∃ d, owns (c : Thread nD τ) (st0_5 t) fullShare ((vdats K m 0 c).before 5 t d)) ∗ (∃ d, owns (c : Thread nD τ) (st0_6 t) fullShare ((vdats K m 0 c).before 6 t d)) ∗ (∃ d, owns (c : Thread nD τ) (st0_7 t) fullShare ((vdats K m 0 c).before 7 t d)))
def vPost (c : Dev nD) (t : Fin cfg0.N) : sProp 𝕄 :=
  iprop((vdats K m 0 c).Φ t.succ ∗ (vdats K m 0 c).owesAt () t.succ ∗ owns (c : Thread nD τ) (st0_0 t) fullShare ((vdats K m 0 c).after 0 t) ∗ owns (c : Thread nD τ) (st0_1 t) fullShare ((vdats K m 0 c).after 1 t) ∗ owns (c : Thread nD τ) (st0_2 t) fullShare ((vdats K m 0 c).after 2 t) ∗ owns (c : Thread nD τ) (st0_3 t) fullShare ((vdats K m 0 c).after 3 t) ∗ owns (c : Thread nD τ) (st0_4 t) fullShare ((vdats K m 0 c).after 4 t) ∗ owns (c : Thread nD τ) (st0_5 t) fullShare ((vdats K m 0 c).after 5 t) ∗ owns (c : Thread nD τ) (st0_6 t) fullShare ((vdats K m 0 c).after 6 t) ∗ owns (c : Thread nD τ) (st0_7 t) fullShare ((vdats K m 0 c).after 7 t))

theorem vΦ_pos (c : Dev nD) (t : Fin (cfg0.N + 1)) (h : t.val = 0) : (vdats K m 0 c).Φ t = Pipeline.ΦA spec0 c := if_pos h
theorem vΦ_neg (c : Dev nD) (t : Fin (cfg0.N + 1)) (h : ¬ t.val = 0) : (vdats K m 0 c).Φ t = PhiV K m c := if_neg h

theorem fresh_pos (t : Fin cfg0.N) (h : ¬ t.val = 0) : cfg0.fresh 4 t.val = false ∧ cfg0.fresh 5 t.val = false ∧ cfg0.fresh 6 t.val = false ∧ cfg0.fresh 7 t.val = false :=
  (by decide +kernel : ∀ t : Fin cfg0.N, ¬ t.val = 0 → cfg0.fresh 4 t.val = false ∧ cfg0.fresh 5 t.val = false ∧ cfg0.fresh 6 t.val = false ∧ cfg0.fresh 7 t.val = false) t h

theorem before4 (c : Dev nD) (t : Fin cfg0.N) (h : ¬ t.val = 0) (d) : (vdats K m 0 c).before 4 t d = maskV (X0 m c) := by
  refine ((vdats K m 0 c).before_out_traj 4 rfl (fun _ _ => rfl) (fun _ _ _ _ => rfl) _ t rfl d).trans ?_
  rw [(fresh_pos t h).1]; rfl
theorem before5 (c : Dev nD) (t : Fin cfg0.N) (h : ¬ t.val = 0) (d) : (vdats K m 0 c).before 5 t d = codesV (X0 m c) := by
  refine ((vdats K m 0 c).before_out_traj 5 rfl (fun _ _ => rfl) (fun _ _ _ _ => rfl) _ t rfl d).trans ?_
  rw [(fresh_pos t h).2.1]; rfl
theorem before6 (c : Dev nD) (t : Fin cfg0.N) (h : ¬ t.val = 0) (d) : (vdats K m 0 c).before 6 t d = scalesV (X0 m c) := by
  refine ((vdats K m 0 c).before_out_traj 6 rfl (fun _ _ => rfl) (fun _ _ _ _ => rfl) _ t rfl d).trans ?_
  rw [(fresh_pos t h).2.2.1]; rfl
theorem before7 (c : Dev nD) (t : Fin cfg0.N) (h : ¬ t.val = 0) (d) : (vdats K m 0 c).before 7 t d = zeroV (X0 m c) := by
  refine ((vdats K m 0 c).before_out_traj 7 rfl (fun _ _ => rfl) (fun _ _ _ _ => rfl) _ t rfl d).trans ?_
  rw [(fresh_pos t h).2.2.2]; rfl

set_option maxHeartbeats 4000000 in
theorem v_body (hp : ProOk K) (ht : TailOk K) (m : (ℓ : Loc nD τ sig) → Buf (Elt F) ℓ) (c : Dev nD) (t : Fin cfg0.N) :
    vPre K m c t ⊢ wp frame (wpE (defs₀ (F := F)) Variants.none c none) Set.univ (bodyAt0 t) (fun _ => vPost K m c t) := by
  unfold vPre vPost bodyAt0
  rw [show (vdats K m 0 c).owesAt () t.succ = (vdats K m 0 c).owesAt () t.castSucc from rfl,
    show (vdats K m 0 c).Φ t.succ = PhiV K m c from vΦ_neg K m c _ (Nat.succ_ne_zero _)]
  simp only [before0_0_of m (vdats K m 0 c) rfl (fun _ => rfl), before0_1_of m (vdats K m 0 c) rfl (fun _ => rfl), before0_2_of m (vdats K m 0 c) rfl (fun _ => rfl)]
  rw [show (vdats K m 0 c).after 0 t = X0 m c from rfl, show (vdats K m 0 c).after 1 t = iblk m c 1 t from rfl, show (vdats K m 0 c).after 2 t = iblk m c 2 t from rfl,
    show (vdats K m 0 c).after 3 t = K.yB (X0 m c) (iblk m c 1 t) (iblk m c 2 t) from rfl, show (vdats K m 0 c).after 4 t = maskV (X0 m c) from rfl, show (vdats K m 0 c).after 5 t = codesV (X0 m c) from rfl, show (vdats K m 0 c).after 6 t = scalesV (X0 m c) from rfl, show (vdats K m 0 c).after 7 t = zeroV (X0 m c) from rfl]
  simp only [show iblk m c 0 t = X0 m c from rfl]
  by_cases h0 : t.val = 0
  · rw [show (vdats K m 0 c).Φ t.castSucc = Pipeline.ΦA spec0 c from vΦ_pos K m c _ h0]
    unfold Pipeline.ΦA PhiV
    rw [scopedRest0_eq]
    iintro ⟨⟨⟨G0, G1, G2, G3, G4, G5, G6⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩⟩
    iapply (vown_pos K c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) hp ht ((cond1_iff t).mpr h0) (X0 m c) (iblk m c 1 t) (iblk m c 2 t))
    isplitl [W0]; · iexact W0
    isplitl [W1]; · iexact W1
    isplitl [W2]; · iexact W2
    isplitl [W3]; · iexists _; iexact W3
    isplitl [W4]; · iexists _; iexact W4
    isplitl [W5]; · iexists _; iexact W5
    isplitl [W6]; · iexists _; iexact W6
    isplitl [W7]; · iexists _; iexact W7
    isplitl [G0]; · iexact G0
    isplitl [G1]; · iexact G1
    isplitl [G2]; · iexact G2
    isplitl [G3]; · iexact G3
    isplitl [G4]; · iexact G4
    isplitl [G5]; · iexact G5
    isplitl [G6]; · iexact G6
    iintro ⟨W0, W1, W2, W3, W4, W5, W6, W7, G⟩
    isplitl [G Hg]
    · isplitl [G]; · iexact G
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  · rw [show (vdats K m 0 c).Φ t.castSucc = PhiV K m c from vΦ_neg K m c _ h0]
    unfold PhiV
    simp only [before4 K m c t h0, before5 K m c t h0, before6 K m c t h0, before7 K m c t h0]
    iintro ⟨⟨G, Hg⟩, HO, ⟨%d0, W0⟩, ⟨%d1, W1⟩, ⟨%d2, W2⟩, ⟨%d3, W3⟩, ⟨%d4, W4⟩, ⟨%d5, W5⟩, ⟨%d6, W6⟩, ⟨%d7, W7⟩⟩
    iapply (vown_neg K c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) ht (fun h => h0 ((cond1_iff t).mp h)) (X0 m c) (iblk m c 1 t) (iblk m c 2 t))
    isplitl [W0]; · iexact W0
    isplitl [W1]; · iexact W1
    isplitl [W2]; · iexact W2
    isplitl [W3]; · iexists _; iexact W3
    isplitl [W4]; · iexact W4
    isplitl [W5]; · iexact W5
    isplitl [W6]; · iexact W6
    isplitl [W7]; · iexact W7
    isplitl [G]; · iexact G
    iintro ⟨W0, W1, W2, W3, W4, W5, W6, W7, G⟩
    isplitl [G Hg]
    · isplitl [G]; · iexact G
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7

theorem defs₀_vrow (t : Fin cfg0.N) : defs₀ (F := F) .tc cfg0.body (cfg0.bodyArgs t (cfg0.slots t)) = bodyAt0 t := by
  unfold defs₀; rw [Defs.onTc_tc]

theorem leaves_of {c : Dev nD} (dat : Dat τ (Elt F) Unit ℕ (UR sig nD τ) ℕ cfg0 c) (w : Fin cfg0.W) (t : Fin cfg0.N)
    (h : cfg0.idle w (cfg0.grid.coords t) = true → ∃ d, dat.before w t d = dat.after w t) :
    owns (c : Thread nD τ) ((cfg0.win w).stage (cfg0.slots t w)) fullShare (dat.after w t) ⊢ (dat.leavesExact w t : sProp 𝕄) := by
  unfold Dat.leavesExact
  cases hi : cfg0.idle w (cfg0.grid.coords t)
  · exact .rfl
  · cases hf : (cfg0.win w).flush t
    · obtain ⟨d, hd⟩ := h hi
      dsimp only
      rw [← hd]
      iintro H
      iexists d
      iexact H
    · exact .rfl

theorem idle_first {w : Fin cfg0.W} {t : Fin cfg0.N} (hw : 4 ≤ w.val) (h : cfg0.idle w (cfg0.grid.coords t) = true) : ¬ t.val = 0 :=
  (by decide +kernel : ∀ (w : Fin cfg0.W) (t : Fin cfg0.N), 4 ≤ w.val → cfg0.idle w (cfg0.grid.coords t) = true → ¬ t.val = 0) w t hw h

theorem v_obligation (hp : ProOk K) (ht : TailOk K) (c : Dev nD) :
    BodyObligation (vdats K m 0 c) (defs₀ (F := F)) Variants.none () Set.univ (fun _ => false) := fun t => by
  rw [bigSep_W0, bigSep_W0, defs₀_vrow]
  exact triple_restated (v_body K hp ht m c t) rfl .rfl fun _ => Idealize.SL.BI.sep_mono (Idealize.SL.BI.Entails.refl _) (Idealize.SL.BI.sep_mono (Idealize.SL.BI.Entails.refl _) (Idealize.SL.BI.sep_mono (leaves_of (vdats K m 0 c) 0 t fun h => Bool.noConfusion (show false = true from h)) (Idealize.SL.BI.sep_mono (leaves_of (vdats K m 0 c) 1 t fun h => Bool.noConfusion (show false = true from h)) (Idealize.SL.BI.sep_mono (leaves_of (vdats K m 0 c) 2 t fun h => Bool.noConfusion (show false = true from h)) (
    Idealize.SL.BI.sep_mono (leaves_of (vdats K m 0 c) 3 t fun h => Bool.noConfusion (show false = true from h)) (
    Idealize.SL.BI.sep_mono (leaves_of (vdats K m 0 c) 4 t fun h => ⟨maskV (X0 m c), before4 K m c t (idle_first (by decide) h) _⟩) (
    Idealize.SL.BI.sep_mono (leaves_of (vdats K m 0 c) 5 t fun h => ⟨codesV (X0 m c), before5 K m c t (idle_first (by decide) h) _⟩) (
    Idealize.SL.BI.sep_mono (leaves_of (vdats K m 0 c) 6 t fun h => ⟨scalesV (X0 m c), before6 K m c t (idle_first (by decide) h) _⟩) (
    leaves_of (vdats K m 0 c) 7 t fun h => ⟨zeroV (X0 m c), before7 K m c t (idle_first (by decide) h) _⟩)))))))))

/-! ## The launch -/

set_option backward.isDefEq.respectTransparency.types false in
theorem run_val (hp : ProOk K) (ht : TailOk K) :
    θ_run defs (onTc (τ := τ) (main (F := F))) (s₀ m ρ)
      (fun r => Pipeline.FramePost cfgs (vdats K m) 0 (Pipeline.afterTail₀ cfgs (vdats K m) 0 (V0 m) [hostOps1]) r) :=
  Pipeline.θ_run_frame_around_track cfgs (vdats K m) (0 : Fin 1) launch0 defs₀ Variants.none m ρ main
    (hbody := fun c => (v_obligation K m hp ht c).loose) (hshare := fun c => (vdats K m 0 c).share_full fun _ => rfl)
    (howed := fun _ _ => rfl) (V₀ := V0 m) (opss := [hostOps1]) (hsub := sfx_sub) (hfresh := sfx_fresh) (hkeep := sfx_keeps)
    (hmain := hmain m Variants.none) (hA := vA_eq K m)
    (hin := fun c => Entails.of_eq (vΦ_pos K m c 0 rfl).symm) (hout := fun c => (Entails.of_eq (vΦ_neg K m c (Fin.last _) (by decide))).trans (PhiV_out K m c))

end Cert.KernelIdeal.Hand

end
-- ==== Proof.Res.lean ====
module

public import proofs.«01_k».proof.Proof.TailV
public import proofs.«01_k».proof.Proof.VFr
public import Idealize.ShloMosaic.Lib.Pipeline.ValueKit.Geometry

/-! The arrays a run leaves. -/

@[expose] public section

set_option maxHeartbeats 4000000

noncomputable section
set_option maxRecDepth 20000

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

theorem out4 (c : Dev nD) : (vdats planM m 0 c).arrAt 4 cfg0.N = (maskV (X0 m c) : S1x3584.Idx → Elt F .i32) := by
  refine (vdats planM m 0 c).arrAt_eq_of_after_last 4 ⟨36, by decide⟩ (by decide +kernel) _ fun j => ?_
  rfl
theorem out5 (c : Dev nD) : (vdats planM m 0 c).arrAt 5 cfg0.N = (codesV (X0 m c) : S256x3584.Idx → Elt F .i8) := by
  refine (vdats planM m 0 c).arrAt_eq_of_after_last 5 ⟨36, by decide⟩ (by decide +kernel) _ fun j => ?_
  rfl
theorem out6 (c : Dev nD) : (vdats planM m 0 c).arrAt 6 cfg0.N = (scalesV (X0 m c) : S2x128.Idx → Elt F .f32) := by
  refine (vdats planM m 0 c).arrAt_eq_of_after_last 6 ⟨36, by decide⟩ (by decide +kernel) _ fun j => ?_
  rfl
theorem out7 (c : Dev nD) : (vdats planM m 0 c).arrAt 7 cfg0.N = (zeroV (X0 m c) : S2x128.Idx → Elt F .i32) := by
  refine (vdats planM m 0 c).arrAt_eq_of_after_last 7 ⟨36, by decide⟩ (by decide +kernel) _ fun j => ?_
  rfl

/-- A point's block of the weights. -/
def wB (W : S18944x3584.Idx → Elt F .i8) (t : Fin 37) : S512x3584.Idx → Elt F .i8 :=
  fun y => W (ValueIdx.ix2 ⟨512 * t.1 + (y 0).1, by have h : (y 0).1 < 512 := (y 0).isLt; have := t.isLt; omega⟩ (y 1))
/-- A point's block of the weights' scales. -/
def sB (w : S18944.Idx → Elt F .f32) (t : Fin 37) : S1x512.Idx → Elt F .f32 :=
  fun y => w (ValueIdx.ix1 ⟨512 * t.1 + (y 1).1, by have h : (y 1).1 < 512 := (y 1).isLt; have := t.isLt; omega⟩)
/-- The inputs as rows. -/
def xR (A : S2x128x3584.Idx → Elt F .bf16) : S256x3584.Idx → Elt F .bf16 :=
  fun y => A (ValueIdx.ix3 ⟨(y 0).1 / 128, by have h : (y 0).1 < 256 := (y 0).isLt; omega⟩ ⟨(y 0).1 % 128, Nat.mod_lt _ (by decide)⟩ (y 1))

theorem e0 : ∀ t : Fin cfg0.N, win0_0.index t = ![0, 0] := (by decide +kernel : ∀ t : Fin grid0.N, _)
theorem e1 : ∀ t : Fin cfg0.N, win0_1.index t = ![t.1, 0] := (by decide +kernel : ∀ t : Fin grid0.N, _)
theorem e2 : ∀ t : Fin cfg0.N, win0_2.index t = ![0, t.1] := (by decide +kernel : ∀ t : Fin grid0.N, _)
theorem e3 : ∀ t : Fin cfg0.N, win0_3.index t = ![0, t.1] := (by decide +kernel : ∀ t : Fin grid0.N, _)

theorem xR_cast (A : S2x128x3584.Idx → Elt F .bf16) (y y' : S256x3584.Idx) (h : y' = y) :
    shapeCast S256x3584 A shapeCasts_S2x128x3584_S256x3584 y' = xR A y := by
  subst h
  refine shapeCast_apply A _ _ _ ?_
  have h0 : (y' 0).1 < 256 := (y' 0).isLt
  have h1 : (y' 1).1 < 3584 := (y' 1).isLt
  rw [Shape.rowMajor_val_three, Shape.rowMajor_val_two]
  show ((y' 0).1 / 128 * 128 + (y' 0).1 % 128) * 3584 + (y' 1).1 = (y' 0).1 * 3584 + (y' 1).1
  omega

theorem sB_cast (w : S18944.Idx → Elt F .f32) (t : Fin 37) (y' : S1x18944.Idx) (y : S1x512.Idx) (h : (y' 1).1 = t.1 * 512 + (y 1).1) :
    shapeCast S1x18944 w shapeCasts_S18944_S1x18944 y' = sB w t y := by
  refine shapeCast_apply w _ _ _ ?_
  have h0 : (y' 0).1 < 1 := (y' 0).isLt
  rw [Shape.rowMajor_val_one, Shape.rowMajor_val_two]
  show 512 * t.1 + (y 1).1 = (y' 0).1 * 18944 + (y' 1).1
  omega

theorem X0_eq (c : Dev nD) : X0 m c = xR (m ((c : Thread nD τ).loc main_arg0)) := by
  funext y
  unfold X0
  blk_simp [iblk]
  entry_read
  refine xR_cast _ _ _ ?_
  have e : win0_0.index (0 : Fin 37) 0 = 0 := by decide
  have e' : win0_0.index (0 : Fin 37) 1 = 0 := by decide
  blk_ext <;> omega

theorem W_eq (c : Dev nD) (t : Fin cfg0.N) : (iblk m c 1 t : S512x3584.Idx → Elt F .i8) = wB (m ((c : Thread nD τ).loc main_arg1)) t := by
  funext y
  blk_simp [iblk]
  entry_read
  unfold wB
  congr 1
  blk_ext [e1]

theorem s_eq (c : Dev nD) (t : Fin cfg0.N) : (iblk m c 2 t : S1x512.Idx → Elt F .f32) = sB (m ((c : Thread nD τ).loc main_arg2)) t := by
  funext y
  blk_simp [iblk]
  entry_read
  refine sB_cast _ t _ y ?_
  blk_simp [e2]

theorem out3 (c : Dev nD) (G : S256x18944.Idx → Elt F .bf16)
    (hG : ∀ (t : Fin 37) (y : S256x512.Idx), yV (X0 m c) (wB (m ((c : Thread nD τ).loc main_arg1)) t) (sB (m ((c : Thread nD τ).loc main_arg2)) t) y
      = G (ValueIdx.ix2 (y 0) ⟨512 * t.1 + (y 1).1, by have h : (y 1).1 < 512 := (y 1).isLt; have := t.isLt; omega⟩)) :
    (vdats planM m 0 c).arrAt 3 cfg0.N = G := by
  refine (vdats planM m 0 c).arrAt_eq_of_covers 3 _ (by decide +kernel) fun t hf y => ?_
  refine Eq.trans (b := yV (X0 m c) (iblk m c 1 t) (iblk m c 2 t) y) rfl ?_
  rw [W_eq, s_eq]
  refine (hG t y).trans (congrArg G ?_)
  blk_ext [e3]

theorem kernel_run :
    θ_run defs (onTc (τ := τ) (main (F := F))) (s₀ m ρ) fun r => ∀ c : Dev nD,
      r.2.mem ((c.tc : Thread nD τ).loc main_v3) = shapeCast S2x128x18944 ((vdats planM m 0 c).arrAt 3 cfg0.N : S256x18944.Idx → Elt F .bf16) shapeCasts_S256x18944_S2x128x18944
      ∧ r.2.mem ((c.tc : Thread nD τ).loc main_v4) = shapeCast S3584 (maskV (X0 m c)) shapeCasts_S1x3584_S3584
      ∧ r.2.mem ((c.tc : Thread nD τ).loc main_v5) = shapeCast S2x128x3584 (codesV (X0 m c)) shapeCasts_S256x3584_S2x128x3584
      ∧ r.2.mem ((c.tc : Thread nD τ).loc main_v2_3) = scalesV (X0 m c)
      ∧ r.2.mem ((c.tc : Thread nD τ).loc main_v2_4) = zeroV (X0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have hinj : Function.Injective (Pipeline.arrRef spec0) := by decide
  refine (θ_run defs _ _).mono (fun r h c => ⟨?_, ?_, ?_, ((h c).1 6).trans (out6 m c), ((h c).1 7).trans (out7 m c),
      (((h c).2 main_arg0 (Pipeline.mem_restRefs_of main_arg0 (by decide) (by decide))).trans (W_main_arg0 m (vdats planM m) c)),
      ((h c).1 1).trans (((vdats planM m 0 c).arrAt_in 1 rfl _).trans ((vA_eq planM m c 1).trans (V_main_arg1 m c))),
      (((h c).2 main_arg2 (Pipeline.mem_restRefs_of main_arg2 (by decide) (by decide))).trans (W_main_arg2 m (vdats planM m) c))⟩) (run_val planM m ρ planM_pro planM_tail)
  · refine ((h c).2 main_v3 (Pipeline.mem_restRefs_of main_v3 (by decide) (by decide))).trans ?_
    unfold Pipeline.afterTail₀
    simp only [hostOps1, List.flatten_cons, List.flatten_nil, List.append_nil]
    after_results_simp
    rw [show Pipeline.withArrays spec0 c (V0 m c) (fun w => (vdats planM m 0 c).arrAt w cfg0.N) (Proc.devRef .tc main_v2_0) = (vdats planM m 0 c).arrAt 3 cfg0.N from Pipeline.withArrays_arr spec0 hinj c _ _ 3]
    rfl
  · refine ((h c).2 main_v4 (Pipeline.mem_restRefs_of main_v4 (by decide) (by decide))).trans ?_
    unfold Pipeline.afterTail₀
    simp only [hostOps1, List.flatten_cons, List.flatten_nil, List.append_nil]
    after_results_simp
    rw [show Pipeline.withArrays spec0 c (V0 m c) (fun w => (vdats planM m 0 c).arrAt w cfg0.N) (Proc.devRef .tc main_v2_1) = (vdats planM m 0 c).arrAt 4 cfg0.N from Pipeline.withArrays_arr spec0 hinj c _ _ 4]
    exact congrArg (fun x => shapeCast _ x _) (out4 m c)
  · refine ((h c).2 main_v5 (Pipeline.mem_restRefs_of main_v5 (by decide) (by decide))).trans ?_
    unfold Pipeline.afterTail₀
    simp only [hostOps1, List.flatten_cons, List.flatten_nil, List.append_nil]
    after_results_simp
    rw [show Pipeline.withArrays spec0 c (V0 m c) (fun w => (vdats planM m 0 c).arrAt w cfg0.N) (Proc.devRef .tc main_v2_2) = (vdats planM m 0 c).arrAt 5 cfg0.N from Pipeline.withArrays_arr spec0 hinj c _ _ 5]
    exact congrArg (fun x => shapeCast _ x _) (out5 m c)

end Cert.KernelIdeal.Hand
-- ==== Proof.EqI.lean ====
module

public import proofs.«01_k».proof.Proof.Res
public import proofs.«01_k».proof.Proof.Gen.ReferenceIdeal.Read
public import Idealize.ShloMosaic.PureOps.Ideal.Laws
public import Idealize.ShloMosaic.Lib.IdealHost
public import Idealize.ShloMosaic.Lib.KernelVsHost
public import Idealize.ShloMosaic.Lib.ValueLayout
public import Idealize.ShloMosaic.Lib.ValueLayoutCasts

/-! Over the reals the quantization of the kernel and of the reference agree. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe
open Cert.ReferenceIdeal.Read

theorem mr_max_le {s t : Shape} {axes : List (Fin s.rank)} (src : FVec Ideal s .f32) (acc : BitVec 32) (h : s.Reduces axes t) (hφ : FKind.Formats .f32)
    (hacc : acc = FKind.maximumf.neutral .f32 hφ) (j : t.Idx) (c : EReal) :
    multiReduction .maximumf axes t src acc h hφ hacc j ≤ c ↔ Ideal.ofBits .f32 acc ≤ c ∧ ∀ i, h.drop i = j → src i ≤ c := by
  rw [multiReduction_maximumf_eq_fold]
  refine (Finset.fold_max_le c).trans ?_
  simp

theorem le_mr_min {s t : Shape} {axes : List (Fin s.rank)} (src : FVec Ideal s .f32) (acc : BitVec 32) (h : s.Reduces axes t) (hφ : FKind.Formats .f32)
    (hacc : acc = FKind.minimumf.neutral .f32 hφ) (j : t.Idx) (c : EReal) :
    c ≤ multiReduction .minimumf axes t src acc h hφ hacc j ↔ c ≤ Ideal.ofBits .f32 acc ∧ ∀ i, h.drop i = j → c ≤ src i := by
  rw [multiReduction_minimumf_eq_fold]
  refine (Finset.le_fold_min c).trans ?_
  simp

variable (A : S2x128x3584.Idx → EReal)

/-- A row's place among the batch and the tokens. -/
def rb (r : Fin 256) : Fin 2 := ⟨r.1 / 128, by omega⟩
def rt (r : Fin 256) : Fin 128 := ⟨r.1 % 128, by omega⟩
/-- The row of a batch entry and token. -/
def rr (b : Fin 2) (t : Fin 128) : Fin 256 := ⟨128 * b.1 + t.1, by omega⟩
theorem rb_rr (b : Fin 2) (t : Fin 128) : rb (rr b t) = b := Fin.ext (by show (128 * b.1 + t.1) / 128 = b.1; omega)
theorem rt_rr (b : Fin 2) (t : Fin 128) : rt (rr b t) = t := Fin.ext (by show (128 * b.1 + t.1) % 128 = t.1; omega)
/-- The column of a chunk and lane. -/
def cl (k : Fin 28) (l : Fin 128) : Fin 3584 := ⟨128 * k.1 + l.1, by omega⟩
theorem cl_ck (d : Fin 3584) : cl (ck d) (ln d) = d := Fin.ext (by show 128 * (d.1 / 128) + d.1 % 128 = d.1; omega)

theorem xk_apply (k : Fin 28) (r : Fin 256) (l : Fin 128) : xk (F := Ideal) (xR (F := Ideal) A) k (ValueIdx.ix2 r l) = A (ValueIdx.ix3 (rb r) (rt r) (cl k l)) := by
  refine congrArg A (funext fun a => Fin.ext ?_)
  match a with
  | ⟨0, _⟩ => show (0 + 1 * r.1) / 128 = r.1 / 128; omega
  | ⟨1, _⟩ => show (0 + 1 * r.1) % 128 = r.1 % 128; omega
  | ⟨2, _⟩ => show 128 * k.1 + 1 * l.1 = 128 * k.1 + l.1; omega

theorem red01 : Shape.Reduces S2x128x3584 [0, 1] S3584 := by decide
theorem red2 : Shape.Reduces S2x128x3584 [2] S2x128 := by decide

theorem hr_max_le {t : Shape} {axes : List (Fin 3)} (x : FVec Ideal S2x128x3584 .f32) (h : S2x128x3584.ReducesTo axes t) (hu : 0 < Cert.ReferenceIdeal.S_.numel) (h' : S2x128x3584.Reduces axes t) (j : t.Idx) (c : EReal) :
    Host.reduce FloatOps.maximumf x (constant (F := Ideal) Cert.ReferenceIdeal.S_ .f32 0xFF800000#32) h hu j ≤ c ↔ Ideal.ofBits .f32 0xFF800000#32 ≤ c ∧ ∀ i, h'.drop i = j → x i ≤ c := by
  have e := congrFun (hostReduce_maximumf_eq_multiReduction x 0xFF800000#32 h hu h' (.inl rfl) rfl) j
  exact (iff_of_eq (congrArg (· ≤ c) e)).trans (mr_max_le x _ h' _ _ j c)

theorem le_hr_min {t : Shape} {axes : List (Fin 3)} (x : FVec Ideal S2x128x3584 .f32) (h : S2x128x3584.ReducesTo axes t) (hu : 0 < Cert.ReferenceIdeal.S_.numel) (h' : S2x128x3584.Reduces axes t) (j : t.Idx) (c : EReal) :
    c ≤ Host.reduce FloatOps.minimumf x (constant (F := Ideal) Cert.ReferenceIdeal.S_ .f32 0x7F800000#32) h hu j ↔ c ≤ Ideal.ofBits .f32 0x7F800000#32 ∧ ∀ i, h'.drop i = j → c ≤ x i := by
  have e := congrFun (hostReduce_minimumf_eq_multiReduction x 0x7F800000#32 h hu h' (.inl rfl) rfl) j
  exact (iff_of_eq (congrArg (c ≤ ·) e)).trans (le_mr_min x _ h' _ _ j c)

/-- An index is made of its components. -/
theorem ex3 (i : S2x128x3584.Idx) : ∃ (b : Fin 2) (t : Fin 128) (d : Fin 3584), i = ValueIdx.ix3 b t d :=
  ⟨i 0, i 1, i 2, funext fun a => match a with
    | ⟨0, _⟩ => rfl
    | ⟨1, _⟩ => rfl
    | ⟨2, _⟩ => rfl⟩
theorem ex2 (i : S256x128.Idx) : ∃ (r : Fin 256) (l : Fin 128), i = ValueIdx.ix2 r l :=
  ⟨i 0, i 1, funext fun a => match a with
    | ⟨0, _⟩ => rfl
    | ⟨1, _⟩ => rfl⟩

/-- Column maxima of the magnitudes agree. -/
theorem colmax_eq (k : Fin 28) (l : Fin 128) :
    multiReduction .maximumf [0] S128 (extf .f32 (absf (k0_pay120 (xk (F := Ideal) (xR (F := Ideal) A) k))) bitsLt_bf16_f32 : FVec Ideal S256x128 .f32) 0xFF800000#32 reduces_S256x128_S128 (.inl rfl) rfl (ValueIdx.ix1 l)
      = val_main_v2 (F := Ideal) A (ValueIdx.ix1 (cl k l)) := by
  refine eq_of_forall_ge_iff fun c => (mr_max_le _ _ _ _ _ _ c).trans (Iff.trans ?_ (hr_max_le (val_main_v1 (F := Ideal) A) _ _ red01 _ c).symm)
  have e3 : k0_pay120 (xk (F := Ideal) (xR (F := Ideal) A) k) = xk (F := Ideal) (xR (F := Ideal) A) k := shapeCast_self _ _
  rw [e3]
  have hv : ∀ (r : Fin 256) (l : Fin 128), (extf .f32 (absf (xk (F := Ideal) (xR (F := Ideal) A) k)) bitsLt_bf16_f32 : FVec Ideal S256x128 .f32) (ValueIdx.ix2 r l) = val_main_v1 (F := Ideal) A (ValueIdx.ix3 (rb r) (rt r) (cl k l)) := fun r l =>
    congrArg (fun a : EReal => max a (-a)) (xk_apply A k r l)
  refine and_congr Iff.rfl ⟨fun h i hi => ?_, fun h i hi => ?_⟩
  · obtain ⟨b, t, d, rfl⟩ := ex3 i
    have e2 : d = cl k l := Fin.ext ((red01.drop_apply_val_of_eq (ValueIdx.ix3 b t d) 0 2).symm.trans (congrArg (fun z => (z 0 : ℕ)) hi))
    have h1 := h (ValueIdx.ix2 (rr b t) l) (funext fun a => Fin.ext (by match a with | ⟨0, _⟩ => rfl))
    rw [hv, rb_rr, rt_rr] at h1
    rw [e2]
    exact h1
  · obtain ⟨r, l', rfl⟩ := ex2 i
    have e2 : l' = l := Fin.ext ((reduces_S256x128_S128.drop_apply_val_of_eq (ValueIdx.ix2 r l') 0 1).symm.trans (congrArg (fun z => (z 0 : ℕ)) hi))
    rw [hv, e2]
    exact h _ (funext fun a => Fin.ext (by match a with | ⟨0, _⟩ => rfl))

/-- The outlier columns agree. -/
theorem out_eq (k : Fin 28) (l : Fin 128) : k0_pay121 (xk (F := Ideal) (xR (F := Ideal) A) k) (ValueIdx.ix2 0 l) = val_main_v4 (F := Ideal) A (ValueIdx.ix1 (cl k l)) := by
  unfold k0_pay121
  refine congrArg (fun z : EReal => FloatOps.cmpf (F := Ideal) (φ := .f32) .ogt z (Ideal.ofBits .f32 0x40C00000#32)) ?_
  exact (ValueIdx.shapeCast_a_1a_apply _ _ _ _).trans (colmax_eq A k l)

section G
variable {F : FTy → Type} [FloatOps F]
theorem bcl {α : Type} (v : S1x128.Idx → α) (r : Fin 256) (l : Fin 128) :
    broadcastTo S256x128 (shapeCast S1x128 v shapeCasts_S1x128_S1x128) broadcasts_S1x128_S256x128 (ValueIdx.ix2 r l) = v (ValueIdx.ix2 0 l) := by
  rw [shapeCast_self]
  refine congrArg v (funext fun ax => Fin.ext ?_)
  match ax with
  | ⟨0, _⟩ => rfl
  | ⟨1, _⟩ => rfl
theorem bcr {α : Type} (v : S256x1.Idx → α) (r : Fin 256) (l : Fin 128) :
    broadcastTo S256x128 (shapeCast S256x1 v shapeCasts_S256x1_S256x1) broadcasts_S256x1_S256x128 (ValueIdx.ix2 r l) = v (ValueIdx.ix2 r 0) := by
  rw [shapeCast_self]
  refine congrArg v (funext fun ax => Fin.ext ?_)
  match ax with
  | ⟨0, _⟩ => rfl
  | ⟨1, _⟩ => rfl
theorem pay127_apply (x : Vec F S256x128 .bf16) (y : S256x128.Idx) : k0_pay127 x y = FloatOps.extf .f32 bitsLt_bf16_f32 (x y) := by
  unfold k0_pay127 k0_pay120
  exact congrArg (FloatOps.extf .f32 bitsLt_bf16_f32) (congrFun (shapeCast_self x shapeCasts_S256x128_S256x128) y)
theorem pay128_apply (x : Vec F S256x128 .bf16) (r : Fin 256) (l : Fin 128) :
    k0_pay128 x (ValueIdx.ix2 r l) = if k0_pay121 x (ValueIdx.ix2 0 l) = 1#1 then FloatOps.ofBits .f32 0x00000000#32 else FloatOps.extf .f32 bitsLt_bf16_f32 (x (ValueIdx.ix2 r l)) := by
  rw [← bcl (k0_pay121 x) r l, ← pay127_apply]
  rfl
theorem nrm_of (B : Vec F S2x128x3584 .bf16) (x : Vec F S256x128 .bf16) (k : Fin 28) (r : Fin 256) (l : Fin 128)
    (h : k0_pay121 x (ValueIdx.ix2 0 l) = val_main_v4 B (ValueIdx.ix1 (cl k l))) (hx : x (ValueIdx.ix2 r l) = B (ValueIdx.ix3 (rb r) (rt r) (cl k l))) :
    k0_pay128 x (ValueIdx.ix2 r l) = val_main_v8 B (ValueIdx.ix3 (rb r) (rt r) (cl k l)) := by
  rw [pay128_apply, h, hx, val_main_v8_apply, val_main_call0_v1_apply, val_main_call0_v2_apply, val_main_call0_v0_apply, val_main_cst_1_apply, val_main_v0_apply]
  have e : idx_main_call0_v1 (ValueIdx.ix3 (rb r) (rt r) (cl k l)) = ValueIdx.ix1 (cl k l) := funext fun a => match a with | ⟨0, _⟩ => rfl
  rw [e]
  rfl
theorem hiN_succ (X : Vec F S256x3584 .bf16) (n : ℕ) (h : n + 1 ≤ 28) (y : S256x128.Idx) :
    hiN X (n + 1) h y = FloatOps.maximumf (hiN X n (by omega) y) (FloatOps.truncf .bf16 bitsLt_bf16_f32 (k0_pay128 (xk X ⟨n, h⟩) y)) := rfl
theorem loN_succ (X : Vec F S256x3584 .bf16) (n : ℕ) (h : n + 1 ≤ 28) (y : S256x128.Idx) :
    loN X (n + 1) h y = FloatOps.minimumf (loN X n (by omega) y) (FloatOps.truncf .bf16 bitsLt_bf16_f32 (k0_pay128 (xk X ⟨n, h⟩) y)) := rfl
theorem hiN_zero (X : Vec F S256x3584 .bf16) (h : 0 ≤ 28) (y : S256x128.Idx) : hiN X 0 h y = FloatOps.ofBits .bf16 0x0000#16 := rfl
theorem loN_zero (X : Vec F S256x3584 .bf16) (h : 0 ≤ 28) (y : S256x128.Idx) : loN X 0 h y = FloatOps.ofBits .bf16 0x0000#16 := rfl
theorem hi_last (X : Vec F S256x3584 .bf16) (y : S256x128.Idx) :
    (extf .f32 (maximumf (hiN X 27 (by omega)) (k0_pay509 (k0_pay128 (xk X 27)))) bitsLt_bf16_f32 : FVec F S256x128 .f32) y = FloatOps.extf .f32 bitsLt_bf16_f32 (hiN X 28 (Nat.le_refl _) y) := rfl
theorem lo_last (X : Vec F S256x3584 .bf16) (y : S256x128.Idx) :
    (extf .f32 (minimumf (loN X 27 (by omega)) (k0_pay509 (k0_pay128 (xk X 27)))) bitsLt_bf16_f32 : FVec F S256x128 .f32) y = FloatOps.extf .f32 bitsLt_bf16_f32 (loN X 28 (Nat.le_refl _) y) := rfl
end G

/-- The entries outside the outlier columns agree. -/
theorem nrm_eq (k : Fin 28) (r : Fin 256) (l : Fin 128) : k0_pay128 (xk (F := Ideal) (xR (F := Ideal) A) k) (ValueIdx.ix2 r l) = val_main_v8 (F := Ideal) A (ValueIdx.ix3 (rb r) (rt r) (cl k l)) := by
  exact nrm_of (F := Ideal) A (xk (F := Ideal) (xR (F := Ideal) A) k) k r l (out_eq A k l) (xk_apply A k r l)

theorem hi_le (n : ℕ) (h : n ≤ 28) (r : Fin 256) (l : Fin 128) (c : EReal) :
    hiN (F := Ideal) (xR (F := Ideal) A) n h (ValueIdx.ix2 r l) ≤ c ↔ 0 ≤ c ∧ ∀ k : Fin 28, k.1 < n → val_main_v8 (F := Ideal) A (ValueIdx.ix3 (rb r) (rt r) (cl k l)) ≤ c := by
  induction n with
  | zero =>
    have e : hiN (F := Ideal) (xR (F := Ideal) A) 0 h (ValueIdx.ix2 r l) = (0 : EReal) := (hiN_zero _ _ _).trans Ideal.ofBits_zero_bf16
    rw [e]
    exact ⟨fun h => ⟨h, fun k hk => absurd hk (Nat.not_lt_zero _)⟩, fun h => h.1⟩
  | succ n ih =>
    have e : hiN (F := Ideal) (xR (F := Ideal) A) (n + 1) h (ValueIdx.ix2 r l) = max (hiN (F := Ideal) (xR (F := Ideal) A) n (by omega) (ValueIdx.ix2 r l)) (k0_pay128 (xk (F := Ideal) (xR (F := Ideal) A) ⟨n, h⟩) (ValueIdx.ix2 r l)) := hiN_succ _ _ _ _
    rw [e, nrm_eq]
    refine max_le_iff.trans ?_
    rw [ih]
    constructor
    · rintro ⟨⟨h0, h1⟩, h2⟩
      refine ⟨h0, fun k hk => ?_⟩
      rcases Nat.lt_succ_iff_lt_or_eq.mp hk with h3 | h3
      · exact h1 k h3
      · have : k = ⟨n, h⟩ := Fin.ext h3
        rw [this]; exact h2
    · rintro ⟨h0, h1⟩
      exact ⟨⟨h0, fun k hk => h1 k (Nat.lt_succ_of_lt hk)⟩, h1 _ (Nat.lt_succ_self n)⟩

theorem le_lo (n : ℕ) (h : n ≤ 28) (r : Fin 256) (l : Fin 128) (c : EReal) :
    c ≤ loN (F := Ideal) (xR (F := Ideal) A) n h (ValueIdx.ix2 r l) ↔ c ≤ 0 ∧ ∀ k : Fin 28, k.1 < n → c ≤ val_main_v8 (F := Ideal) A (ValueIdx.ix3 (rb r) (rt r) (cl k l)) := by
  induction n with
  | zero =>
    have e : loN (F := Ideal) (xR (F := Ideal) A) 0 h (ValueIdx.ix2 r l) = (0 : EReal) := (loN_zero _ _ _).trans Ideal.ofBits_zero_bf16
    rw [e]
    exact ⟨fun h => ⟨h, fun k hk => absurd hk (Nat.not_lt_zero _)⟩, fun h => h.1⟩
  | succ n ih =>
    have e : loN (F := Ideal) (xR (F := Ideal) A) (n + 1) h (ValueIdx.ix2 r l) = min (loN (F := Ideal) (xR (F := Ideal) A) n (by omega) (ValueIdx.ix2 r l)) (k0_pay128 (xk (F := Ideal) (xR (F := Ideal) A) ⟨n, h⟩) (ValueIdx.ix2 r l)) := loN_succ _ _ _ _
    rw [e, nrm_eq]
    refine le_min_iff.trans ?_
    rw [ih]
    constructor
    · rintro ⟨⟨h0, h1⟩, h2⟩
      refine ⟨h0, fun k hk => ?_⟩
      rcases Nat.lt_succ_iff_lt_or_eq.mp hk with h3 | h3
      · exact h1 k h3
      · have : k = ⟨n, h⟩ := Fin.ext h3
        rw [this]; exact h2
    · rintro ⟨h0, h1⟩
      exact ⟨⟨h0, fun k hk => h1 k (Nat.lt_succ_of_lt hk)⟩, h1 _ (Nat.lt_succ_self n)⟩

theorem forall_cl (P : Fin 3584 → Prop) : (∀ d, P d) ↔ ∀ k l, P (cl k l) :=
  ⟨fun h k l => h _, fun h d => by rw [← cl_ck d]; exact h _ _⟩

/-- The rows' greatest entries agree. -/
theorem amax_eq (r : Fin 256) :
    multiReduction .maximumf [1] S256 (extf .f32 (maximumf (hiN (F := Ideal) (xR (F := Ideal) A) 27 (by omega)) (k0_pay509 (k0_pay128 (xk (F := Ideal) (xR (F := Ideal) A) 27)))) bitsLt_bf16_f32 : FVec Ideal S256x128 .f32) 0xFF800000#32 reduces_S256x128_S256 (.inl rfl) rfl (ValueIdx.ix1 r)
      = val_main_v11 (F := Ideal) A (ValueIdx.ix2 (rb r) (rt r)) := by
  have hbot : Ideal.ofBits .f32 0xFF800000#32 = ⊥ := by simp [Ideal.ofBits, Ideal.ieee]
  refine eq_of_forall_ge_iff fun c => ?_
  have e10 : val_main_v10 (F := Ideal) (ValueIdx.ix2 (rb r) (rt r)) = (0 : EReal) := Ideal.ofBits_zero_f32
  rw [val_main_v11_apply, e10]
  refine Iff.trans ?_ max_le_iff.symm
  refine (mr_max_le _ _ _ _ _ _ c).trans (Iff.trans ?_ (and_congr (hr_max_le (val_main_v8 (F := Ideal) A) _ _ red2 _ c).symm Iff.rfl))
  rw [hbot]
  have hl : ∀ l : Fin 128, (extf .f32 (maximumf (hiN (F := Ideal) (xR (F := Ideal) A) 27 (by omega)) (k0_pay509 (k0_pay128 (xk (F := Ideal) (xR (F := Ideal) A) 27)))) bitsLt_bf16_f32 : FVec Ideal S256x128 .f32) (ValueIdx.ix2 r l) ≤ c ↔ 0 ≤ c ∧ ∀ k : Fin 28, val_main_v8 (F := Ideal) A (ValueIdx.ix3 (rb r) (rt r) (cl k l)) ≤ c := fun l => by
    have := hi_le A 28 (Nat.le_refl _) r l c
    rw [hi_last]
    exact (this.trans (and_congr Iff.rfl ⟨fun h k => h k k.2, fun h k _ => h k⟩))
  constructor
  · rintro ⟨-, h⟩
    have h' : ∀ l : Fin 128, _ := fun l => (hl l).mp (h (ValueIdx.ix2 r l) (funext fun a => Fin.ext (by match a with | ⟨0, _⟩ => rfl)))
    refine ⟨⟨bot_le, fun i hi => ?_⟩, (h' 0).1⟩
    obtain ⟨b, t, d, rfl⟩ := ex3 i
    have e0 : b = rb r := Fin.ext ((red2.drop_apply_val_of_eq (ValueIdx.ix3 b t d) 0 0).symm.trans (congrArg (fun z => (z 0 : ℕ)) hi))
    have e1 : t = rt r := Fin.ext ((red2.drop_apply_val_of_eq (ValueIdx.ix3 b t d) 1 1).symm.trans (congrArg (fun z => (z 1 : ℕ)) hi))
    rw [e0, e1, ← cl_ck d]
    exact (h' _).2 _
  · rintro ⟨⟨-, h⟩, h0⟩
    refine ⟨bot_le, fun i hi => ?_⟩
    obtain ⟨r', l, rfl⟩ := ex2 i
    have e0 : r' = r := Fin.ext ((reduces_S256x128_S256.drop_apply_val_of_eq (ValueIdx.ix2 r' l) 0 0).symm.trans (congrArg (fun z => (z 0 : ℕ)) hi))
    rw [e0]
    exact (hl _).mpr ⟨h0, fun k => h _ (funext fun a => Fin.ext (by match a with | ⟨0, _⟩ => rfl | ⟨1, _⟩ => rfl))⟩

/-- The rows' least entries agree. -/
theorem amin_eq (r : Fin 256) :
    multiReduction .minimumf [1] S256 (extf .f32 (minimumf (loN (F := Ideal) (xR (F := Ideal) A) 27 (by omega)) (k0_pay509 (k0_pay128 (xk (F := Ideal) (xR (F := Ideal) A) 27)))) bitsLt_bf16_f32 : FVec Ideal S256x128 .f32) 0x7F800000#32 reduces_S256x128_S256 (.inl rfl) rfl (ValueIdx.ix1 r)
      = val_main_v14 (F := Ideal) A (ValueIdx.ix2 (rb r) (rt r)) := by
  have htop : Ideal.ofBits .f32 0x7F800000#32 = ⊤ := by simp [Ideal.ofBits, Ideal.ieee]
  refine eq_of_forall_le_iff fun c => ?_
  have e10 : val_main_v13 (F := Ideal) (ValueIdx.ix2 (rb r) (rt r)) = (0 : EReal) := Ideal.ofBits_zero_f32
  rw [val_main_v14_apply, e10]
  refine Iff.trans ?_ le_min_iff.symm
  refine (le_mr_min _ _ _ _ _ _ c).trans (Iff.trans ?_ (and_congr (le_hr_min (val_main_v8 (F := Ideal) A) _ _ red2 _ c).symm Iff.rfl))
  rw [htop]
  have hl : ∀ l : Fin 128, c ≤ (extf .f32 (minimumf (loN (F := Ideal) (xR (F := Ideal) A) 27 (by omega)) (k0_pay509 (k0_pay128 (xk (F := Ideal) (xR (F := Ideal) A) 27)))) bitsLt_bf16_f32 : FVec Ideal S256x128 .f32) (ValueIdx.ix2 r l) ↔ c ≤ 0 ∧ ∀ k : Fin 28, c ≤ val_main_v8 (F := Ideal) A (ValueIdx.ix3 (rb r) (rt r) (cl k l)) := fun l => by
    have := le_lo A 28 (Nat.le_refl _) r l c
    rw [lo_last]
    exact (this.trans (and_congr Iff.rfl ⟨fun h k => h k k.2, fun h k _ => h k⟩))
  constructor
  · rintro ⟨-, h⟩
    have h' : ∀ l : Fin 128, _ := fun l => (hl l).mp (h (ValueIdx.ix2 r l) (funext fun a => Fin.ext (by match a with | ⟨0, _⟩ => rfl)))
    refine ⟨⟨le_top, fun i hi => ?_⟩, (h' 0).1⟩
    obtain ⟨b, t, d, rfl⟩ := ex3 i
    have e0 : b = rb r := Fin.ext ((red2.drop_apply_val_of_eq (ValueIdx.ix3 b t d) 0 0).symm.trans (congrArg (fun z => (z 0 : ℕ)) hi))
    have e1 : t = rt r := Fin.ext ((red2.drop_apply_val_of_eq (ValueIdx.ix3 b t d) 1 1).symm.trans (congrArg (fun z => (z 1 : ℕ)) hi))
    rw [e0, e1, ← cl_ck d]
    exact (h' _).2 _
  · rintro ⟨⟨-, h⟩, h0⟩
    refine ⟨le_top, fun i hi => ?_⟩
    obtain ⟨r', l, rfl⟩ := ex2 i
    have e0 : r' = r := Fin.ext ((reduces_S256x128_S256.drop_apply_val_of_eq (ValueIdx.ix2 r' l) 0 0).symm.trans (congrArg (fun z => (z 0 : ℕ)) hi))
    rw [e0]
    exact (hl _).mpr ⟨h0, fun k => h _ (funext fun a => Fin.ext (by match a with | ⟨0, _⟩ => rfl | ⟨1, _⟩ => rfl))⟩

end Cert.KernelIdeal.Hand
-- ==== Proof.Num.lean ====
module

public import Idealize.ShloMosaic.PureOps.Ideal.Laws
public import Idealize.ShloMosaic.Lib.IdealHost
public import Mathlib.Data.EReal.Operations

/-! Extended reals that are integers or infinite: rounding, clipping to eight bits, and casts to integers. -/

@[expose] public section

noncomputable section

namespace Cert.KernelIdeal.Hand

open Idealize.ShloMosaic

/-- The bits of 127 and of -128. -/
theorem bits127 : Ideal.ofBits .f32 0x42FE0000#32 = ((127 : ℝ) : EReal) := by
  simp [Ideal.ofBits, Ideal.ieee]
  rw [← EReal.coe_mul]; norm_num
theorem bitsn128 : Ideal.ofBits .f32 0xC3000000#32 = ((-128 : ℝ) : EReal) := by
  simp [Ideal.ofBits, Ideal.ieee]
  rw [← EReal.coe_mul]; norm_num

/-- Clipping to [-128, 127]. -/
def clipI (v : EReal) : EReal := min ((127 : ℝ) : EReal) (max ((-128 : ℝ) : EReal) v)
/-- Infinite, or an integer. -/
def IsI (v : EReal) : Prop := v = ⊥ ∨ v = ⊤ ∨ ∃ n : ℤ, v = ((n : ℝ) : EReal)

theorem clip_int {v : EReal} (h : IsI v) : ∃ n : ℤ, -128 ≤ n ∧ n ≤ 127 ∧ clipI v = ((n : ℝ) : EReal) := by
  rcases h with rfl | rfl | ⟨n, rfl⟩
  · refine ⟨-128, by omega, by omega, ?_⟩
    unfold clipI
    rw [max_eq_left bot_le, min_eq_right]
    · norm_num
    · exact EReal.coe_le_coe_iff.mpr (by norm_num)
  · refine ⟨127, by omega, by omega, ?_⟩
    unfold clipI
    rw [max_eq_right le_top, min_eq_left le_top]
    norm_num
  · refine ⟨min 127 (max (-128) n), by omega, by omega, ?_⟩
    unfold clipI
    rw [← EReal.coe_strictMono.monotone.map_max, ← EReal.coe_strictMono.monotone.map_min]
    push_cast
    rfl

theorem isI_round (x : EReal) : IsI (Ideal.liftRound Ideal.roundHalfEven x) := by
  induction x with
  | bot => exact .inl rfl
  | top => exact .inr (.inl rfl)
  | coe r => exact .inr (.inr ⟨_, rfl⟩)

theorem isI_sub {v : EReal} (h : IsI v) : IsI (((-128 : ℝ) : EReal) - v) := by
  rcases h with rfl | rfl | ⟨n, rfl⟩
  · exact .inr (.inl (EReal.coe_sub_bot _))
  · exact .inl (by rw [sub_eq_add_neg, EReal.neg_top, EReal.add_bot])
  · refine .inr (.inr ⟨-128 - n, ?_⟩)
    rw [← EReal.coe_sub]; push_cast; rfl

theorem isI_add {v : EReal} (h : IsI v) (m : ℤ) : IsI (v + ((m : ℝ) : EReal)) := by
  rcases h with rfl | rfl | ⟨n, rfl⟩
  · exact .inl (EReal.bot_add _)
  · exact .inr (.inl (EReal.top_add_coe _))
  · refine .inr (.inr ⟨n + m, ?_⟩)
    rw [← EReal.coe_add]; push_cast; rfl

theorem fptosi_int (w : ℕ) (n : ℤ) (h1 : -(2 ^ (w - 1) : ℤ) ≤ n) (h2 : n ≤ 2 ^ (w - 1) - 1) :
    Ideal.fptosi w ((n : ℝ) : EReal) = BitVec.ofInt w n := by
  have e : (if (0 : ℝ) ≤ (n : ℝ) then ⌊(n : ℝ)⌋ else ⌈(n : ℝ)⌉) = n := by
    split <;> simp
  unfold Ideal.fptosi
  refine congrArg (BitVec.ofInt w) ?_
  show max _ (min _ (if (0 : ℝ) ≤ (n : ℝ) then ⌊(n : ℝ)⌋ else ⌈(n : ℝ)⌉)) = n
  rw [e]
  push_cast
  omega

theorem toInt_ofInt32 (n : ℤ) (h1 : -128 ≤ n) (h2 : n ≤ 127) : (BitVec.ofInt 32 n).toInt = n := by
  rw [BitVec.toInt_ofInt, Int.bmod_def]; omega
theorem toInt_ofInt8 (n : ℤ) (h1 : -128 ≤ n) (h2 : n ≤ 127) : (BitVec.ofInt 8 n).toInt = n := by
  rw [BitVec.toInt_ofInt, Int.bmod_def]; omega
theorem trunc_ofInt (n : ℤ) : (BitVec.ofInt 32 n).setWidth 8 = BitVec.ofInt 8 n := by
  apply BitVec.eq_of_toNat_eq
  rw [BitVec.toNat_setWidth, BitVec.toNat_ofInt, BitVec.toNat_ofInt]
  omega
theorem ext_toInt (b : BitVec 8) : (b.signExtend 32).toInt = b.toInt := BitVec.toInt_signExtend_of_le (by omega)

end Cert.KernelIdeal.Hand
-- ==== Proof.EqS.lean ====
module

public import proofs.«01_k».proof.Proof.EqI
public import proofs.«01_k».proof.Proof.Num

/-! Scales, zero points, codes and mask: the kernel's are the reference's. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe
open Cert.ReferenceIdeal.Read

section G
variable {F : FTy → Type} [FloatOps F]

/-- The greatest and the least entry of a row. -/
def amx (h : FVec F S256x128 .bf16) (v : FVec F S256x128 .f32) (r : Fin 256) : F .f32 :=
  multiReduction .maximumf [1] S256 (extf .f32 (maximumf h (k0_pay509 v)) bitsLt_bf16_f32 : FVec F S256x128 .f32) 0xFF800000#32 reduces_S256x128_S256 (.inl rfl) rfl (ValueIdx.ix1 r)
def amn (h : FVec F S256x128 .bf16) (v : FVec F S256x128 .f32) (r : Fin 256) : F .f32 :=
  multiReduction .minimumf [1] S256 (extf .f32 (minimumf h (k0_pay509 v)) bitsLt_bf16_f32 : FVec F S256x128 .f32) 0x7F800000#32 reduces_S256x128_S256 (.inl rfl) rfl (ValueIdx.ix1 r)

theorem pay510_apply (lo : FVec F S256x128 .bf16) (v : FVec F S256x128 .f32) (r : Fin 256) : k0_pay510 lo v (ValueIdx.ix2 r 0) = amn lo v r := by
  unfold k0_pay510
  exact ValueIdx.shapeCast_a_a1_apply _ _ r 0

/-- A scale from the greatest and the least entry. -/
def scS (a b : F .f32) : F .f32 :=
  Scalar.select (FloatOps.cmpf .oeq a b) (FloatOps.ofBits .f32 0x3F800000#32) (FloatOps.divf (FloatOps.subf a b) (FloatOps.ofBits .f32 0x437F0000#32))

theorem pay511_apply (h lo : FVec F S256x128 .bf16) (v : FVec F S256x128 .f32) (r : Fin 256) : k0_pay511 h lo v (ValueIdx.ix2 r 0) = scS (amx h v r) (amn lo v r) := by
  unfold k0_pay511
  exact congrArg₂ (fun a b => scS a b)
    (ValueIdx.shapeCast_a_a1_apply (multiReduction .maximumf [1] S256 (extf .f32 (maximumf h (k0_pay509 v)) bitsLt_bf16_f32 : FVec F S256x128 .f32) 0xFF800000#32 reduces_S256x128_S256 (.inl rfl) rfl) shapeCasts_S256_S256x1 r 0)
    (pay510_apply lo v r)

theorem pay512_apply (h lo : FVec F S256x128 .bf16) (v : FVec F S256x128 .f32) (r : Fin 256) (l : Fin 128) :
    k0_pay512 h lo v (ValueIdx.ix2 r l) = scS (amx h v r) (amn lo v r) := by
  unfold k0_pay512
  exact (bcr _ r l).trans (pay511_apply h lo v r)

/-- Clipping by constants. -/
def clS (v : F .f32) : F .f32 := FloatOps.minimumf (FloatOps.ofBits .f32 0x42FE0000#32) (FloatOps.maximumf (FloatOps.ofBits .f32 0xC3000000#32) v)

theorem pay513_apply (h lo : FVec F S256x128 .bf16) (v : FVec F S256x128 .f32) (r : Fin 256) (l : Fin 128) :
    k0_pay513 h lo v (ValueIdx.ix2 r l) = clS (FloatOps.subf (FloatOps.ofBits .f32 0xC3000000#32) (FloatOps.roundeven (FloatOps.divf (amn lo v r) (scS (amx h v r) (amn lo v r))))) := by
  unfold k0_pay513
  refine (bcr _ r l).trans ?_
  exact congrArg₂ (fun a b => clS (FloatOps.subf (FloatOps.ofBits .f32 0xC3000000#32) (FloatOps.roundeven (FloatOps.divf a b)))) (pay510_apply lo v r) (pay511_apply h lo v r)

theorem ne_ext (b : BitVec 1) : IntOp.cmpi .ne (b.setWidth 32) 0#32 = b := by revert b; decide

theorem nrm_sel (x : Vec F S256x128 .bf16) (y : S256x128.Idx) :
    select (broadcastTo S256x128 (shapeCast S1x128 (cmpi .ne (shapeCast S1x128 (k0_pay122 x) shapeCasts_S1x128_S1x128) (broadcast S1x128 0#32)) shapeCasts_S1x128_S1x128) broadcasts_S1x128_S256x128)
      (broadcast S256x128 (Scalar.ofBits .f32 0x00000000#32)) (extf .f32 (shapeCast S256x128 x shapeCasts_S256x128_S256x128) bitsLt_bf16_f32) y = k0_pay128 x y := by
  have e : cmpi .ne (shapeCast S1x128 (k0_pay122 x) shapeCasts_S1x128_S1x128) (broadcast S1x128 0#32) = k0_pay121 x := by
    rw [shapeCast_self]
    funext i
    exact ne_ext _
  rw [e]
  rfl

theorem pay520_apply (sb zb : FVec F S256x128 .f32) (x : Vec F S256x128 .bf16) (y : S256x128.Idx) :
    k0_pay520 sb zb (k0_pay122 x) x y = clS (FloatOps.addf (FloatOps.roundeven (FloatOps.divf (k0_pay128 x y) (sb y))) (zb y)) := by
  unfold k0_pay520
  exact congrArg (fun a => clS (FloatOps.addf (FloatOps.roundeven (FloatOps.divf a (sb y))) (zb y))) (nrm_sel x y)

theorem v19_of (B : Vec F S2x128x3584 .bf16) (i : S2x128.Idx) : val_main_v19 B i =
    Scalar.select (FloatOps.cmpf .oeq (val_main_v11 B i) (val_main_v14 B i)) (FloatOps.ofBits .f32 0x3F800000#32) (FloatOps.hostDivf (FloatOps.subf (val_main_v11 B i) (val_main_v14 B i)) (FloatOps.ofBits .f32 0x437F0000#32)) := by
  rw [val_main_v19_apply, val_main_v15_apply, val_main_v18_apply, val_main_v16_apply, val_main_v17_apply, val_main_call1_v1_apply, val_main_call1_v0_apply, val_main_cst_6_apply, val_main_cst_7_apply]

theorem v24_of (B : Vec F S2x128x3584 .bf16) (i : S2x128.Idx) : val_main_v24 B i =
    FloatOps.minimumf (FloatOps.sitofp .f32 127#32) (FloatOps.maximumf (FloatOps.sitofp .f32 4294967168#32) (FloatOps.subf (FloatOps.ofBits .f32 0xC3000000#32) (FloatOps.hostUnary .roundeven (FloatOps.hostDivf (val_main_v14 B i) (val_main_v19 B i))))) := by
  rw [val_main_v24_apply, val_main_call3_v4_apply, val_main_call3_v3_apply, val_main_c_9_apply, val_main_call3_v2_apply, val_main_call3_v1_apply, val_main_call3_v0_apply, val_main_c_apply, val_main_v23_apply, val_main_v22_apply, val_main_cst_8_apply, val_main_v21_apply, val_main_v20_apply]

theorem v34_of (B : Vec F S2x128x3584 .bf16) (b : Fin 2) (t : Fin 128) (d : Fin 3584) : val_main_v34 B (ValueIdx.ix3 b t d) =
    FloatOps.minimumf (FloatOps.sitofp .f32 127#32) (FloatOps.maximumf (FloatOps.sitofp .f32 4294967168#32)
      (FloatOps.addf (FloatOps.hostUnary .roundeven (FloatOps.hostDivf (val_main_v8 B (ValueIdx.ix3 b t d)) (val_main_v19 B (ValueIdx.ix2 b t)))) (FloatOps.sitofp .f32 (FloatOps.fptosi 32 (val_main_v24 B (ValueIdx.ix2 b t)))))) := by
  rw [val_main_v34_apply, val_main_call5_v4_apply, val_main_call5_v3_apply, val_main_c_11_apply, val_main_call5_v2_apply, val_main_call5_v1_apply, val_main_call5_v0_apply, val_main_c_10_apply, val_main_v33_apply, val_main_v29_apply, val_main_v28_apply, val_main_v27_apply, val_main_v26_apply, val_main_v32_apply, val_main_v31_apply, val_main_v30_apply, val_main_v25_apply]
  have e1 : idx_main_v26 (idx_main_v27 (ValueIdx.ix3 b t d)) = ValueIdx.ix2 b t := funext fun a => match a with
    | ⟨0, _⟩ => rfl
    | ⟨1, _⟩ => rfl
  have e2 : idx_main_v31 (idx_main_v32 (ValueIdx.ix3 b t d)) = ValueIdx.ix2 b t := funext fun a => match a with
    | ⟨0, _⟩ => rfl
    | ⟨1, _⟩ => rfl
  rw [e1, e2]
end G

theorem hdiv (a b : Ideal .f32) : FloatOps.hostDivf a b = FloatOps.divf a b := rfl
theorem hrnd (a : Ideal .f32) : FloatOps.hostUnary .roundeven a = FloatOps.roundeven a := rfl
theorem k127 : FloatOps.sitofp (F := Ideal) .f32 (127#32) = FloatOps.ofBits .f32 0x42FE0000#32 := by
  refine Eq.trans ?_ bits127.symm
  exact congrArg (fun n : ℤ => ((n : ℝ) : EReal)) (show (127#32).toInt = 127 by decide) |>.trans (by norm_num)
theorem kn128 : FloatOps.sitofp (F := Ideal) .f32 (4294967168#32) = FloatOps.ofBits .f32 0xC3000000#32 := by
  refine Eq.trans ?_ bitsn128.symm
  exact congrArg (fun n : ℤ => ((n : ℝ) : EReal)) (show (4294967168#32).toInt = -128 by decide) |>.trans (by norm_num)
theorem clS_eq (v : EReal) : clS (F := Ideal) v = clipI v := congrArg₂ (fun a b : EReal => min a (max b v)) bits127 bitsn128
theorem sito (b : BitVec 32) : FloatOps.sitofp (F := Ideal) .f32 b = (((b.toInt : ℤ) : ℝ) : EReal) := rfl

variable (A : S2x128x3584.Idx → EReal)

/-- The scales agree. -/
theorem sb_eq (r : Fin 256) (l : Fin 128) : sbV (F := Ideal) (xR (F := Ideal) A) (ValueIdx.ix2 r l) = val_main_v19 (F := Ideal) A (ValueIdx.ix2 (rb r) (rt r)) := by
  unfold sbV
  rw [pay512_apply, v19_of, hdiv]
  exact congrArg₂ (fun a b => scS (F := Ideal) a b) (amax_eq A r) (amin_eq A r)

/-- The zero points agree. -/
theorem zb_eq (r : Fin 256) (l : Fin 128) : zbV (F := Ideal) (xR (F := Ideal) A) (ValueIdx.ix2 r l) = val_main_v24 (F := Ideal) A (ValueIdx.ix2 (rb r) (rt r)) := by
  have hs := sb_eq A r l
  unfold sbV at hs
  rw [pay512_apply] at hs
  unfold zbV
  rw [pay513_apply, hs, v24_of, hdiv, hrnd, k127, kn128]
  exact congrArg (fun a => clS (F := Ideal) (FloatOps.subf (FloatOps.ofBits .f32 0xC3000000#32) (FloatOps.roundeven (FloatOps.divf a (val_main_v19 (F := Ideal) A (ValueIdx.ix2 (rb r) (rt r))))))) (amin_eq A r)

theorem clS_sub (a : EReal) (x : Ideal .f32) (h : a = ((-128 : ℝ) : EReal)) :
    clS (F := Ideal) (FloatOps.subf (F := Ideal) (φ := .f32) a (FloatOps.hostUnary (F := Ideal) (φ := .f32) .roundeven x)) = clipI (((-128 : ℝ) : EReal) - Ideal.liftRound Ideal.roundHalfEven x) := by
  rw [h]; exact clS_eq _

theorem clS_add (b : EReal) (x : Ideal .f32) :
    clS (F := Ideal) (FloatOps.addf (F := Ideal) (φ := .f32) (FloatOps.hostUnary (F := Ideal) (φ := .f32) .roundeven x) b) = clipI (Ideal.liftRound Ideal.roundHalfEven x + b) := clS_eq _

/-- A zero point is an integer of eight bits. -/
theorem v24_int (i : S2x128.Idx) : ∃ n : ℤ, -128 ≤ n ∧ n ≤ 127 ∧ val_main_v24 (F := Ideal) A i = ((n : ℝ) : EReal) := by
  rw [v24_of, k127, kn128]
  obtain ⟨n, h1, h2, h3⟩ := clip_int (isI_sub (isI_round (FloatOps.hostDivf (F := Ideal) (φ := .f32) (val_main_v14 (F := Ideal) A i) (val_main_v19 (F := Ideal) A i))))
  exact ⟨n, h1, h2, (clS_sub _ _ bitsn128).trans h3⟩

theorem zero_back (i : S2x128.Idx) : FloatOps.sitofp (F := Ideal) .f32 (FloatOps.fptosi (F := Ideal) (φ := .f32) 32 (val_main_v24 (F := Ideal) A i)) = val_main_v24 (F := Ideal) A i := by
  obtain ⟨n, h1, h2, h3⟩ := v24_int A i
  have e : FloatOps.fptosi (F := Ideal) (φ := .f32) 32 (val_main_v24 (F := Ideal) A i) = BitVec.ofInt 32 n := by
    rw [h3]; exact fptosi_int 32 n (by norm_num; omega) (by norm_num; omega)
  rw [e, sito, toInt_ofInt32 n h1 h2, h3]

/-- A clipped code, before the cast, is an integer of eight bits. -/
theorem v34_int (b : Fin 2) (t : Fin 128) (d : Fin 3584) : ∃ n : ℤ, -128 ≤ n ∧ n ≤ 127 ∧ val_main_v34 (F := Ideal) A (ValueIdx.ix3 b t d) = ((n : ℝ) : EReal) := by
  rw [v34_of, k127, kn128, zero_back]
  obtain ⟨m, -, -, hm⟩ := v24_int A (ValueIdx.ix2 b t)
  rw [hm]
  obtain ⟨n, h1, h2, h3⟩ := clip_int (isI_add (isI_round (FloatOps.hostDivf (F := Ideal) (φ := .f32) (val_main_v8 (F := Ideal) A (ValueIdx.ix3 b t d)) (val_main_v19 (F := Ideal) A (ValueIdx.ix2 b t)))) m)
  exact ⟨n, h1, h2, (clS_add _ _).trans h3⟩

theorem z_eq (k : Fin 28) (r : Fin 256) (l : Fin 128) :
    k0_pay520 (sbV (F := Ideal) (xR (F := Ideal) A)) (zbV (F := Ideal) (xR (F := Ideal) A)) (k0_pay122 (xk (F := Ideal) (xR (F := Ideal) A) k)) (xk (F := Ideal) (xR (F := Ideal) A) k) (ValueIdx.ix2 r l)
      = val_main_v34 (F := Ideal) A (ValueIdx.ix3 (rb r) (rt r) (cl k l)) := by
  rw [pay520_apply, sb_eq, zb_eq, nrm_eq, v34_of, k127, kn128, zero_back, hdiv, hrnd]
  rfl

/-- The mask. -/
theorem mask_out : shapeCast S3584 (maskV (F := Ideal) (xR (F := Ideal) A)) shapeCasts_S1x3584_S3584 = val_main_v5 (F := Ideal) A := by
  funext i
  obtain ⟨d, rfl⟩ : ∃ d : Fin 3584, i = ValueIdx.ix1 d := ⟨i 0, funext fun a => match a with | ⟨0, _⟩ => rfl⟩
  rw [val_main_v5_apply]
  refine (ValueIdx.shapeCast_1a_a_apply (maskV (F := Ideal) (xR (F := Ideal) A)) shapeCasts_S1x3584_S3584 d).trans ?_
  refine (congrArg (fun b : BitVec 1 => b.setWidth 32) (out_eq A (ck d) (ln d))).trans ?_
  rw [cl_ck]

theorem codesV_eq (k : Fin 28) (r : Fin 256) (l : Fin 128) :
    k0_pay521 (sbV (F := Ideal) (xR (F := Ideal) A)) (zbV (F := Ideal) (xR (F := Ideal) A)) (k0_pay122 (xk (F := Ideal) (xR (F := Ideal) A) k)) (xk (F := Ideal) (xR (F := Ideal) A) k) (ValueIdx.ix2 r l)
      = val_main_v37_0 (F := Ideal) A (ValueIdx.ix3 (rb r) (rt r) (cl k l)) := by
  rw [val_main_v37_0_apply, val_main_v36_apply, val_main_v35_apply]
  obtain ⟨n, h1, h2, h3⟩ := v34_int A (rb r) (rt r) (cl k l)
  have e : FloatOps.fptosi (F := Ideal) (φ := .f32) 32 (val_main_v34 (F := Ideal) A (ValueIdx.ix3 (rb r) (rt r) (cl k l))) = BitVec.ofInt 32 n := by
    rw [h3]; exact fptosi_int 32 n (by norm_num; omega) (by norm_num; omega)
  rw [e, trunc_ofInt]
  refine (congrArg (fun v : EReal => Ideal.fptosi 8 v) ((z_eq A k r l).trans h3)).trans ?_
  exact fptosi_int 8 n (by norm_num; omega) (by norm_num; omega)

/-- The codes. -/
theorem codes_out : shapeCast S2x128x3584 (codesV (F := Ideal) (xR (F := Ideal) A)) shapeCasts_S256x3584_S2x128x3584 = val_main_v37_0 (F := Ideal) A := by
  funext i
  obtain ⟨b, t, d, rfl⟩ := ex3 i
  refine (shapeCast_apply (codesV (F := Ideal) (xR (F := Ideal) A)) shapeCasts_S256x3584_S2x128x3584 (ValueIdx.ix3 b t d) (ValueIdx.ix2 (rr b t) d) ?_).trans ?_
  · rw [Shape.rowMajor_val_two, Shape.rowMajor_val_three]
    show (128 * b.1 + t.1) * 3584 + d.1 = (b.1 * 128 + t.1) * 3584 + d.1
    omega
  · refine (codesV_eq A (ck d) (rr b t) (ln d)).trans ?_
    rw [cl_ck, rb_rr, rt_rr]

theorem rw2_eq (y : S2x128.Idx) : (ValueIdx.ix2 (rb (rw2 y)) (rt (rw2 y)) : S2x128.Idx) = y := by
  obtain ⟨b, t, rfl⟩ : ∃ (b : Fin 2) (t : Fin 128), y = ValueIdx.ix2 b t := ⟨y 0, y 1, funext fun a => match a with
    | ⟨0, _⟩ => rfl
    | ⟨1, _⟩ => rfl⟩
  have e : rw2 (ValueIdx.ix2 b t) = rr b t := rfl
  rw [e, rb_rr, rt_rr]

/-- The scales. -/
theorem scales_out : scalesV (F := Ideal) (xR (F := Ideal) A) = val_main_v37_1 (F := Ideal) A := by
  funext y
  rw [val_main_v37_1_apply]
  unfold scalesV
  exact (sb_eq A (rw2 y) 0).trans (congrArg (val_main_v19 (F := Ideal) A) (rw2_eq y))

/-- The zero points. -/
theorem zero_out : zeroV (F := Ideal) (xR (F := Ideal) A) = val_main_v37_2 (F := Ideal) A := by
  funext y
  rw [val_main_v37_2_apply, val_main_v25_apply]
  unfold zeroV
  refine congrArg (FloatOps.fptosi (F := Ideal) (φ := .f32) 32) ?_
  exact (zb_eq A (rw2 y) 0).trans (congrArg (val_main_v24 (F := Ideal) A) (rw2_eq y))

end Cert.KernelIdeal.Hand
-- ==== Proof.EqY.lean ====
module

public import proofs.«01_k».proof.Proof.EqS
public import Idealize.ShloMosaic.Lib.WordSum
public import Mathlib.Data.BitVec

/-! The product, when it is computed in one pass over all columns: the kernel's is the reference's. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe
open Cert.ReferenceIdeal.Read

theorem lhs3584_0 (i : S256x512.Idx) (q : dot_S256x3584_S512x3584_S256x512_1_1_0_0_n_n.contr.Idx) : (dot_S256x3584_S512x3584_S256x512_1_1_0_0_n_n.lhsIdx i q 0).val = (i 0).val := by
  unfold DotDims.lhsIdx
  rw [dif_neg (show ¬(0 : Fin S256x3584.rank) ∈ dot_S256x3584_S512x3584_S256x512_1_1_0_0_n_n.lhsBatch by decide), dif_pos (show (0 : Fin S256x3584.rank) ∈ dot_S256x3584_S512x3584_S256x512_1_1_0_0_n_n.lhsNonContracting by decide)]
  rfl

theorem rhs3584_0 (i : S256x512.Idx) (q : dot_S256x3584_S512x3584_S256x512_1_1_0_0_n_n.contr.Idx) : (dot_S256x3584_S512x3584_S256x512_1_1_0_0_n_n.rhsIdx i q 0).val = (i 1).val := by
  unfold DotDims.rhsIdx
  rw [dif_neg (show ¬(0 : Fin S512x3584.rank) ∈ dot_S256x3584_S512x3584_S256x512_1_1_0_0_n_n.rhsBatch by decide), dif_pos (show (0 : Fin S512x3584.rank) ∈ dot_S256x3584_S512x3584_S256x512_1_1_0_0_n_n.rhsNonContracting by decide)]
  rfl

theorem lhs256_0 (i : S256x512.Idx) (q : dot_S256x256_S512x256_S256x512_1_1_0_0_n_n.contr.Idx) : (dot_S256x256_S512x256_S256x512_1_1_0_0_n_n.lhsIdx i q 0).val = (i 0).val := by
  unfold DotDims.lhsIdx
  rw [dif_neg (show ¬(0 : Fin S256x256.rank) ∈ dot_S256x256_S512x256_S256x512_1_1_0_0_n_n.lhsBatch by decide), dif_pos (show (0 : Fin S256x256.rank) ∈ dot_S256x256_S512x256_S256x512_1_1_0_0_n_n.lhsNonContracting by decide)]
  rfl

theorem rhs256_0 (i : S256x512.Idx) (q : dot_S256x256_S512x256_S256x512_1_1_0_0_n_n.contr.Idx) : (dot_S256x256_S512x256_S256x512_1_1_0_0_n_n.rhsIdx i q 0).val = (i 1).val := by
  unfold DotDims.rhsIdx
  rw [dif_neg (show ¬(0 : Fin S512x256.rank) ∈ dot_S256x256_S512x256_S256x512_1_1_0_0_n_n.rhsBatch by decide), dif_pos (show (0 : Fin S512x256.rank) ∈ dot_S256x256_S512x256_S256x512_1_1_0_0_n_n.rhsNonContracting by decide)]
  rfl

/-- The kernel's product over all columns, as a sum. -/
theorem mm_apply (q : FVec Ideal S256x3584 .bf16) (v : FVec Ideal S512x3584 .bf16) (r : Fin 256) (j : Fin 512) :
    matmul dot_S256x3584_S512x3584_S256x512_1_1_0_0_n_n none q v (constant (F := Ideal) S256x512 .f32 0x00000000#32) (ValueIdx.ix2 r j)
      = ∑ k : Fin 3584, q (ValueIdx.ix2 r k) * v (ValueIdx.ix2 j k) := by
  simp only [matmul]
  rw [Ideal.matmul_constant_zero_apply, ← Equiv.sum_comp (ValueIdx.contrEquiv1 dot_S256x3584_S512x3584_S256x512_1_1_0_0_n_n 3584 rfl rfl).symm]
  refine Finset.sum_congr rfl fun k _ => ?_
  have hk := ValueIdx.contrEquiv1_symm_val dot_S256x3584_S512x3584_S256x512_1_1_0_0_n_n 3584 rfl rfl k
  have el : dot_S256x3584_S512x3584_S256x512_1_1_0_0_n_n.lhsIdx (ValueIdx.ix2 r j) ((ValueIdx.contrEquiv1 dot_S256x3584_S512x3584_S256x512_1_1_0_0_n_n 3584 rfl rfl).symm k) = ValueIdx.ix2 r k := funext fun a => Fin.ext (by
    match a with
    | ⟨0, _⟩ => exact lhs3584_0 _ _
    | ⟨1, _⟩ => exact (dot_S256x3584_S512x3584_S256x512_1_1_0_0_n_n.lhsIdx_val_of_single rfl _ _).trans hk)
  have er : dot_S256x3584_S512x3584_S256x512_1_1_0_0_n_n.rhsIdx (ValueIdx.ix2 r j) ((ValueIdx.contrEquiv1 dot_S256x3584_S512x3584_S256x512_1_1_0_0_n_n 3584 rfl rfl).symm k) = ValueIdx.ix2 j k := funext fun a => Fin.ext (by
    match a with
    | ⟨0, _⟩ => exact rhs3584_0 _ _
    | ⟨1, _⟩ => exact (dot_S256x3584_S512x3584_S256x512_1_1_0_0_n_n.rhsIdx_val_of_single rfl _ _).trans hk)
  rw [el, er]

/-- The folded product, as a sum. -/
theorem mf_apply (q : FVec Ideal S256x256 .bf16) (v : FVec Ideal S512x256 .bf16) (r : Fin 256) (j : Fin 512) :
    matmul dot_S256x256_S512x256_S256x512_1_1_0_0_n_n none q v (constant (F := Ideal) S256x512 .f32 0x00000000#32) (ValueIdx.ix2 r j)
      = ∑ k : Fin 256, q (ValueIdx.ix2 r k) * v (ValueIdx.ix2 j k) := by
  simp only [matmul]
  rw [Ideal.matmul_constant_zero_apply, ← Equiv.sum_comp (ValueIdx.contrEquiv1 dot_S256x256_S512x256_S256x512_1_1_0_0_n_n 256 rfl rfl).symm]
  refine Finset.sum_congr rfl fun k _ => ?_
  have hk := ValueIdx.contrEquiv1_symm_val dot_S256x256_S512x256_S256x512_1_1_0_0_n_n 256 rfl rfl k
  have el : dot_S256x256_S512x256_S256x512_1_1_0_0_n_n.lhsIdx (ValueIdx.ix2 r j) ((ValueIdx.contrEquiv1 dot_S256x256_S512x256_S256x512_1_1_0_0_n_n 256 rfl rfl).symm k) = ValueIdx.ix2 r k := funext fun a => Fin.ext (by
    match a with
    | ⟨0, _⟩ => exact lhs256_0 _ _
    | ⟨1, _⟩ => exact (dot_S256x256_S512x256_S256x512_1_1_0_0_n_n.lhsIdx_val_of_single rfl _ _).trans hk)
  have er : dot_S256x256_S512x256_S256x512_1_1_0_0_n_n.rhsIdx (ValueIdx.ix2 r j) ((ValueIdx.contrEquiv1 dot_S256x256_S512x256_S256x512_1_1_0_0_n_n 256 rfl rfl).symm k) = ValueIdx.ix2 j k := funext fun a => Fin.ext (by
    match a with
    | ⟨0, _⟩ => exact rhs256_0 _ _
    | ⟨1, _⟩ => exact (dot_S256x256_S512x256_S256x512_1_1_0_0_n_n.rhsIdx_val_of_single rfl _ _).trans hk)
  rw [el, er]

/-- Sums of integers, as extended reals. -/
theorem sum_coe {ι : Type} (s : Finset ι) (f : ι → ℤ) : ∑ k ∈ s, (((f k : ℤ) : ℝ) : EReal) = (((∑ k ∈ s, f k : ℤ) : ℝ) : EReal) := by
  classical
  induction s using Finset.induction_on with
  | empty => simp
  | insert a s ha ih => rw [Finset.sum_insert ha, Finset.sum_insert ha, ih, Int.cast_add, EReal.coe_add]

theorem fold_add {ι : Type} (s : Finset ι) (f : ι → BitVec 32) : s.fold IntOp.addi 0#32 f = BitVec.ofInt 32 (∑ k ∈ s, (f k).toInt) := by
  classical
  induction s using Finset.induction_on with
  | empty => rfl
  | insert a s ha ih =>
    rw [Finset.fold_insert ha, Finset.sum_insert ha, ih, BitVec.ofInt_add, BitVec.ofInt_toInt]
    rfl

/-- The row sums of the weights. -/
theorem rowsum (W : S18944x3584.Idx → BitVec 8) (n : Fin 18944) :
    (val_main_v42 (F := Ideal) W (ValueIdx.ix1 n)).toInt = ∑ k : Fin 3584, (W (ValueIdx.ix2 n k)).toInt := by
  classical
  unfold val_main_v42
  rw [Host.reduce_eq_fold]
  have hdrop : ∀ i : S18944x3584.Idx, Cert.ReferenceIdeal.Gen.reducesTo_S18944x3584_S18944_d1.drop i = ValueIdx.ix1 n ↔ i 0 = n := by
    intro i
    have hv : (Cert.ReferenceIdeal.Gen.reducesTo_S18944x3584_S18944_d1.drop i 0 : Nat) = i 0 := Shape.ReducesTo.drop_apply_val _ i 0
    constructor
    · intro e; rw [e] at hv; exact Fin.ext hv.symm
    · intro e; funext b; have hb : b = 0 := Subsingleton.elim _ _; subst hb; exact Fin.ext (by rw [hv, e])
  have hsum : ∑ i ∈ Finset.univ.filter (fun i : S18944x3584.Idx => Cert.ReferenceIdeal.Gen.reducesTo_S18944x3584_S18944_d1.drop i = ValueIdx.ix1 n), (val_main_v41 (F := Ideal) W i).toInt
      = ∑ k : Fin 3584, (W (ValueIdx.ix2 n k)).toInt := by
    refine Finset.sum_bij' (fun i _ => (i 1 : Fin 3584)) (fun q _ => ValueIdx.ix2 n q) (fun _ _ => Finset.mem_univ _)
      (fun q _ => Finset.mem_filter.2 ⟨Finset.mem_univ _, (hdrop _).2 rfl⟩) ?_ (fun _ _ => rfl) ?_
    · intro i hi
      have h0 := (hdrop i).1 (Finset.mem_filter.1 hi).2
      funext b; match b with
      | ⟨0, _⟩ => exact h0.symm
      | ⟨1, _⟩ => rfl
    · intro i hi
      have h0 := (hdrop i).1 (Finset.mem_filter.1 hi).2
      have e : (ValueIdx.ix2 n (i 1) : S18944x3584.Idx) = i := by
        funext b; match b with
        | ⟨0, _⟩ => exact h0.symm
        | ⟨1, _⟩ => rfl
      refine (ext_toInt (W i)).trans ?_
      exact congrArg (fun z => (W z).toInt) e.symm
  refine (congrArg BitVec.toInt (fold_add _ (val_main_v41 (F := Ideal) W))).trans ?_
  rw [hsum]
  have hb : ∀ k : Fin 3584, -128 ≤ (W (ValueIdx.ix2 n k)).toInt ∧ (W (ValueIdx.ix2 n k)).toInt ≤ 127 := fun k => by
    have := BitVec.le_toInt (W (ValueIdx.ix2 n k)); have := BitVec.toInt_lt (x := W (ValueIdx.ix2 n k)); constructor <;> omega
  have h1 := Finset.sum_le_sum fun (k : Fin 3584) (_ : k ∈ Finset.univ) => (hb k).1
  have h2 := Finset.sum_le_sum fun (k : Fin 3584) (_ : k ∈ Finset.univ) => (hb k).2
  simp only [Finset.sum_const, Finset.card_univ, Fintype.card_fin] at h1 h2
  rw [BitVec.toInt_ofInt]
  exact Int.bmod_eq_of_le (by norm_num at h1 ⊢; omega) (by norm_num at h2 ⊢; omega)

section G
variable {F : FTy → Type} [FloatOps F]

theorem pay522_apply (sb zb : FVec F S256x128 .f32) (m : Vec F S1x128 .i32) (x : Vec F S256x128 .bf16) (y : S256x128.Idx) :
    k0_pay522 sb zb m x y = FloatOps.truncf .bf16 bitsLt_bf16_f32 (FloatOps.subf (k0_pay520 sb zb m x y) (zb y)) := by
  unfold k0_pay522
  exact congrFun (shapeCast_self _ shapeCasts_S256x128_S256x128) y

theorem pay130_apply (x : Vec F S256x128 .bf16) (r : Fin 256) (l : Fin 128) :
    k0_pay130 (k0_pay129 x) (ValueIdx.ix2 r l) = FloatOps.truncf .bf16 bitsLt_bf16_f32 (Scalar.select (k0_pay121 x (ValueIdx.ix2 0 l)) (FloatOps.extf .f32 bitsLt_bf16_f32 (x (ValueIdx.ix2 r l))) (FloatOps.ofBits .f32 0x00000000#32)) := by
  unfold k0_pay130
  refine (congrFun (shapeCast_self _ shapeCasts_S256x128_S256x128) _).trans ?_
  rw [← bcl (k0_pay121 x) r l, ← pay127_apply]
  rfl

theorem v51_of (B : Vec F S2x128x3584 .bf16) (b : Fin 2) (t : Fin 128) (d : Fin 3584) :
    val_main_v51 B (ValueIdx.ix3 b t d) = Scalar.select (val_main_v4 B (ValueIdx.ix1 d)) (B (ValueIdx.ix3 b t d)) (FloatOps.ofBits .bf16 0x0000#16) := by
  rw [val_main_v51_apply, val_main_call6_v0_apply, val_main_call6_v1_apply, val_main_cst_13_apply]
  have e : idx_main_call6_v0 (ValueIdx.ix3 b t d) = ValueIdx.ix1 d := funext fun a => match a with | ⟨0, _⟩ => rfl
  rw [e]

theorem v60_of (B : Vec F S2x128x3584 .bf16) (W : S18944x3584.Idx → BitVec 8) (w : S18944.Idx → F .f32) (b : Fin 2) (t : Fin 128) (n : Fin 18944) :
    val_main_v60 B W w (ValueIdx.ix3 b t n) = FloatOps.truncf .bf16 bitsLt_bf16_f32 (FloatOps.mulf (FloatOps.addf (FloatOps.mulf
      (FloatOps.subf (val_main_v40 B W (ValueIdx.ix3 b t n)) (FloatOps.mulf (FloatOps.sitofp .f32 (val_main_v37_2 B (ValueIdx.ix2 b t))) (FloatOps.sitofp .f32 (val_main_v42 (F := F) W (ValueIdx.ix1 n)))))
      (val_main_v19 B (ValueIdx.ix2 b t))) (val_main_v52 B W (ValueIdx.ix3 b t n))) (w (ValueIdx.ix1 n))) := by
  rw [val_main_v60_apply, val_main_v59_apply, val_main_v58_apply, val_main_v57_apply, val_main_v56_apply, val_main_v55_apply, val_main_v54_apply, val_main_v53_apply, val_main_v50_apply, val_main_v49_apply, val_main_v48_apply, val_main_v47_apply, val_main_v46_apply, val_main_v45_apply, val_main_v44_apply, val_main_v43_apply, val_main_v37_1_apply]
  have e1 : idx_main_v57 (idx_main_v58 (ValueIdx.ix3 b t n)) = ValueIdx.ix1 n := funext fun a => match a with | ⟨0, _⟩ => rfl
  have e2 : idx_main_v53 (idx_main_v54 (ValueIdx.ix3 b t n)) = ValueIdx.ix2 b t := funext fun a => match a with
    | ⟨0, _⟩ => rfl
    | ⟨1, _⟩ => rfl
  have e3 : idx_main_v46 (idx_main_v48 (ValueIdx.ix3 b t n)) = ValueIdx.ix1 n := funext fun a => match a with | ⟨0, _⟩ => rfl
  have e4 : idx_main_v45 (idx_main_v47 (ValueIdx.ix3 b t n)) = ValueIdx.ix2 b t := funext fun a => match a with
    | ⟨0, _⟩ => rfl
    | ⟨1, _⟩ => rfl
  rw [e1, e2, e3, e4]

theorem pay669_eq (q : Vec F S256x3584 .bf16) (W : Vec F S512x3584 .i8) :
    k0_pay669 q W = matmul dot_S256x3584_S512x3584_S256x512_1_1_0_0_n_n none q (sitofp .bf16 W) (constant S256x512 .f32 0x00000000#32) := by rfl
theorem pay663_eq (q : Vec F S256x3584 .bf16) (W : Vec F S512x3584 .i8) :
    k0_pay663 q W = matmul dot_S256x3584_S512x3584_S256x512_1_1_0_0_n_n none q (sitofp .bf16 W) (constant S256x512 .f32 0x00000000#32) := by rfl
theorem pay668_eq (q : Vec F S256x3584 .bf16) (W : Vec F S512x3584 .i8) :
    k0_pay668 q W = matmul dot_S256x3584_S512x3584_S256x512_1_1_0_0_n_n none q (sitofp .bf16 W) (constant S256x512 .f32 0x00000000#32) := by rfl
end G

theorem sitb (b : BitVec 8) : FloatOps.sitofp (F := Ideal) .bf16 b = (((b.toInt : ℤ) : ℝ) : EReal) := rfl
theorem sitb32 (b : BitVec 32) : FloatOps.sitofp (F := Ideal) .bf16 b = (((b.toInt : ℤ) : ℝ) : EReal) := rfl

variable (A : S2x128x3584.Idx → EReal)

/-- A shifted code. -/
theorem q_eq (r : Fin 256) (d : Fin 3584) : qV (F := Ideal) (xR (F := Ideal) A) (ValueIdx.ix2 r d)
    = val_main_v34 (F := Ideal) A (ValueIdx.ix3 (rb r) (rt r) d) - val_main_v24 (F := Ideal) A (ValueIdx.ix2 (rb r) (rt r)) := by
  refine (pay522_apply _ _ _ _ (ValueIdx.ix2 r (ln d))).trans ?_
  have h := z_eq A (ck d) r (ln d)
  rw [cl_ck] at h
  exact congrArg₂ (fun a b : EReal => a - b) h (zb_eq A r (ln d))

/-- An outlier column's entry. -/
theorem xo_eq (r : Fin 256) (d : Fin 3584) : xoV (F := Ideal) (xR (F := Ideal) A) (ValueIdx.ix2 r d) = val_main_v51 (F := Ideal) A (ValueIdx.ix3 (rb r) (rt r) d) := by
  refine (pay130_apply _ r (ln d)).trans ?_
  rw [v51_of, out_eq, xk_apply, cl_ck]
  generalize val_main_v4 (F := Ideal) A (ValueIdx.ix1 d) = b
  by_cases hb : b = 1#1
  · subst hb; rfl
  · have h0 : b = 0#1 := by revert hb; revert b; decide
    subst h0
    exact Ideal.ofBits_zero_f32.trans Ideal.ofBits_zero_bf16.symm

theorem v39_eq (b : Fin 2) (t : Fin 128) (d : Fin 3584) : val_main_v39 (F := Ideal) A (ValueIdx.ix3 b t d) = val_main_v34 (F := Ideal) A (ValueIdx.ix3 b t d) := by
  rw [val_main_v39_apply, val_main_v38_apply, val_main_v37_0_apply, val_main_v36_apply, val_main_v35_apply, sitb32, ext_toInt]
  obtain ⟨n, h1, h2, h3⟩ := v34_int A b t d
  have e : FloatOps.fptosi (F := Ideal) (φ := .f32) 32 (val_main_v34 (F := Ideal) A (ValueIdx.ix3 b t d)) = BitVec.ofInt 32 n := by
    rw [h3]; exact fptosi_int 32 n (by norm_num; omega) (by norm_num; omega)
  rw [e, trunc_ofInt, toInt_ofInt8 n h1 h2, h3]

/-- The product of the codes, less the zero points. -/
theorem a1_eq (W : S18944x3584.Idx → BitVec 8) (t : Fin 37) (r : Fin 256) (j : Fin 512) (n : Fin 18944) (hn : n.1 = 512 * t.1 + j.1) :
    matmul (F := Ideal) (φ₁ := .bf16) (φ₂ := .bf16) dot_S256x3584_S512x3584_S256x512_1_1_0_0_n_n none (qV (F := Ideal) (xR (F := Ideal) A) : FVec Ideal S256x3584 .bf16) (sitofp (F := Ideal) .bf16 (wB (F := Ideal) W t) : FVec Ideal S512x3584 .bf16) (constant (F := Ideal) S256x512 .f32 0x00000000#32) (ValueIdx.ix2 r j)
      = FloatOps.subf (F := Ideal) (φ := .f32) (val_main_v40 (F := Ideal) A W (ValueIdx.ix3 (rb r) (rt r) n)) (FloatOps.mulf (F := Ideal) (φ := .f32) (FloatOps.sitofp (F := Ideal) .f32 (val_main_v37_2 (F := Ideal) A (ValueIdx.ix2 (rb r) (rt r)))) (FloatOps.sitofp (F := Ideal) .f32 (val_main_v42 (F := Ideal) W (ValueIdx.ix1 n)))) := by
  rw [mm_apply, val_main_v40_apply, val_main_v37_2_apply, val_main_v25_apply, zero_back, sito, rowsum]
  obtain ⟨m, -, -, hm⟩ := v24_int A (ValueIdx.ix2 (rb r) (rt r))
  choose z hz using fun d : Fin 3584 => v34_int A (rb r) (rt r) d
  rw [hm]
  have hw : ∀ d : Fin 3584, sitofp (F := Ideal) .bf16 (wB (F := Ideal) W t) (ValueIdx.ix2 j d) = (((W (ValueIdx.ix2 n d)).toInt : ℝ) : EReal) := fun d =>
    congrArg (fun k : Fin 18944 => ((((W (ValueIdx.ix2 k d)).toInt : ℤ) : ℝ) : EReal)) (Fin.ext hn.symm)
  have h1 : ∀ d : Fin 3584, qV (F := Ideal) (xR (F := Ideal) A) (ValueIdx.ix2 r d) * sitofp (F := Ideal) .bf16 (wB (F := Ideal) W t) (ValueIdx.ix2 j d)
      = ((((z d - m) * (W (ValueIdx.ix2 n d)).toInt : ℤ) : ℝ) : EReal) := fun d => by
    rw [q_eq, (hz d).2.2, hm, hw, ← EReal.coe_sub, ← EReal.coe_mul]; push_cast; rfl
  have h2 : ∀ d : Fin 3584, val_main_v39 (F := Ideal) A (lidx_main_v40 (ValueIdx.ix3 (rb r) (rt r) n) d) * val_main_v7 (F := Ideal) W (ridx_main_v40 (ValueIdx.ix3 (rb r) (rt r) n) d)
      = (((z d * (W (ValueIdx.ix2 n d)).toInt : ℤ) : ℝ) : EReal) := fun d => by
    have el : lidx_main_v40 (ValueIdx.ix3 (rb r) (rt r) n) d = ValueIdx.ix3 (rb r) (rt r) d := funext fun a => match a with
      | ⟨0, _⟩ => rfl
      | ⟨1, _⟩ => rfl
      | ⟨2, _⟩ => rfl
    have er : ridx_main_v40 (ValueIdx.ix3 (rb r) (rt r) n) d = ValueIdx.ix2 n d := funext fun a => match a with
      | ⟨0, _⟩ => rfl
      | ⟨1, _⟩ => rfl
    rw [el, er, v39_eq, (hz d).2.2, val_main_v7_apply, val_main_v6_apply, sitb32, ext_toInt, ← EReal.coe_mul]; push_cast; rfl
  rw [Finset.sum_congr rfl fun d _ => h1 d, Finset.sum_congr rfl fun d _ => h2 d, sum_coe, sum_coe]
  refine Eq.trans ?_ ((EReal.coe_sub _ _).trans (congrArg (fun v : EReal => _ - v) (EReal.coe_mul _ _)))
  refine congrArg Real.toEReal ?_
  rw [← Int.cast_mul, ← Int.cast_sub]
  refine congrArg Int.cast ?_
  rw [Finset.mul_sum, ← Finset.sum_sub_distrib]
  exact Finset.sum_congr rfl fun d _ => by ring

theorem v52_sum (W : S18944x3584.Idx → BitVec 8) (r : Fin 256) (n : Fin 18944) :
    val_main_v52 (F := Ideal) A W (ValueIdx.ix3 (rb r) (rt r) n) = ∑ d : Fin 3584, xoV (F := Ideal) (xR (F := Ideal) A) (ValueIdx.ix2 r d) * (((W (ValueIdx.ix2 n d)).toInt : ℝ) : EReal) := by
  rw [val_main_v52_apply]
  refine Finset.sum_congr rfl fun d _ => ?_
  have el : lidx_main_v52 (ValueIdx.ix3 (rb r) (rt r) n) d = ValueIdx.ix3 (rb r) (rt r) d := funext fun a => match a with
    | ⟨0, _⟩ => rfl
    | ⟨1, _⟩ => rfl
    | ⟨2, _⟩ => rfl
  have er : ridx_main_v52 (ValueIdx.ix3 (rb r) (rt r) n) d = ValueIdx.ix2 n d := funext fun a => match a with
    | ⟨0, _⟩ => rfl
    | ⟨1, _⟩ => rfl
  rw [el, er, xo_eq, val_main_v7_apply, val_main_v6_apply, sitb32, ext_toInt]

/-- The outlier product over all columns. -/
theorem a2_eq (W : S18944x3584.Idx → BitVec 8) (t : Fin 37) (r : Fin 256) (j : Fin 512) (n : Fin 18944) (hn : n.1 = 512 * t.1 + j.1) :
    k0_pay669 (F := Ideal) (xoV (F := Ideal) (xR (F := Ideal) A)) (wB (F := Ideal) W t) (ValueIdx.ix2 r j) = val_main_v52 (F := Ideal) A W (ValueIdx.ix3 (rb r) (rt r) n) := by
  rw [pay669_eq, mm_apply, v52_sum]
  refine Finset.sum_congr rfl fun d _ => congrArg (fun v : EReal => xoV (F := Ideal) (xR (F := Ideal) A) (ValueIdx.ix2 r d) * v) ?_
  exact congrArg (fun k : Fin 18944 => ((((W (ValueIdx.ix2 k d)).toInt : ℤ) : ℝ) : EReal)) (Fin.ext hn.symm)

/-- One entry of the result, given its outlier product. -/
theorem y_of (W : S18944x3584.Idx → BitVec 8) (w : S18944.Idx → EReal) (t : Fin 37) (r : Fin 256) (j : Fin 512) (n : Fin 18944) (hn : n.1 = 512 * t.1 + j.1)
    (a1 a2 : FVec Ideal S256x512 .f32) (h1 : a1 = matmul (F := Ideal) (φ₁ := .bf16) (φ₂ := .bf16) dot_S256x3584_S512x3584_S256x512_1_1_0_0_n_n none (qV (F := Ideal) (xR (F := Ideal) A) : FVec Ideal S256x3584 .bf16) (sitofp (F := Ideal) .bf16 (wB (F := Ideal) W t) : FVec Ideal S512x3584 .bf16) (constant (F := Ideal) S256x512 .f32 0x00000000#32))
    (h2 : a2 (ValueIdx.ix2 r j) = val_main_v52 (F := Ideal) A W (ValueIdx.ix3 (rb r) (rt r) n)) :
    yPt (F := Ideal) a1 a2 (sbV (F := Ideal) (xR (F := Ideal) A)) (sB (F := Ideal) w t) (ValueIdx.ix2 r j) = val_main_v60 (F := Ideal) A W w (ValueIdx.ix3 (rb r) (rt r) n) := by
  rw [v60_of, ← a1_eq A W t r j n hn, ← h1, ← h2, ← sb_eq A r (l512 j)]
  exact congrArg (fun k : Fin 18944 => FloatOps.truncf (F := Ideal) .bf16 bitsLt_bf16_f32 (FloatOps.mulf (F := Ideal) (φ := .f32) (FloatOps.addf (F := Ideal) (φ := .f32) (FloatOps.mulf (F := Ideal) (φ := .f32) (a1 (ValueIdx.ix2 r j)) (sbV (F := Ideal) (xR (F := Ideal) A) (ValueIdx.ix2 r (l512 j)))) (a2 (ValueIdx.ix2 r j))) (w (ValueIdx.ix1 k)))) (Fin.ext hn.symm)

end Cert.KernelIdeal.Hand
-- ==== Proof.FoldA.lean ====
module

public import proofs.«01_k».proof.Proof.EqY
public import Mathlib.Tactic.IntervalCases

/-! The plan of the kernel, in numbers: outlier columns per lane, active chunks, slots. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe

section G
variable {F : FTy → Type} [FloatOps F]
theorem pay135_eq (x : Vec F S256x128 .bf16) : k0_pay135 x = k0_pay121 x := rfl

theorem pay139_apply (m : IVec S1x128 32) (x : Vec F S256x128 .bf16) (l : Fin 128) :
    k0_pay139 m x (ValueIdx.ix2 0 l) = m (ValueIdx.ix2 0 l) + (k0_pay121 x (ValueIdx.ix2 0 l)).setWidth 32 := rfl
theorem pay137_apply (m : IVec S1x128 32) (x : Vec F S256x128 .bf16) (l : Fin 128) :
    k0_pay137 m x (ValueIdx.ix2 0 l) = Scalar.select (IntOp.andi (k0_pay121 x (ValueIdx.ix2 0 l)) (IntOp.cmpi .eq (m (ValueIdx.ix2 0 l)) 0#32)) 4294967295#32 0#32 := rfl
theorem pay138_apply (m : IVec S1x128 32) (x : Vec F S256x128 .bf16) (l : Fin 128) :
    k0_pay138 m x (ValueIdx.ix2 0 l) = Scalar.select (IntOp.andi (k0_pay121 x (ValueIdx.ix2 0 l)) (IntOp.cmpi .eq (m (ValueIdx.ix2 0 l)) 1#32)) 4294967295#32 0#32 := rfl
theorem pay126_apply (x : Vec F S256x128 .bf16) (l : Fin 128) :
    k0_pay126 x (ValueIdx.ix2 0 l) = FloatOps.sitofp .f32 ((k0_pay121 x (ValueIdx.ix2 0 l)).setWidth 32) := rfl

variable (X : S256x3584.Idx → Elt F .bf16)

/-- Whether a column is an outlier. -/
def oB (n : ℕ) (h : n < 28) (l : Fin 128) : BitVec 1 := k0_pay121 (xk X ⟨n, h⟩) (ValueIdx.ix2 0 l)
/-- The outlier columns of a lane, among the first `n` chunks. -/
def cnum (l : Fin 128) : (n : ℕ) → n ≤ 28 → ℕ
  | 0, _ => 0
  | n + 1, h => cnum l n (by omega) + (oB X n h l).toNat
theorem cnum_le (l : Fin 128) (n : ℕ) (h : n ≤ 28) : cnum X l n h ≤ n := by
  induction n with
  | zero => exact Nat.le_refl _
  | succ n ih =>
    have := ih (by omega)
    have := (oB X n h l).isLt
    show cnum X l n _ + (oB X n h l).toNat ≤ n + 1
    omega
theorem cnt_eq (l : Fin 128) (n : ℕ) (h : n ≤ 28) : cntN X n h (ValueIdx.ix2 0 l) = BitVec.ofNat 32 (cnum X l n h) := by
  induction n with
  | zero => rfl
  | succ n ih =>
    refine (pay139_apply _ _ l).trans ?_
    rw [ih (by omega)]
    show _ + (oB X n h l).setWidth 32 = BitVec.ofNat 32 (cnum X l n _ + (oB X n h l).toNat)
    rw [BitVec.ofNat_add, BitVec.ofNat_toNat]

theorem bitV_of (k : Fin 28) : bitV X k = Scalar.fptosi 32 (Scalar.mulf (anyV X k) (Scalar.ofBits .f32 (p2 (k.1 % 14)))) := rfl

/-- The masks of a chunk. -/
def hit (p : Fin 2) (n : ℕ) (h : n < 28) (l : Fin 128) : Prop := oB X n h l = 1#1 ∧ cnum X l n (Nat.le_of_lt h) = p.1
theorem bit01 (b : BitVec 1) (h : ¬ b = 1#1) : b = 0#1 := by revert b; decide
theorem and0 (b : BitVec 1) : IntOp.andi b 0#1 = 0#1 := by revert b; decide
theorem sel_hit (b : BitVec 1) (c q : ℕ) (hc : c ≤ 28) (hq : q < 2) [Decidable (b = 1#1 ∧ c = q)] :
    Scalar.select (IntOp.andi b (IntOp.cmpi .eq (BitVec.ofNat 32 c) (BitVec.ofNat 32 q))) 4294967295#32 0#32 = if b = 1#1 ∧ c = q then 4294967295#32 else 0#32 := by
  by_cases e : c = q
  · subst e
    have e1 : IntOp.cmpi .eq (BitVec.ofNat 32 c) (BitVec.ofNat 32 c) = 1#1 := by simp [IntOp.cmpi]
    rw [e1]
    by_cases hb : b = 1#1
    · subst hb; rw [if_pos ⟨rfl, rfl⟩]; rfl
    · rw [if_neg fun h => hb h.1]
      have h0 : b = 0#1 := bit01 b hb
      subst h0; rfl
  · rw [if_neg fun h => e h.2]
    have hne : (BitVec.ofNat 32 c == BitVec.ofNat 32 q) = false := by
      refine beq_false_of_ne fun h => e ?_
      have := congrArg BitVec.toNat h
      rw [BitVec.toNat_ofNat, BitVec.toNat_ofNat] at this
      omega
    have e1 : IntOp.cmpi .eq (BitVec.ofNat 32 c) (BitVec.ofNat 32 q) = 0#1 := by simp only [IntOp.cmpi]; rw [hne]; rfl
    rw [e1]
    rw [and0]; rfl

open Classical in
theorem m0_eq (n : ℕ) (h : n < 28) (l : Fin 128) : k0_pay137 (cntN X n (Nat.le_of_lt h)) (xk X ⟨n, h⟩) (ValueIdx.ix2 0 l) = if hit X 0 n h l then 4294967295#32 else 0#32 := by
  rw [pay137_apply, cnt_eq]
  exact (sel_hit (oB X n h l) _ 0 ((cnum_le X l n _).trans (Nat.le_of_lt h)) (by omega)).trans (if_congr Iff.rfl rfl rfl)
open Classical in
theorem m1_eq (n : ℕ) (h : n < 28) (l : Fin 128) : k0_pay138 (cntN X n (Nat.le_of_lt h)) (xk X ⟨n, h⟩) (ValueIdx.ix2 0 l) = if hit X 1 n h l then 4294967295#32 else 0#32 := by
  rw [pay138_apply, cnt_eq]
  exact (sel_hit (oB X n h l) _ 1 ((cnum_le X l n _).trans (Nat.le_of_lt h)) (by omega)).trans (if_congr Iff.rfl rfl rfl)

/-- The active chunks among the first `n`. -/
def nnum : ℕ → ℕ
  | 0 => 0
  | n + 1 => nnum n + (actN X n).toNat
theorem act_le (n : ℕ) : (actN X n).toNat ≤ 1 := by
  unfold actN
  generalize Scalar.shrsi _ _ = w
  show (w &&& 1#32).toNat ≤ 1
  rw [BitVec.toNat_and]
  exact Nat.and_le_right
theorem nnum_le (n : ℕ) : nnum X n ≤ n := by
  induction n with
  | zero => exact Nat.le_refl _
  | succ n ih => have := act_le X n; show nnum X n + (actN X n).toNat ≤ n + 1; omega
theorem num_eq (n : ℕ) : numN X n = BitVec.ofNat 32 (nnum X n) := by
  induction n with
  | zero => rfl
  | succ n ih =>
    show numN X n + actN X n = BitVec.ofNat 32 (nnum X n + (actN X n).toNat)
    rw [ih, BitVec.ofNat_add, BitVec.ofNat_toNat, BitVec.setWidth_eq]
theorem nnum_mono (n m : ℕ) (h : n ≤ m) : nnum X n ≤ nnum X m := by
  induction h with
  | refl => exact Nat.le_refl _
  | step _ ih => exact ih.trans (Nat.le_add_right _ _)
end G

/-- The greatest of the lanes. -/
def anyL (v : FVec Ideal S1x128 .f32) : EReal :=
  extractAt ![0, 0, 0] (shapeCast S1x1x1 (multiReduction .maximumf [1, 2] S1 (shapeCast S1x1x128 v shapeCasts_S1x128_S1x1x128) 0xFF800000#32 reduces_S1x1x128_S1 (.inl rfl) rfl : FVec Ideal S1 .f32) shapeCasts_S1_S1x1x1) inpos_S1x1x1_p0_0_0

theorem cast3 {α : Type} (v : S1x128.Idx → α) (l : Fin 128) : shapeCast S1x1x128 v shapeCasts_S1x128_S1x1x128 (ValueIdx.ix3 0 0 l) = v (ValueIdx.ix2 0 l) :=
  shapeCast_apply v shapeCasts_S1x128_S1x1x128 (ValueIdx.ix3 0 0 l) (ValueIdx.ix2 0 l) (by
    rw [Shape.rowMajor_val_two, Shape.rowMajor_val_three]; rfl)

theorem anyL_le (v : FVec Ideal S1x128 .f32) (c : EReal) : anyL v ≤ c ↔ Ideal.ofBits .f32 0xFF800000#32 ≤ c ∧ ∀ l, v (ValueIdx.ix2 0 l) ≤ c := by
  have e : anyL v = multiReduction .maximumf [1, 2] S1 (shapeCast S1x1x128 v shapeCasts_S1x128_S1x1x128) 0xFF800000#32 reduces_S1x1x128_S1 (.inl rfl) rfl (ValueIdx.ix1 0) :=
    shapeCast_apply _ shapeCasts_S1_S1x1x1 _ (ValueIdx.ix1 0) (by rw [Shape.rowMajor_val_one, Shape.rowMajor_val_three]; rfl)
  refine (iff_of_eq (congrArg (· ≤ c) e)).trans ((mr_max_le _ _ _ _ _ _ c).trans (and_congr Iff.rfl ⟨fun h l => ?_, fun h i hi => ?_⟩))
  · have := h (ValueIdx.ix3 0 0 l) (funext fun a => match a with | ⟨0, _⟩ => Subsingleton.elim (α := Fin 1) _ _)
    rwa [cast3] at this
  · obtain ⟨l, rfl⟩ : ∃ l : Fin 128, i = ValueIdx.ix3 0 0 l := ⟨i 2, funext fun a => match a with
      | ⟨0, _⟩ => Subsingleton.elim (α := Fin 1) _ _
      | ⟨1, _⟩ => Subsingleton.elim (α := Fin 1) _ _
      | ⟨2, _⟩ => rfl⟩
    rw [cast3]; exact h l

variable (X : S256x3584.Idx → EReal)

theorem sito1 (b : BitVec 1) : FloatOps.sitofp (F := Ideal) .f32 (b.setWidth 32) = (((b.toNat : ℤ) : ℝ) : EReal) := by
  rw [sito]
  refine congrArg (fun z : ℤ => ((z : ℝ) : EReal)) ?_
  revert b; decide

/-- Whether a chunk is active. -/
def act (k : Fin 28) : Prop := ∃ l, oB (F := Ideal) X k.1 k.2 l = 1#1

open Classical in
theorem any_eq (k : Fin 28) : anyV (F := Ideal) X k = ((((if act X k then 1 else 0 : ℕ) : ℤ) : ℝ) : EReal) := by
  have hv : ∀ l, k0_pay126 (F := Ideal) (xk (F := Ideal) X k) (ValueIdx.ix2 0 l) = ((((oB (F := Ideal) X k.1 k.2 l).toNat : ℤ) : ℝ) : EReal) := fun l =>
    (pay126_apply _ l).trans (sito1 _)
  show anyL (k0_pay126 (F := Ideal) (xk (F := Ideal) X k)) = _
  have hup := ((anyL_le (k0_pay126 (F := Ideal) (xk (F := Ideal) X k)) _).1 le_rfl).2
  refine le_antisymm ((anyL_le _ _).2 ⟨?_, fun l => ?_⟩) ?_
  · have : Ideal.ofBits .f32 0xFF800000#32 = ⊥ := by simp [Ideal.ofBits, Ideal.ieee]
    rw [this]; exact bot_le
  · rw [hv, EReal.coe_le_coe_iff, Int.cast_le, Int.ofNat_le]
    by_cases ha : act X k
    · rw [if_pos ha]; have := (oB (F := Ideal) X k.1 k.2 l).isLt; omega
    · rw [if_neg ha]
      have : oB (F := Ideal) X k.1 k.2 l ≠ 1#1 := fun h => ha ⟨l, h⟩
      revert this; generalize oB (F := Ideal) X k.1 k.2 l = b; revert b; decide
  · by_cases ha : act X k
    · rw [if_pos ha]; obtain ⟨l, hl⟩ := ha
      have := hup l; rw [hv, hl] at this; exact this
    · rw [if_neg ha]
      refine le_trans ?_ (hup 0)
      rw [hv, EReal.coe_le_coe_iff, Int.cast_le, Int.ofNat_le]; exact Nat.zero_le _

theorem p2_eq (j : ℕ) (h : j < 14) : Ideal.ofBits .f32 (p2 j) = ((((2 ^ j : ℕ) : ℤ) : ℝ) : EReal) := by
  unfold p2
  interval_cases j <;> (simp [Ideal.ofBits, Ideal.ieee]; try (rw [← EReal.coe_mul]; norm_num))

open Classical in
def aN (k : Fin 28) : ℕ := if act X k then 1 else 0
theorem aN_le (k : Fin 28) : aN X k ≤ 1 := by unfold aN; split <;> omega

theorem word_mul (a : Ideal .f32) (b : BitVec 32) : Scalar.fptosi 32 (Scalar.mulf a (Scalar.ofBits (F := Ideal) .f32 b)) = Ideal.fptosi 32 (a * Ideal.ofBits .f32 b) := rfl

theorem bit_eq (k : Fin 28) : bitV (F := Ideal) X k = BitVec.ofNat 32 (aN X k * 2 ^ (k.1 % 14)) := by
  have hj : k.1 % 14 < 14 := Nat.mod_lt _ (by omega)
  have hp : 2 ^ (k.1 % 14) < 2 ^ 14 := Nat.pow_lt_pow_right (by omega) hj
  have ha := aN_le X k
  have hb : aN X k * 2 ^ (k.1 % 14) < 2 ^ 14 := lt_of_le_of_lt (Nat.mul_le_mul_right _ ha) (by omega)
  generalize hN : aN X k * 2 ^ (k.1 % 14) = N at hb ⊢
  have e : anyV (F := Ideal) X k * Ideal.ofBits .f32 (p2 (k.1 % 14)) = ((((N : ℕ) : ℤ) : ℝ) : EReal) := by
    rw [any_eq, p2_eq _ hj, ← EReal.coe_mul, ← Int.cast_mul, ← Int.natCast_mul]
    exact congrArg (fun n : ℕ => (((n : ℤ) : ℝ) : EReal)) hN
  rw [bitV_of, word_mul, e, fptosi_int 32 (N : ℤ) (by norm_num <;> omega) (by norm_num <;> omega), BitVec.ofInt_natCast]

def wnum (h : Fin 2) : (n : ℕ) → n ≤ 14 → ℕ
  | 0, _ => 0
  | n + 1, hn => wnum h n (by omega) + aN X ⟨14 * h.1 + n, by omega⟩ * 2 ^ n
theorem word_eq (h : Fin 2) (n : ℕ) (hn : n ≤ 14) : wordN (F := Ideal) X h n hn = BitVec.ofNat 32 (wnum X h n hn) := by
  induction n with
  | zero => rfl
  | succ n ih =>
    show wordN (F := Ideal) X h n _ + bitV (F := Ideal) X ⟨14 * h.1 + n, by omega⟩ = BitVec.ofNat 32 (wnum X h n _ + aN X ⟨14 * h.1 + n, by omega⟩ * 2 ^ n)
    rw [ih, bit_eq, BitVec.ofNat_add]
    have : (14 * h.1 + n) % 14 = n := by omega
    show _ + BitVec.ofNat 32 (_ * 2 ^ ((14 * h.1 + n) % 14)) = _
    rw [this]
theorem wnum_lt (h : Fin 2) (n : ℕ) (hn : n ≤ 14) : wnum X h n hn < 2 ^ n := by
  induction n with
  | zero => exact Nat.one_pos
  | succ n ih =>
    have h1 := ih (by omega)
    have h2 := Nat.mul_le_mul_right (2 ^ n) (aN_le X ⟨14 * h.1 + n, by omega⟩)
    show wnum X h n _ + _ < _
    rw [Nat.pow_succ]; omega
theorem wnum_bit (h : Fin 2) (n : ℕ) (hn : n ≤ 14) (j : ℕ) (hj : j < n) : wnum X h n hn / 2 ^ j % 2 = aN X ⟨14 * h.1 + j, by omega⟩ := by
  induction n with
  | zero => omega
  | succ n ih =>
    show (wnum X h n _ + aN X ⟨14 * h.1 + n, by omega⟩ * 2 ^ n) / 2 ^ j % 2 = _
    by_cases e : j = n
    · subst e
      rw [Nat.add_mul_div_right _ _ (by positivity), Nat.div_eq_of_lt (wnum_lt X h j _), Nat.zero_add]
      have := aN_le X ⟨14 * h.1 + j, by omega⟩; omega
    · have hlt : j < n := by omega
      have e2 : 2 ^ n = 2 ^ (n - j - 1) * 2 * 2 ^ j := by
        rw [← Nat.pow_succ, ← Nat.pow_add]; congr 1; omega
      rw [e2, ← Nat.mul_assoc, Nat.add_mul_div_right _ _ (by positivity), ← Nat.mul_assoc, Nat.add_mul_mod_self_right]
      exact ih (by omega) hlt

theorem shr_bit (N j : ℕ) (hN : N < 2 ^ 14) (hj : j < 14) : Scalar.andi (Scalar.shrsi (BitVec.ofNat 32 N) (BitVec.ofNat 32 j)) 1#32 = BitVec.ofNat 32 (N / 2 ^ j % 2) := by
  have hm : (BitVec.ofNat 32 N).msb = false := by
    rw [BitVec.msb_eq_false_iff_two_mul_lt, BitVec.toNat_ofNat]; omega
  have ej : (BitVec.ofNat 32 j).toNat = j := by rw [BitVec.toNat_ofNat]; omega
  have e : Scalar.shrsi (BitVec.ofNat 32 N) (BitVec.ofNat 32 j) = (BitVec.ofNat 32 N).sshiftRight j := by
    simp only [Scalar.shrsi, IntOp.shrsi, ej]
    rw [BitVec.sshiftRight_eq', ej]
    exact if_pos (by omega)
  rw [e, BitVec.sshiftRight_eq_of_msb_false hm]
  apply BitVec.eq_of_toNat_eq
  show ((BitVec.ofNat 32 N >>> j) &&& 1#32).toNat = _
  rw [BitVec.toNat_and, BitVec.toNat_ushiftRight, BitVec.toNat_ofNat, BitVec.toNat_ofNat, BitVec.toNat_ofNat, Nat.shiftRight_eq_div_pow, Nat.mod_eq_of_lt (a := N) (by omega)]
  show N / 2 ^ j &&& 1 = _
  rw [Nat.and_one_is_mod, Nat.mod_eq_of_lt (a := N / 2 ^ j % 2) (by omega)]

/-- An active chunk's bit is set. -/
theorem act_one (n : ℕ) (h : n < 28) (l : Fin 128) (ho : oB (F := Ideal) X n h l = 1#1) : actN (F := Ideal) X n = 1#32 := by
  unfold actN
  rw [word_eq, shr_bit _ _ (wnum_lt X _ 14 _) (Nat.mod_lt _ (by omega)), wnum_bit X _ 14 _ _ (Nat.mod_lt _ (by omega))]
  have e : (⟨14 * (if n < 14 then (0 : Fin 2) else 1).1 + n % 14, by have := (if n < 14 then (0 : Fin 2) else 1).2; omega⟩ : Fin 28) = ⟨n, h⟩ := Fin.ext (by
    show 14 * (if n < 14 then (0 : Fin 2) else 1).1 + n % 14 = n
    split
    · show 14 * 0 + n % 14 = n; omega
    · show 14 * 1 + n % 14 = n; omega)
  rw [e]
  have : aN X ⟨n, h⟩ = 1 := if_pos ⟨l, ho⟩
  rw [this]

theorem two_eq : Ideal.ofBits .f32 0x40000000#32 = ((2 : ℝ) : EReal) := by
  simp [Ideal.ofBits, Ideal.ieee]
  try (rw [← EReal.coe_mul]; norm_num)

/-- What the plan's word says. -/
theorem ctl_one (h : ctlV (F := Ideal) X = 1#32) : nnum (F := Ideal) X 28 ≤ 8 ∧ ∀ l, cnum (F := Ideal) X l 28 (Nat.le_refl _) ≤ 2 := by
  have hh : ∀ a b : BitVec 1, (Scalar.extui (Scalar.andi a b) : BitVec 32) = 1#32 → a = 1#1 ∧ b = 1#1 := by decide
  obtain ⟨h1, h2⟩ := hh _ _ h
  constructor
  · rw [num_eq] at h1
    have := nnum_le (F := Ideal) X 28
    generalize nnum (F := Ideal) X 28 = m at *
    clear h2 h hh
    by_contra hc
    have : ∀ m : Fin 29, Scalar.cmpi .sle (BitVec.ofNat 32 m.1) 8#32 = 1#1 → m.1 ≤ 8 := by decide
    exact hc (this ⟨m, by omega⟩ h1)
  · intro l
    have h3 : anyL (sitofp (F := Ideal) .f32 (cntN (F := Ideal) X 28 (Nat.le_refl _))) ≤ Ideal.ofBits .f32 0x40000000#32 := by
      by_contra hc
      revert h2
      refine fun h2 => hc ?_
      have : ∀ a b : EReal, FloatOps.cmpf (F := Ideal) (φ := .f32) .ole a b = 1#1 → a ≤ b := by
        intro a b hab
        by_contra hn
        have h0 : FloatOps.cmpf (F := Ideal) (φ := .f32) .ole a b = Ideal.cmp .ole a b := rfl
        rw [h0] at hab
        simp [Ideal.cmp, hn] at hab
      exact this _ _ h2
    have h4 := ((anyL_le _ _).1 h3).2 l
    rw [two_eq] at h4
    have e : (sitofp (F := Ideal) .f32 (cntN (F := Ideal) X 28 (Nat.le_refl _)) : FVec Ideal S1x128 .f32) (ValueIdx.ix2 0 l) = (((cnum (F := Ideal) X l 28 (Nat.le_refl _) : ℤ) : ℝ) : EReal) := by
      refine (congrArg (fun b : BitVec 32 => ((((b.toInt : ℤ) : ℝ)) : EReal)) (cnt_eq (F := Ideal) X l 28 (Nat.le_refl _))).trans ?_
      have := cnum_le (F := Ideal) X l 28 (Nat.le_refl _)
      have e : (BitVec.ofNat 32 (cnum (F := Ideal) X l 28 (Nat.le_refl _))).toInt = (cnum (F := Ideal) X l 28 (Nat.le_refl _) : ℤ) := by
        rw [BitVec.toInt_eq_toNat_of_lt (by rw [BitVec.toNat_ofNat]; omega), BitVec.toNat_ofNat]; omega
      rw [e]
    rw [e, EReal.coe_le_coe_iff] at h4
    exact_mod_cast h4

end Cert.KernelIdeal.Hand
-- ==== Proof.FoldL.lean ====
module

public import proofs.«01_k».proof.Proof.EqY
public import Idealize.ShloMosaic.Lib.BitcastFour

/-! The folded weights, byte by byte. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe
open Idealize.ShloMosaic.VecWindow (put window)

/-- The bytes of the first `n` slots, joined. -/
def orN (f : Fin 8 → BitVec 8) : (n : ℕ) → n ≤ 8 → BitVec 8
  | 0, _ => 0#8
  | n + 1, h => orN f n (by omega) ||| f ⟨n, h⟩

theorem orN_upd (f f' : Fin 8 → BitVec 8) (i : Fin 8) (v : BitVec 8) (hne : ∀ j, j ≠ i → f' j = f j) (h0 : f i = 0#8) (hv : f' i = v) (n : ℕ) (h : n ≤ 8) :
    orN f' n h = orN f n h ||| if i.1 < n then v else 0#8 := by
  induction n with
  | zero => rw [if_neg (Nat.not_lt_zero _), BitVec.or_zero]; rfl
  | succ n ih =>
    show orN f' n _ ||| f' ⟨n, h⟩ = (orN f n _ ||| f ⟨n, h⟩) ||| _
    rw [ih]
    by_cases e : i = ⟨n, h⟩
    · have e1 : i.1 = n := congrArg Fin.val e
      rw [if_neg (by omega), if_pos (by omega), ← e, hv, h0, BitVec.or_zero]
    · have e1 : i.1 ≠ n := fun h => e (Fin.ext h)
      rw [hne _ (fun h => e h.symm), BitVec.or_assoc, BitVec.or_assoc, BitVec.or_comm (f ⟨n, h⟩)]
      by_cases hl : i.1 < n
      · rw [if_pos hl, if_pos (by omega)]
      · rw [if_neg hl, if_neg (by omega)]

theorem orN_congr (f f' : Fin 8 → BitVec 8) (h : ∀ j, f j = f' j) (n : ℕ) (hn : n ≤ 8) : orN f n hn = orN f' n hn := by
  rw [show f = f' from funext h]

theorem bc1 {α : Type} (v : S1x1x128.Idx → α) (R : Fin 128) (l : Fin 128) :
    broadcastTo S128x128 (shapeCast S1x128 v shapeCasts_S1x1x128_S1x128) broadcasts_S1x128_S128x128 (ValueIdx.ix2 R l) = v (ValueIdx.ix3 0 0 l) := by
  have e : broadcastTo S128x128 (shapeCast S1x128 v shapeCasts_S1x1x128_S1x128) broadcasts_S1x128_S128x128 (ValueIdx.ix2 R l) = shapeCast S1x128 v shapeCasts_S1x1x128_S1x128 (ValueIdx.ix2 0 l) := by
    refine congrArg (shapeCast S1x128 v shapeCasts_S1x1x128_S1x128) (funext fun ax => Fin.ext ?_)
    match ax with
    | ⟨0, _⟩ => rfl
    | ⟨1, _⟩ => rfl
  rw [e]
  exact shapeCast_apply v shapeCasts_S1x1x128_S1x128 (ValueIdx.ix2 0 l) (ValueIdx.ix3 0 0 l) (by
    rw [Shape.rowMajor_val_two, Shape.rowMajor_val_three]; rfl)

/-- A slot's byte under its mask. -/
def mbyte (g : BitVec 8) (m : BitVec 32) : BitVec 8 := if m = 0#32 then 0#8 else g

theorem foN_bit (g : Fin 8 → Vec Ideal S512x128 .i8) (mk : Fin 8 → Vec Ideal S1x1x128 .i32) (l : Fin 128)
    (hm : ∀ j, mk j (ValueIdx.ix3 0 0 l) = 0#32 ∨ mk j (ValueIdx.ix3 0 0 l) = 4294967295#32) (R : Fin 128) (p : Fin 512) (i : ℕ) (hi : i < 32) (hp : p.1 = 4 * R.1 + i / 8) (n : ℕ) (h : n ≤ 8) :
    (foN (F := Ideal) g mk n h (ValueIdx.ix2 R l)).getLsbD i = (orN (fun j => mbyte (g j (ValueIdx.ix2 p l)) (mk j (ValueIdx.ix3 0 0 l))) n h).getLsbD (i % 8) := by
  induction n with
  | zero =>
    show (0#32 : BitVec 32).getLsbD i = (0#8 : BitVec 8).getLsbD (i % 8)
    simp
  | succ n ih =>
    have e : foN (F := Ideal) g mk (n + 1) h (ValueIdx.ix2 R l) = foN (F := Ideal) g mk n (by omega) (ValueIdx.ix2 R l) ||| (bitcast S128x128 32 (g ⟨n, h⟩) bitcasts_S512x128_w8_S128x128_w32 (ValueIdx.ix2 R l)
        &&& broadcastTo S128x128 (shapeCast S1x128 (mk ⟨n, h⟩) shapeCasts_S1x1x128_S1x128) broadcasts_S1x128_S128x128 (ValueIdx.ix2 R l)) := rfl
    rw [e, bc1, BitVec.getLsbD_or, BitVec.getLsbD_and, ih (by omega)]
    have e2 : (bitcast S128x128 32 (g ⟨n, h⟩) bitcasts_S512x128_w8_S128x128_w32 (ValueIdx.ix2 R l)).getLsbD i = (g ⟨n, h⟩ (ValueIdx.ix2 p l)).getLsbD (i % 8) :=
      bitcast_8_32_getLsbD_ix2 (g ⟨n, h⟩) bitcasts_S512x128_w8_S128x128_w32 R l i hi p hp
    rw [e2]
    show _ = (orN _ n _ ||| mbyte _ _).getLsbD (i % 8)
    rw [BitVec.getLsbD_or]
    refine congrArg₂ or rfl ?_
    unfold mbyte
    rcases hm ⟨n, h⟩ with h0 | h1
    · rw [h0, if_pos rfl]; simp
    · rw [h1, if_neg (by decide)]
      have : (4294967295#32 : BitVec 32).getLsbD i = true := by
        have e3 : (4294967295#32 : BitVec 32) = BitVec.allOnes 32 := by decide
        rw [e3]; exact BitVec.getLsbD_allOnes.trans (decide_eq_true hi)
      rw [this, Bool.and_true]

/-- A byte of the folded weights. -/
theorem fold_byte (g : Fin 8 → Vec Ideal S512x128 .i8) (mk : Fin 8 → Vec Ideal S1x1x128 .i32) (l : Fin 128)
    (hm : ∀ j, mk j (ValueIdx.ix3 0 0 l) = 0#32 ∨ mk j (ValueIdx.ix3 0 0 l) = 4294967295#32) (p : Fin 512) :
    bitcast S512x128 8 (foN (F := Ideal) g mk 8 (Nat.le_refl _)) bitcasts_S128x128_w32_S512x128_w8 (ValueIdx.ix2 p l)
      = orN (fun j => mbyte (g j (ValueIdx.ix2 p l)) (mk j (ValueIdx.ix3 0 0 l))) 8 (Nat.le_refl _) := by
  apply BitVec.eq_of_getLsbD_eq
  intro q hq
  rw [bitcast_getLsbD (foN (F := Ideal) g mk 8 (Nat.le_refl _)) bitcasts_S128x128_w32_S512x128_w8 (ValueIdx.ix2 p l) q hq (by decide)]
  have er : S512x128.row (ValueIdx.ix2 p l) = p.1 := rfl
  have hb := bitcasts_S128x128_w32_S512x128_w8.pos_lt (ValueIdx.ix2 p l) q hq
  have e : bitcasts_S128x128_w32_S512x128_w8.srcIdx (ValueIdx.ix2 p l) ((S512x128.row (ValueIdx.ix2 p l) * 8 + q) / 32) (fun a ha =>
          (Nat.div_lt_iff_lt_mul (by decide)).2 (bitcasts_S128x128_w32_S512x128_w8.pos_lt (ValueIdx.ix2 p l) q hq a ha))
      = ValueIdx.ix2 (⟨(p.1 * 8 + q) / 32, by omega⟩ : Fin 128) l := by
    funext c
    match c with
    | ⟨0, _⟩ => exact Fin.ext (bitcasts_S128x128_w32_S512x128_w8.srcIdx_row _ _ _ ⟨0, Nat.zero_lt_two⟩ rfl)
    | ⟨1, _⟩ => exact Fin.ext (bitcasts_S128x128_w32_S512x128_w8.srcIdx_other _ _ _ ⟨1, Nat.one_lt_two⟩ (by show ¬ 1 + 2 = 2; omega))
  rw [e, er, foN_bit g mk l hm _ p ((p.1 * 8 + q) % 32) (Nat.mod_lt _ (by omega)) (by show p.1 = 4 * ((p.1 * 8 + q) / 32) + (p.1 * 8 + q) % 32 / 8; omega)]
  congr 1
  omega

/-- A lane of a plane. -/
def ca (p : Fin 2) (l : Fin 128) : Fin 256 := ⟨128 * p.1 + l.1, by omega⟩

theorem cat_apply (u v : IVec S512x128 8) (p : Fin 2) (j : Fin 512) (l : Fin 128) :
    concatenate S512x256 1 [⟨S512x128, u⟩, ⟨S512x128, v⟩] concatenates_S512x128_S512x128_S512x256_d1 (ValueIdx.ix2 j (ca p l)) = (if p = 0 then u else v) (ValueIdx.ix2 j l) := by
  match p with
  | ⟨0, _⟩ =>
    exact concatenate_pair_apply_left (t := S512x256) 1 u v concatenates_S512x128_S512x128_S512x256_d1 _ rfl (ValueIdx.ix2 j l) (fun b => match b with
      | ⟨0, _⟩ => rfl
      | ⟨1, _⟩ => by show l.1 = 128 * 0 + l.1; omega)
  | ⟨1, _⟩ =>
    exact concatenate_pair_apply_right (t := S512x256) 1 u v concatenates_S512x128_S512x128_S512x256_d1 _ rfl rfl (ValueIdx.ix2 j l) (fun b => match b with
      | ⟨0, _⟩ => fun _ => rfl
      | ⟨1, _⟩ => fun h => absurd rfl h) (by show l.1 + 128 = 128 * 1 + l.1; omega)

/-- The folded product, lane by lane. -/
theorem fold_sum (q : FVec Ideal S256x256 .bf16) (g : Fin 8 → Vec Ideal S512x128 .i8) (mk : Fin 2 → Fin 8 → Vec Ideal S1x1x128 .i32)
    (hm : ∀ p j l, mk p j (ValueIdx.ix3 0 0 l) = 0#32 ∨ mk p j (ValueIdx.ix3 0 0 l) = 4294967295#32) (r : Fin 256) (j : Fin 512) :
    k0_pay664 (F := Ideal) (wfoldG (F := Ideal) g mk) q (ValueIdx.ix2 r j)
      = ∑ l : Fin 128, (q (ValueIdx.ix2 r (ca 0 l)) * (((orN (fun i => mbyte (g i (ValueIdx.ix2 j l)) (mk 0 i (ValueIdx.ix3 0 0 l))) 8 (Nat.le_refl _)).toInt : ℝ) : EReal)
          + q (ValueIdx.ix2 r (ca 1 l)) * (((orN (fun i => mbyte (g i (ValueIdx.ix2 j l)) (mk 1 i (ValueIdx.ix3 0 0 l))) 8 (Nat.le_refl _)).toInt : ℝ) : EReal)) := by
  have hw : ∀ (p : Fin 2) (l : Fin 128), wfoldG (F := Ideal) g mk (ValueIdx.ix2 j (ca p l)) = (((orN (fun i => mbyte (g i (ValueIdx.ix2 j l)) (mk p i (ValueIdx.ix3 0 0 l))) 8 (Nat.le_refl _)).toInt : ℝ) : EReal) := fun p l => by
    refine congrArg (fun b : BitVec 8 => (((b.toInt : ℤ) : ℝ) : EReal)) ((cat_apply _ _ p j l).trans ?_)
    match p with
    | ⟨0, _⟩ => exact fold_byte g (mk 0) l (fun i => hm 0 i l) j
    | ⟨1, _⟩ => exact fold_byte g (mk 1) l (fun i => hm 1 i l) j
  refine (mf_apply q (wfoldG (F := Ideal) g mk) r j).trans ?_
  refine (Fin.sum_univ_add (a := 128) (b := 128) (fun k : Fin (128 + 128) => (q (ValueIdx.ix2 r k) * wfoldG (F := Ideal) g mk (ValueIdx.ix2 j k) : EReal))).trans ?_
  rw [← Finset.sum_add_distrib]
  refine Finset.sum_congr rfl fun l _ => ?_
  rw [← hw 0 l, ← hw 1 l]
  have e0 : (Fin.castAdd 128 l : Fin (128 + 128)) = ca 0 l := Fin.ext (by show l.1 = 128 * 0 + l.1; omega)
  have e1 : (Fin.natAdd 128 l : Fin (128 + 128)) = ca 1 l := Fin.ext (by show 128 + l.1 = 128 * 1 + l.1; omega)
  rw [e0, e1]

end Cert.KernelIdeal.Hand
-- ==== Proof.FoldS.lean ====
module

public import proofs.«01_k».proof.Proof.FoldA
public import proofs.«01_k».proof.Proof.FoldL

/-! What the folded planes, masks and slots hold after each chunk. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe
open Idealize.ShloMosaic.VecWindow (put window)

theorem fin2 (p : Fin 2) : p = 0 ∨ p = 1 := by revert p; decide
theorem pay9_apply (m : IVec S1x128 32) (l : Fin 128) : k0_pay9 m (ValueIdx.ix3 0 0 l) = m (ValueIdx.ix2 0 l) := cast3 m l

theorem putb (x : S2x8x128.Idx → BitVec 32) (q : Fin 2) (o : ℕ) (m : IVec S1x128 32) (p : Fin 2) (j : Fin 8) (l : Fin 128) :
    put x ![q.1, o, 0] S1x1x128.size (k0_pay9 m) (ValueIdx.ix3 p j l) = if p = q ∧ j.1 = o then m (ValueIdx.ix2 0 l) else x (ValueIdx.ix3 p j l) := by
  unfold put
  by_cases h : p = q ∧ j.1 = o
  · have hh : ∀ a : Fin 3, (![q.1, o, 0] : Fin 3 → ℕ) a ≤ ((ValueIdx.ix3 p j l : S2x8x128.Idx) a).val ∧ ((ValueIdx.ix3 p j l : S2x8x128.Idx) a).val < (![q.1, o, 0] : Fin 3 → ℕ) a + S1x1x128.size a := fun a => match a with
      | ⟨0, _⟩ => by show q.1 ≤ p.1 ∧ p.1 < q.1 + 1; have := congrArg Fin.val h.1; omega
      | ⟨1, _⟩ => by show o ≤ j.1 ∧ j.1 < o + 1; have := h.2; omega
      | ⟨2, _⟩ => by show 0 ≤ l.1 ∧ l.1 < 0 + 128; omega
    rw [dif_pos hh, if_pos h, ← pay9_apply m l]
    refine congrArg (k0_pay9 m) (funext fun a => Fin.ext ?_)
    match a with
    | ⟨0, _⟩ => show p.1 - q.1 = 0; have := congrArg Fin.val h.1; omega
    | ⟨1, _⟩ => show j.1 - o = 0; have := h.2; omega
    | ⟨2, _⟩ => show l.1 - 0 = l.1; omega
  · rw [if_neg h, dif_neg]
    intro hh
    have h0 : q.1 ≤ p.1 ∧ p.1 < q.1 + 1 := hh 0
    have h1 : o ≤ j.1 ∧ j.1 < o + 1 := hh 1
    exact h ⟨Fin.ext (by omega), by omega⟩

theorem puts (x : S8.Idx → BitVec 32) (o : ℕ) (w : BitVec 32) (j : Fin 8) :
    put x ![o] S1.size (fun _ => w) (s8 j) = if j.1 = o then w else x (s8 j) := by
  unfold put
  by_cases h : j.1 = o
  · have hh : ∀ a : Fin 1, (![o] : Fin 1 → ℕ) a ≤ ((s8 j) a).val ∧ ((s8 j) a).val < (![o] : Fin 1 → ℕ) a + S1.size a := fun a => match a with
      | ⟨0, _⟩ => by show o ≤ j.1 ∧ j.1 < o + 1; omega
    rw [dif_pos hh, if_pos h]
  · rw [if_neg h, dif_neg]
    intro hh
    have h0 : o ≤ j.1 ∧ j.1 < o + 1 := hh 0
    exact h (by omega)

theorem puta {α : Type} (x : S256x256.Idx → α) (q : Fin 2) (v : S256x128.Idx → α) (r : Fin 256) (p : Fin 2) (l : Fin 128) :
    put x ![0, 128 * q.1] S256x128.size v (ValueIdx.ix2 r (ca p l)) = if p = q then v (ValueIdx.ix2 r l) else x (ValueIdx.ix2 r (ca p l)) := by
  unfold put
  by_cases h : p = q
  · subst h
    have hh : ∀ a : Fin 2, (![0, 128 * p.1] : Fin 2 → ℕ) a ≤ ((ValueIdx.ix2 r (ca p l) : S256x256.Idx) a).val ∧ ((ValueIdx.ix2 r (ca p l) : S256x256.Idx) a).val < (![0, 128 * p.1] : Fin 2 → ℕ) a + S256x128.size a := fun a => match a with
      | ⟨0, _⟩ => by show 0 ≤ r.1 ∧ r.1 < 0 + 256; omega
      | ⟨1, _⟩ => by show 128 * p.1 ≤ 128 * p.1 + l.1 ∧ 128 * p.1 + l.1 < 128 * p.1 + 128; omega
    rw [dif_pos hh, if_pos rfl]
    refine congrArg v (funext fun a => Fin.ext ?_)
    match a with
    | ⟨0, _⟩ => show r.1 - 0 = r.1; omega
    | ⟨1, _⟩ => show 128 * p.1 + l.1 - 128 * p.1 = l.1; omega
  · rw [if_neg h, dif_neg]
    intro hh
    have h1 : 128 * q.1 ≤ 128 * p.1 + l.1 ∧ 128 * p.1 + l.1 < 128 * q.1 + 128 := hh 1
    exact h (Fin.ext (by omega))

theorem wina {α : Type} (x : S256x256.Idx → α) (q : Fin 2) (ib : ∀ a, (![0, 128 * q.1] : Fin 2 → ℕ) a + S256x128.size a ≤ S256x256.size a) (r : Fin 256) (l : Fin 128) :
    window x ![0, 128 * q.1] S256x128.size ib (ValueIdx.ix2 r l) = x (ValueIdx.ix2 r (ca q l)) := by
  refine congrArg x (funext fun a => Fin.ext ?_)
  match a with
  | ⟨0, _⟩ => show 0 + 1 * r.1 = r.1; omega
  | ⟨1, _⟩ => show 128 * q.1 + 1 * l.1 = 128 * q.1 + l.1; omega

section G
variable {F : FTy → Type} [FloatOps F]
theorem pay10_apply (m : IVec S1x128 32) (x o : Vec F S256x128 .bf16) (r : Fin 256) (l : Fin 128) :
    k0_pay10 m x o (ValueIdx.ix2 r l) = FloatOps.truncf .bf16 bitsLt_bf16_f32 (Scalar.select (IntOp.cmpi .ne (m (ValueIdx.ix2 0 l)) 0#32) (FloatOps.extf .f32 bitsLt_bf16_f32 (x (ValueIdx.ix2 r l))) (FloatOps.extf .f32 bitsLt_bf16_f32 (o (ValueIdx.ix2 r l)))) := by
  unfold k0_pay10
  refine (congrFun (shapeCast_self _ shapeCasts_S256x128_S256x128) _).trans ?_
  have e := bcl (cmpi .ne m (broadcast S1x128 0#32)) r l
  exact congrArg (fun b => FloatOps.truncf .bf16 bitsLt_bf16_f32 (Scalar.select b (FloatOps.extf .f32 bitsLt_bf16_f32 (x (ValueIdx.ix2 r l))) (FloatOps.extf .f32 bitsLt_bf16_f32 (o (ValueIdx.ix2 r l))))) e
end G

theorem pay10_ideal (m : IVec S1x128 32) (x o : Vec Ideal S256x128 .bf16) (r : Fin 256) (l : Fin 128) (P : Prop) [Decidable P] (hm : m (ValueIdx.ix2 0 l) = if P then 4294967295#32 else 0#32) :
    k0_pay10 (F := Ideal) m x o (ValueIdx.ix2 r l) = if P then x (ValueIdx.ix2 r l) else o (ValueIdx.ix2 r l) := by
  rw [pay10_apply, hm]
  by_cases h : P
  · rw [if_pos h, if_pos h]; rfl
  · rw [if_neg h, if_neg h]; rfl

variable (X : S256x3584.Idx → EReal)

theorem slot_one (m : ℕ) (h : m < 8) : slotCond 1#32 (BitVec.ofNat 32 m) = 1#1 := by
  have : ∀ m : Fin 8, slotCond 1#32 (BitVec.ofNat 32 m.1) = 1#1 := by decide
  exact this ⟨m, h⟩
theorem slot_zero (m : BitVec 32) : ¬ slotCond 0#32 m = 1#1 := by
  unfold slotCond
  have e : Scalar.cmpi .eq 0#32 1#32 = 0#1 := by decide
  rw [e]
  generalize Scalar.cmpi .slt m 8#32 = b
  revert b; decide

theorem act01 (n : ℕ) : actN (F := Ideal) X n = 0#32 ∨ actN (F := Ideal) X n = 1#32 := by
  have h := act_le (F := Ideal) X n
  generalize actN (F := Ideal) X n = a at h
  by_cases e : a.toNat = 0
  · exact .inl (BitVec.eq_of_toNat_eq e)
  · exact .inr (BitVec.eq_of_toNat_eq (by show a.toNat = 1; omega))

theorem idx_num (n : ℕ) (h : n < 28) : (Scalar.indexCast (numN (F := Ideal) X n) : Index).toNat = nnum (F := Ideal) X n := by
  rw [num_eq]
  have := nnum_le (F := Ideal) X n
  generalize nnum (F := Ideal) X n = m at *
  have : ∀ m : Fin 28, (Scalar.indexCast (BitVec.ofNat 32 m.1) : Index).toNat = m.1 := by decide
  exact this ⟨m, by omega⟩

/-- The masked inputs of a chunk. -/
def xoN (n : ℕ) (h : n < 28) : FVec Ideal S256x128 .bf16 := k0_pay130 (F := Ideal) (k0_pay129 (xk (F := Ideal) X ⟨n, h⟩))

open Classical in
theorem st_idle (n : ℕ) (h : n < 28) (ha : actN (F := Ideal) X n = 0#32) : msN (F := Ideal) X (n + 1) h = msN (F := Ideal) X n (Nat.le_of_lt h) := by
  show mstep _ _ _ _ _ _ _ _ _ = _
  unfold mstep
  rw [if_neg]
  rw [ha]; exact slot_zero _

open Classical in
theorem st_b (n : ℕ) (h : n < 28) (h8 : nnum (F := Ideal) X 28 ≤ 8) (ha : actN (F := Ideal) X n = 1#32) (p : Fin 2) (j : Fin 8) (l : Fin 128) :
    (msN (F := Ideal) X (n + 1) h).b (ValueIdx.ix3 p j l) = if j.1 = nnum (F := Ideal) X n then (if hit (F := Ideal) X p n h l then 4294967295#32 else 0#32) else (msN (F := Ideal) X n (Nat.le_of_lt h)).b (ValueIdx.ix3 p j l) := by
  have hl : nnum (F := Ideal) X n < 8 := by
    have := nnum_mono (F := Ideal) X (n + 1) 28 h
    have e : nnum (F := Ideal) X (n + 1) = nnum (F := Ideal) X n + 1 := congrArg (fun a : BitVec 32 => nnum (F := Ideal) X n + a.toNat) ha
    omega
  have hc : slotCond (actN (F := Ideal) X n) (numN (F := Ideal) X n) = 1#1 := by rw [ha, num_eq]; exact slot_one _ hl
  show (mstep _ _ _ _ _ _ _ _ _).b _ = _
  unfold mstep
  rw [if_pos hc]
  refine (putb _ 1 _ _ p j l).trans ?_
  rw [idx_num X n h]
  have e0 := putb (msN (F := Ideal) X n (Nat.le_of_lt h)).b 0 (nnum (F := Ideal) X n) (k0_pay137 (cntN (F := Ideal) X n (Nat.le_of_lt h)) (xk (F := Ideal) X ⟨n, h⟩)) p j l
  by_cases hj : j.1 = nnum (F := Ideal) X n
  · rw [if_pos hj]
    rcases fin2 p with rfl | rfl
    · rw [if_neg (fun h => absurd h.1 (by decide))]
      refine e0.trans ?_
      rw [if_pos ⟨rfl, hj⟩]; exact m0_eq (F := Ideal) X n h l
    · rw [if_pos ⟨rfl, hj⟩]; exact m1_eq (F := Ideal) X n h l
  · rw [if_neg hj, if_neg (fun h => hj h.2)]
    refine e0.trans ?_
    rw [if_neg (fun h => hj h.2)]

theorem st_s (n : ℕ) (h : n < 28) (h8 : nnum (F := Ideal) X 28 ≤ 8) (ha : actN (F := Ideal) X n = 1#32) (j : Fin 8) :
    (msN (F := Ideal) X (n + 1) h).s (s8 j) = if j.1 = nnum (F := Ideal) X n then BitVec.ofNat 32 n else (msN (F := Ideal) X n (Nat.le_of_lt h)).s (s8 j) := by
  have hl : nnum (F := Ideal) X n < 8 := by
    have := nnum_mono (F := Ideal) X (n + 1) 28 h
    have e : nnum (F := Ideal) X (n + 1) = nnum (F := Ideal) X n + 1 := congrArg (fun a : BitVec 32 => nnum (F := Ideal) X n + a.toNat) ha
    omega
  have hc : slotCond (actN (F := Ideal) X n) (numN (F := Ideal) X n) = 1#1 := by rw [ha, num_eq]; exact slot_one _ hl
  show (mstep _ _ _ _ _ _ _ _ _).s _ = _
  unfold mstep
  rw [if_pos hc]
  refine (puts _ _ _ j).trans ?_
  rw [idx_num X n h]

open Classical in
theorem st_a (n : ℕ) (h : n < 28) (h8 : nnum (F := Ideal) X 28 ≤ 8) (ha : actN (F := Ideal) X n = 1#32) (r : Fin 256) (p : Fin 2) (l : Fin 128) :
    (msN (F := Ideal) X (n + 1) h).a (ValueIdx.ix2 r (ca p l)) = if hit (F := Ideal) X p n h l then xoN X n h (ValueIdx.ix2 r l) else (msN (F := Ideal) X n (Nat.le_of_lt h)).a (ValueIdx.ix2 r (ca p l)) := by
  have hl : nnum (F := Ideal) X n < 8 := by
    have := nnum_mono (F := Ideal) X (n + 1) 28 h
    have e : nnum (F := Ideal) X (n + 1) = nnum (F := Ideal) X n + 1 := congrArg (fun a : BitVec 32 => nnum (F := Ideal) X n + a.toNat) ha
    omega
  have hc : slotCond (actN (F := Ideal) X n) (numN (F := Ideal) X n) = 1#1 := by rw [ha, num_eq]; exact slot_one _ hl
  show (mstep _ _ _ _ _ _ _ _ _).a _ = _
  unfold mstep
  rw [if_pos hc]
  refine (puta _ 1 _ r p l).trans ?_
  rcases fin2 p with rfl | rfl
  · rw [if_neg (fun h => absurd h (by decide))]
    refine (puta _ 0 _ r 0 l).trans ?_
    rw [if_pos rfl]
    refine (pay10_ideal _ _ _ r l (hit (F := Ideal) X 0 n h l) (m0_eq (F := Ideal) X n h l)).trans ?_
    exact if_congr Iff.rfl rfl (wina _ 0 inb_S256x256_S256x128_0_0 r l)
  · rw [if_pos rfl]
    refine (pay10_ideal _ _ _ r l (hit (F := Ideal) X 1 n h l) (m1_eq (F := Ideal) X n h l)).trans ?_
    exact if_congr Iff.rfl rfl (wina _ 1 inb_S256x256_S256x128_0_128 r l)

theorem hit_act (p : Fin 2) (n : ℕ) (h : n < 28) (l : Fin 128) (hh : hit (F := Ideal) X p n h l) : actN (F := Ideal) X n = 1#32 := act_one X n h l hh.1

/-- Masks are zero or all ones, and zero above the slots in use. -/
theorem inv_b (h8 : nnum (F := Ideal) X 28 ≤ 8) (p : Fin 2) (l : Fin 128) (n : ℕ) (h : n ≤ 28) (j : Fin 8) :
    ((msN (F := Ideal) X n h).b (ValueIdx.ix3 p j l) = 0#32 ∨ (msN (F := Ideal) X n h).b (ValueIdx.ix3 p j l) = 4294967295#32)
      ∧ (nnum (F := Ideal) X n ≤ j.1 → (msN (F := Ideal) X n h).b (ValueIdx.ix3 p j l) = 0#32) := by
  classical
  induction n with
  | zero => exact ⟨.inl rfl, fun _ => rfl⟩
  | succ n ih =>
    have ih := ih (by omega)
    rcases act01 X n with ha | ha
    · rw [st_idle X n h ha]
      have e : nnum (F := Ideal) X (n + 1) = nnum (F := Ideal) X n + 0 := congrArg (fun a : BitVec 32 => nnum (F := Ideal) X n + a.toNat) ha
      rw [e]; exact ih
    · have e : nnum (F := Ideal) X (n + 1) = nnum (F := Ideal) X n + 1 := congrArg (fun a : BitVec 32 => nnum (F := Ideal) X n + a.toNat) ha
      rw [st_b X n h h8 ha, e]
      by_cases hj : j.1 = nnum (F := Ideal) X n
      · rw [if_pos hj]
        refine ⟨?_, fun hle => absurd hle (by omega)⟩
        by_cases hh : hit (F := Ideal) X p n h l
        · rw [if_pos hh]; exact .inr rfl
        · rw [if_neg hh]; exact .inl rfl
      · rw [if_neg hj]; exact ⟨ih.1, fun hle => ih.2 (by omega)⟩

variable (W : S512x3584.Idx → BitVec 8)

/-- The byte of the folded weights after `n` chunks. -/
def byS (jj : Fin 512) (p : Fin 2) (l : Fin 128) (n : ℕ) (h : n ≤ 28) : BitVec 8 :=
  orN (fun i => mbyte (wslot (F := Ideal) W ((msN (F := Ideal) X n h).s (s8 i)) (ValueIdx.ix2 jj l)) ((msN (F := Ideal) X n h).b (ValueIdx.ix3 p i l))) 8 (Nat.le_refl _)

theorem wslot_n (n : ℕ) (h : n < 28) (jj : Fin 512) (l : Fin 128) : wslot (F := Ideal) W (BitVec.ofNat 32 n) (ValueIdx.ix2 jj l) = W (ValueIdx.ix2 jj (cl ⟨n, h⟩ l)) := by
  refine congrArg (fun d : Fin 3584 => W (ValueIdx.ix2 jj d)) (Fin.ext ?_)
  show ((BitVec.ofNat 32 n).toNat * 128 + l.1) % 3584 = 128 * n + l.1
  rw [BitVec.toNat_ofNat]; omega

open Classical in
theorem by_step (h8 : nnum (F := Ideal) X 28 ≤ 8) (jj : Fin 512) (p : Fin 2) (l : Fin 128) (n : ℕ) (h : n < 28) :
    byS X W jj p l (n + 1) h = byS X W jj p l n (Nat.le_of_lt h) ||| if hit (F := Ideal) X p n h l then W (ValueIdx.ix2 jj (cl ⟨n, h⟩ l)) else 0#8 := by
  rcases act01 X n with ha | ha
  · rw [if_neg (fun hh => absurd ((hit_act X p n h l hh).symm.trans ha) (by decide)), BitVec.or_zero]
    unfold byS
    rw [st_idle X n h ha]
  · have e : nnum (F := Ideal) X (n + 1) = nnum (F := Ideal) X n + 1 := congrArg (fun a : BitVec 32 => nnum (F := Ideal) X n + a.toNat) ha
    have hl : nnum (F := Ideal) X n < 8 := by have := nnum_mono (F := Ideal) X (n + 1) 28 h; omega
    unfold byS
    refine (orN_upd (fun i => mbyte (wslot (F := Ideal) W ((msN (F := Ideal) X n (Nat.le_of_lt h)).s (s8 i)) (ValueIdx.ix2 jj l)) ((msN (F := Ideal) X n (Nat.le_of_lt h)).b (ValueIdx.ix3 p i l))) _ ⟨nnum (F := Ideal) X n, hl⟩ (if hit (F := Ideal) X p n h l then W (ValueIdx.ix2 jj (cl ⟨n, h⟩ l)) else 0#8) ?_ ?_ ?_ 8 (Nat.le_refl _)).trans ?_
    · intro j hj
      have hj' : j.1 ≠ nnum (F := Ideal) X n := fun h => hj (Fin.ext h)
      rw [st_b X n h h8 ha, st_s X n h h8 ha, if_neg hj', if_neg hj']
    · show mbyte _ _ = _
      rw [(inv_b X h8 p l n (Nat.le_of_lt h) ⟨nnum (F := Ideal) X n, hl⟩).2 (Nat.le_refl _)]; rfl
    · show mbyte _ _ = _
      rw [st_b X n h h8 ha, st_s X n h h8 ha, if_pos rfl, if_pos rfl, wslot_n W n h]
      by_cases hh : hit (F := Ideal) X p n h l
      · rw [if_pos hh, if_pos hh]; rfl
      · rw [if_neg hh, if_neg hh]; rfl
    · rw [if_pos hl]

open Classical in
theorem a_step (h8 : nnum (F := Ideal) X 28 ≤ 8) (r : Fin 256) (p : Fin 2) (l : Fin 128) (n : ℕ) (h : n < 28) :
    (msN (F := Ideal) X (n + 1) h).a (ValueIdx.ix2 r (ca p l)) = if hit (F := Ideal) X p n h l then xoN X n h (ValueIdx.ix2 r l) else (msN (F := Ideal) X n (Nat.le_of_lt h)).a (ValueIdx.ix2 r (ca p l)) := by
  rcases act01 X n with ha | ha
  · rw [if_neg (fun hh => absurd ((hit_act X p n h l hh).symm.trans ha) (by decide)), st_idle X n h ha]
  · exact st_a X n h h8 ha r p l

end Cert.KernelIdeal.Hand
-- ==== Proof.FoldT.lean ====
module

public import proofs.«01_k».proof.Proof.FoldS

/-! The folded product is the outlier product. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe
open Idealize.ShloMosaic.VecWindow (put window)
open Cert.ReferenceIdeal.Read

variable (X : S256x3584.Idx → EReal) (W : S512x3584.Idx → BitVec 8)

theorem xo_zero (n : ℕ) (h : n < 28) (r : Fin 256) (l : Fin 128) (h0 : oB (F := Ideal) X n h l = 0#1) : xoN X n h (ValueIdx.ix2 r l) = (0 : EReal) := by
  unfold xoN
  refine (pay130_apply _ r l).trans ?_
  have e : k0_pay121 (F := Ideal) (xk (F := Ideal) X ⟨n, h⟩) (ValueIdx.ix2 0 l) = 0#1 := h0
  rw [e]
  exact Ideal.ofBits_zero_f32

/-- A term of the outlier product. -/
def tm (r : Fin 256) (jj : Fin 512) (l : Fin 128) (k : Fin 28) : EReal :=
  (xoN X k.1 k.2 (ValueIdx.ix2 r l) : EReal) * (((W (ValueIdx.ix2 jj (cl k l))).toInt : ℝ) : EReal)
/-- A lane's terms over the first `n` chunks. -/
def sN (r : Fin 256) (jj : Fin 512) (l : Fin 128) : (n : ℕ) → n ≤ 28 → EReal
  | 0, _ => 0
  | n + 1, h => sN r jj l n (by omega) + tm X W r jj l ⟨n, h⟩

theorem sN_sum (r : Fin 256) (jj : Fin 512) (l : Fin 128) (n : ℕ) (h : n ≤ 28) : sN X W r jj l n h = ∑ k : Fin n, tm X W r jj l (Fin.castLE h k) := by
  induction n with
  | zero => rfl
  | succ n ih =>
    rw [Fin.sum_univ_castSucc]
    show sN X W r jj l n _ + _ = _
    rw [ih (by omega)]
    rfl

/-- A lane of a plane after `n` chunks. -/
def aS (r : Fin 256) (p : Fin 2) (l : Fin 128) (n : ℕ) (h : n ≤ 28) : EReal := (msN (F := Ideal) X n h).a (ValueIdx.ix2 r (ca p l))

def wI (b : BitVec 8) : EReal := ((b.toInt : ℝ) : EReal)
theorem wI0 : wI 0#8 = 0 := by
  have : (0#8 : BitVec 8).toInt = 0 := by decide
  unfold wI; rw [this]; simp

theorem orN_zero (f : Fin 8 → BitVec 8) (h : ∀ i, f i = 0#8) (n : ℕ) (hn : n ≤ 8) : orN f n hn = 0#8 := by
  induction n with
  | zero => rfl
  | succ n ih =>
    show orN f n _ ||| f ⟨n, hn⟩ = 0#8
    rw [ih, h, BitVec.or_zero]

theorem lane_inv (h8 : nnum (F := Ideal) X 28 ≤ 8) (r : Fin 256) (jj : Fin 512) (l : Fin 128) (n : ℕ) (h : n ≤ 28) (h2 : cnum (F := Ideal) X l n h ≤ 2) :
    (∀ p : Fin 2, cnum (F := Ideal) X l n h ≤ p.1 → aS X r p l n h = 0 ∧ byS X W jj p l n h = 0#8)
      ∧ aS X r 0 l n h * wI (byS X W jj 0 l n h) + aS X r 1 l n h * wI (byS X W jj 1 l n h) = sN X W r jj l n h := by
  classical
  induction n with
  | zero =>
    have ha : ∀ p : Fin 2, aS X r p l 0 h = 0 := fun p => Ideal.ofBits_zero_bf16
    have hb : ∀ p : Fin 2, byS X W jj p l 0 h = 0#8 := fun p => orN_zero _ (fun i => if_pos rfl) 8 (Nat.le_refl _)
    refine ⟨fun p _ => ⟨ha p, hb p⟩, ?_⟩
    rw [ha, ha, zero_mul, zero_mul, add_zero]; rfl
  | succ n ih =>
    have hn : n < 28 := h
    have ec : cnum (F := Ideal) X l (n + 1) h = cnum (F := Ideal) X l n (Nat.le_of_lt hn) + (oB (F := Ideal) X n hn l).toNat := rfl
    have ih := ih (Nat.le_of_lt hn) (by omega)
    have ea : ∀ p : Fin 2, aS X r p l (n + 1) h = if hit (F := Ideal) X p n hn l then xoN X n hn (ValueIdx.ix2 r l) else aS X r p l n (Nat.le_of_lt hn) := fun p => a_step X h8 r p l n hn
    have eb : ∀ p : Fin 2, byS X W jj p l (n + 1) h = byS X W jj p l n (Nat.le_of_lt hn) ||| if hit (F := Ideal) X p n hn l then W (ValueIdx.ix2 jj (cl ⟨n, hn⟩ l)) else 0#8 := fun p => by_step X W h8 jj p l n hn
    have es : sN X W r jj l (n + 1) h = sN X W r jj l n (Nat.le_of_lt hn) + (xoN X n hn (ValueIdx.ix2 r l) : EReal) * wI (W (ValueIdx.ix2 jj (cl ⟨n, hn⟩ l))) := rfl
    have ea1 : ∀ p : Fin 2, hit (F := Ideal) X p n hn l → aS X r p l (n + 1) h = xoN X n hn (ValueIdx.ix2 r l) := fun p hp => (ea p).trans (if_pos hp)
    have ea0 : ∀ p : Fin 2, ¬ hit (F := Ideal) X p n hn l → aS X r p l (n + 1) h = aS X r p l n (Nat.le_of_lt hn) := fun p hp => (ea p).trans (if_neg hp)
    have eb1 : ∀ p : Fin 2, hit (F := Ideal) X p n hn l → byS X W jj p l n (Nat.le_of_lt hn) = 0#8 → byS X W jj p l (n + 1) h = W (ValueIdx.ix2 jj (cl ⟨n, hn⟩ l)) := fun p hp h0 => by
      rw [eb, if_pos hp, h0, BitVec.zero_or]
    have eb0 : ∀ p : Fin 2, ¬ hit (F := Ideal) X p n hn l → byS X W jj p l (n + 1) h = byS X W jj p l n (Nat.le_of_lt hn) := fun p hp => by
      rw [eb, if_neg hp, BitVec.or_zero]
    rw [es]
    by_cases ho : oB (F := Ideal) X n hn l = 1#1
    · have ec1 : cnum (F := Ideal) X l (n + 1) h = cnum (F := Ideal) X l n (Nat.le_of_lt hn) + 1 := by rw [ec, ho]; rfl
      generalize hc : cnum (F := Ideal) X l n (Nat.le_of_lt hn) = c at *
      have hit_iff : ∀ p : Fin 2, hit (F := Ideal) X p n hn l ↔ c = p.1 := fun p => by
        unfold hit
        rw [hc]; exact ⟨fun h => h.2, fun h => ⟨ho, h⟩⟩
      refine ⟨fun p hp => ?_, ?_⟩
      · have hnp : ¬ hit (F := Ideal) X p n hn l := by rw [hit_iff]; omega
        rw [ea0 p hnp, eb0 p hnp]
        exact ih.1 p (by omega)
      · by_cases c0 : c = 0
        · have h0 := (hit_iff 0).2 c0
          have h1 : ¬ hit (F := Ideal) X 1 n hn l := by rw [hit_iff]; show ¬ c = 1; omega
          have i0 := ih.1 0 (by show c ≤ 0; omega)
          have i1 := ih.1 1 (by show c ≤ 1; omega)
          have iT := ih.2
          rw [i0.1, i1.1, zero_mul, zero_mul, add_zero] at iT
          rw [ea1 0 h0, eb1 0 h0 i0.2, ea0 1 h1, i1.1, zero_mul, add_zero, ← iT, zero_add]
        · have c1 : c = 1 := by omega
          have h0 : ¬ hit (F := Ideal) X 0 n hn l := by rw [hit_iff]; exact c0
          have h1 := (hit_iff 1).2 c1
          have i1 := ih.1 1 (by show c ≤ 1; omega)
          have iT := ih.2
          rw [i1.1, zero_mul, add_zero] at iT
          rw [ea0 0 h0, eb0 0 h0, ea1 1 h1, eb1 1 h1 i1.2, ← iT]
    · have h0 := bit01 _ ho
      have ec1 : cnum (F := Ideal) X l (n + 1) h = cnum (F := Ideal) X l n (Nat.le_of_lt hn) := by rw [ec, h0]; rfl
      have hnp : ∀ p : Fin 2, ¬ hit (F := Ideal) X p n hn l := fun p hp => ho hp.1
      rw [ea0 0 (hnp 0), ea0 1 (hnp 1), eb0 0 (hnp 0), eb0 1 (hnp 1), xo_zero X n hn r l h0, zero_mul, add_zero]
      refine ⟨fun p hp => ?_, ih.2⟩
      rw [ea0 p (hnp p), eb0 p (hnp p)]
      exact ih.1 p (by omega)

/-- The folded product, as the sum over the columns. -/
theorem acc_sum (hctl : ctlV (F := Ideal) X = 1#32) (r : Fin 256) (jj : Fin 512) :
    accF (F := Ideal) X W (ValueIdx.ix2 r jj) = ∑ d : Fin 3584, xoV (F := Ideal) X (ValueIdx.ix2 r d) * (((W (ValueIdx.ix2 jj d)).toInt : ℝ) : EReal) := by
  obtain ⟨h8, h2⟩ := ctl_one X hctl
  have hwin : ∀ (p : Fin 2) (j : Fin 8) (l : Fin 128), window (msN (F := Ideal) X 28 (Nat.le_refl _)).b ![p.1, j.1, 0] S1x1x128.size (minb3 p j) (ValueIdx.ix3 0 0 l) = (msN (F := Ideal) X 28 (Nat.le_refl _)).b (ValueIdx.ix3 p j l) := fun p j l => by
    refine congrArg (msN (F := Ideal) X 28 (Nat.le_refl _)).b (funext fun a => Fin.ext ?_)
    match a with
    | ⟨0, _⟩ => show p.1 + 1 * 0 = p.1; omega
    | ⟨1, _⟩ => show j.1 + 1 * 0 = j.1; omega
    | ⟨2, _⟩ => show 0 + 1 * l.1 = l.1; omega
  unfold accF
  rw [fold_sum _ _ _ (fun p j l => by rw [hwin]; exact (inv_b X h8 p l 28 (Nat.le_refl _) j).1)]
  have hl : ∀ l : Fin 128, ((msN (F := Ideal) X 28 (Nat.le_refl _)).a (ValueIdx.ix2 r (ca 0 l)) * (((orN (fun i => mbyte (wslot (F := Ideal) W ((msN (F := Ideal) X 28 (Nat.le_refl _)).s (s8 i)) (ValueIdx.ix2 jj l)) (window (msN (F := Ideal) X 28 (Nat.le_refl _)).b ![(0 : Fin 2).1, i.1, 0] S1x1x128.size (minb3 0 i) (ValueIdx.ix3 0 0 l))) 8 (Nat.le_refl _)).toInt : ℝ) : EReal)
      + (msN (F := Ideal) X 28 (Nat.le_refl _)).a (ValueIdx.ix2 r (ca 1 l)) * (((orN (fun i => mbyte (wslot (F := Ideal) W ((msN (F := Ideal) X 28 (Nat.le_refl _)).s (s8 i)) (ValueIdx.ix2 jj l)) (window (msN (F := Ideal) X 28 (Nat.le_refl _)).b ![(1 : Fin 2).1, i.1, 0] S1x1x128.size (minb3 1 i) (ValueIdx.ix3 0 0 l))) 8 (Nat.le_refl _)).toInt : ℝ) : EReal) : EReal)
      = ∑ k : Fin 28, tm X W r jj l k := fun l => by
    have e := (lane_inv X W h8 r jj l 28 (Nat.le_refl _) (h2 l)).2
    rw [sN_sum] at e
    refine Eq.trans ?_ e
    unfold aS byS wI
    rw [orN_congr _ _ (fun i => congrArg (mbyte _) (hwin 0 i l)), orN_congr _ _ (fun i => congrArg (mbyte _) (hwin 1 i l))]
  refine (Finset.sum_congr rfl fun l _ => hl l).trans ?_
  rw [Finset.sum_comm, ← Fintype.sum_prod_type']
  refine Fintype.sum_equiv (finProdFinEquiv (m := 28) (n := 128)) _ (fun d : Fin 3584 => xoV (F := Ideal) X (ValueIdx.ix2 r d) * (((W (ValueIdx.ix2 jj d)).toInt : ℝ) : EReal)) fun kl => ?_
  obtain ⟨k, l⟩ := kl
  have ed : (finProdFinEquiv (m := 28) (n := 128) (k, l) : Fin 3584) = cl k l := Fin.ext (by show l.1 + 128 * k.1 = 128 * k.1 + l.1; omega)
  rw [ed]
  refine congrArg (fun v : EReal => v * (((W (ValueIdx.ix2 jj (cl k l))).toInt : ℝ) : EReal)) ?_
  have e1 : ck (cl k l) = k := Fin.ext (by show (128 * k.1 + l.1) / 128 = k.1; omega)
  have e2 : ln (cl k l) = l := Fin.ext (by show (128 * k.1 + l.1) % 128 = l.1; omega)
  show k0_pay130 (F := Ideal) (k0_pay129 (xk (F := Ideal) X k)) (ValueIdx.ix2 r l) = k0_pay130 (F := Ideal) (k0_pay129 (xk (F := Ideal) X (ck (cl k l)))) (ValueIdx.ix2 r (ln (cl k l)))
  rw [e1, e2]

variable (A : S2x128x3584.Idx → EReal)

/-- One entry of the first result. -/
theorem y_eq (W : S18944x3584.Idx → BitVec 8) (w : S18944.Idx → EReal) (t : Fin 37) (r : Fin 256) (j : Fin 512) (n : Fin 18944) (hn : n.1 = 512 * t.1 + j.1) :
    yV (F := Ideal) (xR (F := Ideal) A) (wB (F := Ideal) W t) (sB (F := Ideal) w t) (ValueIdx.ix2 r j) = val_main_v60 (F := Ideal) A W w (ValueIdx.ix3 (rb r) (rt r) n) := by
  unfold yV
  by_cases hc : ctlV (F := Ideal) (xR (F := Ideal) A) = 1#32
  · rw [if_pos hc]
    refine y_of A W w t r j n hn _ _ (pay663_eq (F := Ideal) _ _) ?_
    rw [acc_sum _ _ hc, v52_sum]
    refine Finset.sum_congr rfl fun d _ => congrArg (fun v : EReal => xoV (F := Ideal) (xR (F := Ideal) A) (ValueIdx.ix2 r d) * v) ?_
    exact congrArg (fun k : Fin 18944 => ((((W (ValueIdx.ix2 k d)).toInt : ℤ) : ℝ) : EReal)) (Fin.ext hn.symm)
  · rw [if_neg hc]
    exact y_of A W w t r j n hn _ _ (pay668_eq (F := Ideal) _ _) (a2_eq A W t r j n hn)

end Cert.KernelIdeal.Hand
-- ==== Proof.Fin.lean ====
module

public import proofs.«01_k».proof.Proof.FoldT
public import proofs.«01_k».proof.Proof.Gen.ReferenceIdeal.Run
public import Idealize.ShloMosaic.Lib.Quiescent

/-! The runs of the kernel and of the reference over the reals, with the reference's values. -/

@[expose] public section

set_option maxHeartbeats 1000000

noncomputable section
set_option maxRecDepth 20000

namespace Cert.KernelIdeal.Hand

open Cert.KernelIdeal Cert.KernelIdeal.Gen
open Idealize.ShloMosaic Idealize.ShloMosaic.TcCoe Idealize.SL.Sem
open Cert.ReferenceIdeal.Read

/-- The reference runs, and leaves its arguments and its semaphores. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2.2, sem_eq_zero_of_no_sems (by decide) r.2⟩) (Cert.ReferenceIdeal.Value.run m g)

variable (m : (ℓ : Loc nD τ sig) → Buf (Elt Ideal) ℓ) (g : Dev nD → PrngReg)

/-- The product's array. -/
def gY (A : S2x128x3584.Idx → EReal) (W : S18944x3584.Idx → BitVec 8) (w : S18944.Idx → EReal) : S256x18944.Idx → EReal :=
  fun y => val_main_v60 (F := Ideal) A W w (ValueIdx.ix3 (rb (y 0)) (rt (y 0)) (y 1))

theorem arr_eq (c : Dev nD) : (vdats planM m 0 c).arrAt 3 cfg0.N = gY (m ((c.tc : Thread nD τ).loc main_arg0)) (m ((c.tc : Thread nD τ).loc main_arg1)) (m ((c.tc : Thread nD τ).loc main_arg2)) := by
  refine out3 (F := Ideal) m c (gY (m ((c.tc : Thread nD τ).loc main_arg0)) (m ((c.tc : Thread nD τ).loc main_arg1)) (m ((c.tc : Thread nD τ).loc main_arg2))) fun t y => ?_
  obtain ⟨r, j, rfl⟩ : ∃ (r : Fin 256) (j : Fin 512), y = ValueIdx.ix2 r j := ⟨y 0, y 1, funext fun a => match a with
    | ⟨0, _⟩ => rfl
    | ⟨1, _⟩ => rfl⟩
  rw [X0_eq]
  exact y_eq _ _ _ t r j _ rfl

theorem y_out (A : S2x128x3584.Idx → EReal) (W : S18944x3584.Idx → BitVec 8) (w : S18944.Idx → EReal) :
    shapeCast S2x128x18944 (gY A W w) shapeCasts_S256x18944_S2x128x18944 = val_main_v60 (F := Ideal) A W w := by
  funext i
  obtain ⟨b, t, n, rfl⟩ : ∃ (b : Fin 2) (t : Fin 128) (n : Fin 18944), i = ValueIdx.ix3 b t n := ⟨i 0, i 1, i 2, funext fun a => match a with
    | ⟨0, _⟩ => rfl
    | ⟨1, _⟩ => rfl
    | ⟨2, _⟩ => rfl⟩
  refine (shapeCast_apply (gY A W w) shapeCasts_S256x18944_S2x128x18944 (ValueIdx.ix3 b t n) (ValueIdx.ix2 (rr b t) n) ?_).trans ?_
  · rw [Shape.rowMajor_val_two, Shape.rowMajor_val_three]
    show (128 * b.1 + t.1) * 18944 + n.1 = (b.1 * 128 + t.1) * 18944 + n.1
    omega
  · show val_main_v60 (F := Ideal) A W w (ValueIdx.ix3 (rb (rr b t)) (rt (rr b t)) n) = _
    rw [rb_rr, rt_rr]

/-- The kernel's run ends with the reference's results. -/
theorem kernel_values :
    θ_run (defs (F := Ideal)) (onTc (τ := τ) (main (F := Ideal))) ⟨m, fun _ => 0, g⟩ fun r => ∀ c : Dev nD,
      r.2.mem ((c.tc : Thread nD τ).loc main_v3) = val_main_v60 (F := Ideal) (m ((c.tc : Thread nD τ).loc main_arg0)) (m ((c.tc : Thread nD τ).loc main_arg1)) (m ((c.tc : Thread nD τ).loc main_arg2))
      ∧ r.2.mem ((c.tc : Thread nD τ).loc main_v4) = val_main_v5 (F := Ideal) (m ((c.tc : Thread nD τ).loc main_arg0))
      ∧ r.2.mem ((c.tc : Thread nD τ).loc main_v5) = val_main_v37_0 (F := Ideal) (m ((c.tc : Thread nD τ).loc main_arg0))
      ∧ r.2.mem ((c.tc : Thread nD τ).loc main_v2_3) = val_main_v37_1 (F := Ideal) (m ((c.tc : Thread nD τ).loc main_arg0))
      ∧ r.2.mem ((c.tc : Thread nD τ).loc main_v2_4) = val_main_v37_2 (F := Ideal) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (kernel_run (F := Ideal) m g)
  obtain ⟨h0, h1, h2, h3, h4, h5⟩ := h c
  rw [X0_eq] at h1 h2 h3 h4
  rw [arr_eq] at h0
  exact ⟨h0.trans (y_out _ _ _), h1.trans (mask_out _), h2.trans (codes_out _), h3.trans (scales_out _), h4.trans (zero_out _), h5⟩

end Cert.KernelIdeal.Hand
-- ==== Proof.Bit.Chk.lean ====
/-
  The side conditions the body assumes of the words it computes: the slot the prologue stores into lies inside the
  table of slots whenever the store is reached, because the running count is a sum of bits and is tested against eight.
-/
module

public import proofs.«01_k».proof.Proof.Gen.Kernel.Frame

@[expose] public section

noncomputable section

namespace Cert.Kernel.Hand

open Idealize.ShloMosaic Idealize.ShloMosaic.TcCoe Idealize.ShloMosaic.Tactic
open Cert.Kernel Cert.Kernel.Gen

/-- A word at most `k`. -/
def Small (k : Nat) (n : BitVec 32) : Prop := n.toNat ≤ k

theorem small_zero (k : Nat) : Small k 0#32 := by unfold Small; simp

/-- Adding one bit raises the bound by one. -/
theorem small_step {k : Nat} (hk : k < 64) {n x : BitVec 32} (h : Small k n) :
    Small (k + 1) (Scalar.addi n (Scalar.andi x 1#32)) := by
  unfold Small at *
  show (n + (x &&& 1#32)).toNat ≤ k + 1
  have h1 : (x &&& 1#32).toNat ≤ 1 := by
    rw [BitVec.toNat_and]; exact Nat.and_le_right
  rw [BitVec.toNat_add]
  exact (Nat.mod_le _ _).trans (by omega)

/-- The condition under which the prologue stores: the chunk is active and the slot is below eight. -/
abbrev slotCond (a n : BitVec 32) : BitVec 1 :=
  Scalar.cmpi .ne (Scalar.extui (Scalar.andi (Scalar.cmpi .eq a 1#32) (Scalar.cmpi .slt n 8#32)) : BitVec 32) 0#32

theorem slot_lt {a n : BitVec 32} (h : slotCond a n = 1#1) (hn : Small 64 n) : n.toNat < 8 := by
  unfold Small at hn
  by_contra hlt
  have h8 : Scalar.cmpi .slt n 8#32 = 0#1 := by
    simp only [Scalar.cmpi, IntOp.cmpi]
    have : n.slt 8#32 = false := by
      rw [BitVec.slt_eq_decide]
      have : n.toInt = n.toNat := BitVec.toInt_eq_toNat_of_lt (by omega)
      rw [this]
      simp; omega
    simp [this]
  unfold slotCond at h
  rw [h8] at h
  revert h
  generalize Scalar.cmpi .eq a 1#32 = b
  revert b; decide

theorem off_one {a n : BitVec 32} (h : slotCond a n = 1#1) (hn : Small 64 n) :
    ∀ ax, (![(Scalar.indexCast n : Index).toNat] : Fin 1 → Nat) ax + S1.size ax ≤ S8.size ax := by
  have := slot_lt h hn
  intro ax; fin_cases ax
  show n.toNat + 1 ≤ 8; omega

theorem off_plane0 {a n : BitVec 32} (h : slotCond a n = 1#1) (hn : Small 64 n) :
    ∀ ax, (![0, (Scalar.indexCast n : Index).toNat, 0] : Fin 3 → Nat) ax + S1x1x128.size ax ≤ S2x8x128.size ax := by
  have := slot_lt h hn
  intro ax; fin_cases ax
  · show 0 + 1 ≤ 2; omega
  · show n.toNat + 1 ≤ 8; omega
  · show 0 + 128 ≤ 128; omega

theorem off_plane1 {a n : BitVec 32} (h : slotCond a n = 1#1) (hn : Small 64 n) :
    ∀ ax, (![1, (Scalar.indexCast n : Index).toNat, 0] : Fin 3 → Nat) ax + S1x1x128.size ax ≤ S2x8x128.size ax := by
  have := slot_lt h hn
  intro ax; fin_cases ax
  · show 1 + 1 ≤ 2; omega
  · show n.toNat + 1 ≤ 8; omega
  · show 0 + 128 ≤ 128; omega

set_option maxRecDepth 65536 in
theorem chk1 (i : grid0.Coords) (v1940 v1947 v1954 v1961 v1968 v1975 v1982 v1989 v1996 v2003 v2010 v2017 v2024 v2031 : BitVec 32) :
    k0_chk1 i v1940 v1947 v1954 v1961 v1968 v1975 v1982 v1989 v1996 v2003 v2010 v2017 v2024 v2031 := by
  unfold k0_chk1 k0_chk1_0 k0_chk1_1
  refine ⟨?_, ?_⟩ <;> (repeat' apply And.intro) <;> intro _ h <;>
    first
    | (refine off_one h ?_; repeat (first | exact small_zero _ | refine small_step (by decide) ?_))
    | (refine off_plane0 h ?_; repeat (first | exact small_zero _ | refine small_step (by decide) ?_))
    | (refine off_plane1 h ?_; repeat (first | exact small_zero _ | refine small_step (by decide) ?_))

set_option maxRecDepth 65536 in
theorem chk2 (i : grid0.Coords) (v1940 v1947 v1954 v1961 v1968 v1975 v1982 v1989 v1996 v2003 v2010 v2017 v2024 v2031 v2038 v2045 v2052 v2059 v2066 v2073 v2080 v2087 v2094 v2101 v2108 v2115 v2122 v2129 : BitVec 32) :
    k0_chk2 i v1940 v1947 v1954 v1961 v1968 v1975 v1982 v1989 v1996 v2003 v2010 v2017 v2024 v2031 v2038 v2045 v2052 v2059 v2066 v2073 v2080 v2087 v2094 v2101 v2108 v2115 v2122 v2129 := by
  unfold k0_chk2 k0_chk2_0 k0_chk2_1
  refine ⟨?_, ?_⟩ <;> (repeat' apply And.intro) <;> intro _ h <;>
    first
    | (refine off_one h ?_; repeat (first | exact small_zero _ | refine small_step (by decide) ?_))
    | (refine off_plane0 h ?_; repeat (first | exact small_zero _ | refine small_step (by decide) ?_))
    | (refine off_plane1 h ?_; repeat (first | exact small_zero _ | refine small_step (by decide) ?_))

/-- A chunk number at most 27 addresses 128 lanes inside the row, at a multiple of 128. -/
theorem chunk_ok {w : BitVec 32} (hw : Small 27 w) :
    128 ∣ (Scalar.muli w 128#32).toNat ∧
      ∀ a, (![0, (Scalar.indexCast (Scalar.muli w 128#32) : Index).toNat] : Fin 2 → Nat) a + S512x128.size a ≤ S512x3584.size a := by
  unfold Small at hw
  have h : (Scalar.muli w 128#32).toNat = w.toNat * 128 := by
    show (w * 128#32).toNat = _
    rw [BitVec.toNat_mul]
    exact Nat.mod_eq_of_lt (by simp; omega)
  refine ⟨by rw [h]; exact Dvd.intro_left _ rfl, ?_⟩
  intro a; fin_cases a
  · show 0 + 512 ≤ 512; omega
  · show (Scalar.muli w 128#32).toNat + 128 ≤ 3584; rw [h]; omega

theorem chk3 {v3 w : BitVec 32} (hw : Small 27 w) : k0_chk3 v3 w := ⟨fun _ => (chunk_ok hw).1, fun _ => (chunk_ok hw).2⟩

end Cert.Kernel.Hand

end
-- ==== Proof.Bit.Steps.lean ====
module

public import proofs.«01_k».proof.Proof.Bit.Chk
public import proofs.«01_k».proof.Proof.Gen.Kernel.Skeleton

/-! The 28 guarded updates of the prologue, one per chunk of 128 lanes, as one program and one step on
what the three small buffers hold. -/

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev Bf (F : FTy → Type) [FloatOps F] (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The update of one chunk: its number into the slot, its two plane masks into the slot's rows, and its
    selected columns of outliers into the two folded planes. -/
noncomputable def chunkStep (arg10 : Memref sig .tc .vmem S256x3584 .bf16)
    (arg11 : Memref sig .tc .vmem S256x256 .bf16) (harg11 : arg11.IsWhole)
    (arg13 : Memref sig .tc .vmem S2x8x128 .i32) (arg14 : Memref sig .tc .smem S8 .i32)
    (o1 : Fin 1 → ℕ) (o2 o3 : Fin 3 → ℕ) (oc : Fin 2 → ℕ)
    (ic : ∀ a, oc a + S256x128.size a ≤ S256x3584.size a) (w : BitVec 32) (m0 m1 : IVec S1x128 32)
    (i1 : ∀ a, o1 a + S1.size a ≤ S8.size a)
    (i2 : ∀ a, o2 a + S1x1x128.size a ≤ S2x8x128.size a)
    (i3 : ∀ a, o3 a + S1x1x128.size a ≤ S2x8x128.size a) :
    Prog (TpuEff nD τ sig (Elt F) Λ₀ .tc) PUnit := do
  let _ : Elt F .i32 ← smemLoad arg14 (Rect.unit (s := S8) o1 S1.size i1) numel1_S1 rfl
  Prog.lift (.store arg14 (Rect.unit (s := S8) o1 S1.size i1) (fun _ => w) Finset.univ (View.stores_smem_one rfl numel1_S1) (.inl rfl))
  let _ : Vec F S1x1x128 .i32 ← Prog.lift (.load arg13 (Rect.unit (s := S2x8x128) o2 S1x1x128.size i2).toLoadRect (View.loadsAt_vmem h_S1x1x128))
  Prog.lift (.store arg13 (Rect.unit (s := S2x8x128) o2 S1x1x128.size i2) (k0_pay9 m0) Finset.univ (View.stores_vmem_bits_univ h_S1x1x128 rfl) (.inl rfl))
  let x0 : Vec F S256x128 .bf16 ← Prog.lift (.load arg10 (Rect.unit (s := S256x3584) oc S256x128.size ic).toLoadRect (View.loadsAt_vmem h_S256x128))
  let f0 : Vec F S256x128 .bf16 ← Prog.lift (.load arg11 (Rect.unit (s := S256x256) ![0, 0] S256x128.size inb_S256x256_S256x128_0_0).toLoadRect (View.loadsAt_vmem h_S256x128))
  let _ : Vec F S256x128 .bf16 ← Prog.lift (.load arg11 (Rect.unit (s := S256x256) ![0, 0] S256x128.size inb_S256x256_S256x128_0_0).toLoadRect (View.loadsAt_vmem h_S256x128))
  Prog.lift (.store arg11 (Rect.unit (s := S256x256) ![0, 0] S256x128.size inb_S256x256_S256x128_0_0) (k0_pay10 m0 x0 f0) Finset.univ (View.stores_vmem h_S256x128 (harg11.storeExact_slice rfl _ packedbf16_S256x256_S256x128_0_0) (fun _ => rfl)) (.inl rfl))
  let _ : Vec F S1x1x128 .i32 ← Prog.lift (.load arg13 (Rect.unit (s := S2x8x128) o3 S1x1x128.size i3).toLoadRect (View.loadsAt_vmem h_S1x1x128))
  Prog.lift (.store arg13 (Rect.unit (s := S2x8x128) o3 S1x1x128.size i3) (k0_pay9 m1) Finset.univ (View.stores_vmem_bits_univ h_S1x1x128 rfl) (.inl rfl))
  let x1 : Vec F S256x128 .bf16 ← Prog.lift (.load arg10 (Rect.unit (s := S256x3584) oc S256x128.size ic).toLoadRect (View.loadsAt_vmem h_S256x128))
  let f1 : Vec F S256x128 .bf16 ← Prog.lift (.load arg11 (Rect.unit (s := S256x256) ![0, 128] S256x128.size inb_S256x256_S256x128_0_128).toLoadRect (View.loadsAt_vmem h_S256x128))
  let _ : Vec F S256x128 .bf16 ← Prog.lift (.load arg11 (Rect.unit (s := S256x256) ![0, 128] S256x128.size inb_S256x256_S256x128_0_128).toLoadRect (View.loadsAt_vmem h_S256x128))
  Prog.lift (.store arg11 (Rect.unit (s := S256x256) ![0, 128] S256x128.size inb_S256x256_S256x128_0_128) (k0_pay10 m1 x1 f1) Finset.univ (View.stores_vmem h_S256x128 (harg11.storeExact_slice rfl _ packedbf16_S256x256_S256x128_0_128) (fun _ => rfl)) (.inl rfl))
  pure ⟨⟩

/-- What the folded planes, the lane masks and the slots hold. -/
abbrev St (F : FTy → Type) [FloatOps F] (c : Dev nD) (M11 : Memref sig .tc .vmem S256x256 .bf16)
    (M13 : Memref sig .tc .vmem S2x8x128 .i32) (M14 : Memref sig .tc .smem S8 .i32) : Type :=
  Bf F c M11 × Bf F c M13 × Bf F c M14

variable (c : Dev nD) (M10 : Memref sig .tc .vmem S256x3584 .bf16) (h10 : M10.IsWhole)
    (M11 : Memref sig .tc .vmem S256x256 .bf16) (h11 : M11.IsWhole)
    (M13 : Memref sig .tc .vmem S2x8x128 .i32) (h13 : M13.IsWhole) (M14 : Memref sig .tc .smem S8 .i32) (h14 : M14.IsWhole)

/-- The update of one chunk, run: what it leaves. -/
noncomputable def chunkRun (o1 : Fin 1 → ℕ) (o2 o3 : Fin 3 → ℕ) (oc : Fin 2 → ℕ)
    (ic : ∀ a, oc a + S256x128.size a ≤ S256x3584.size a) (w : BitVec 32) (m0 m1 : IVec S1x128 32)
    (i1 : ∀ a, o1 a + S1.size a ≤ S8.size a)
    (i2 : ∀ a, o2 a + S1x1x128.size a ≤ S2x8x128.size a)
    (i3 : ∀ a, o3 a + S1x1x128.size a ≤ S2x8x128.size a)
    (f10 : Bf F c M10) (f11 : Bf F c M11) (f13 : Bf F c M13) (f14 : Bf F c M14) :
    { W : St F c M11 M13 M14 //
      ∀ (E : Set ℕ) (Q : PUnit → sProp 𝕄),
        iprop(pt c M10 f10 ∗ pt c M11 f11 ∗ pt c M13 f13 ∗ pt c M14 f14
          ∗ (iprop(pt c M10 f10 ∗ pt c M11 W.1 ∗ pt c M13 W.2.1 ∗ pt c M14 W.2.2) -∗ Q ⟨⟩))
        ⊢ wp frame (wpE (defs₀ (F := F)) Variants.none c none) E
            (chunkStep M10 M11 h11 M13 M14 o1 o2 o3 oc ic w m0 m1 i1 i2 i3) Q } := by
  refine ⟨⟨?_, ?_, ?_⟩, fun E Q => ?run⟩
  case run =>
    unfold chunkStep
    iintro ⟨H10, H11, H13, H14, Hk⟩
    sl_exec
    sl_step
    iapply Hk
    isplitl [H10]
    · iexact H10
    isplitl [H11]
    · iexact H11
    isplitl [H13]
    · iexact H13
    iexact H14

/-- The folded planes, the lane masks and the slots, with the outliers they are filled from, held whole. -/
def stRes (f10 : Bf F c M10) (S : St F c M11 M13 M14) : sProp 𝕄 :=
  iprop(pt c M10 f10 ∗ pt c M11 S.1 ∗ pt c M13 S.2.1 ∗ pt c M14 S.2.2)

/-- The update of one chunk under its guard. -/
noncomputable def gstep (C : Prop) [Decidable C] (o1 : Fin 1 → ℕ) (o2 o3 : Fin 3 → ℕ) (oc : Fin 2 → ℕ)
    (ic : ∀ a, oc a + S256x128.size a ≤ S256x3584.size a) (w : BitVec 32) (m0 m1 : IVec S1x128 32)
    (i1 : C → ∀ a, o1 a + S1.size a ≤ S8.size a)
    (i2 : C → ∀ a, o2 a + S1x1x128.size a ≤ S2x8x128.size a)
    (i3 : C → ∀ a, o3 a + S1x1x128.size a ≤ S2x8x128.size a)
    (f10 : Bf F c M10) (S : St F c M11 M13 M14) : St F c M11 M13 M14 :=
  if h : C then (chunkRun c M10 M11 h11 M13 M14 o1 o2 o3 oc ic w m0 m1 (i1 h) (i2 h) (i3 h) f10 S.1 S.2.1 S.2.2).1 else S

variable {c M10 M11 h11 M13 M14}

theorem guard_rule {α : Type} {C : Prop} [Decidable C] {o1 : Fin 1 → ℕ} {o2 o3 : Fin 3 → ℕ} {oc : Fin 2 → ℕ}
    {ic : ∀ a, oc a + S256x128.size a ≤ S256x3584.size a} {w : BitVec 32} {m0 m1 : IVec S1x128 32}
    {i1 : C → ∀ a, o1 a + S1.size a ≤ S8.size a}
    {i2 : C → ∀ a, o2 a + S1x1x128.size a ≤ S2x8x128.size a}
    {i3 : C → ∀ a, o3 a + S1x1x128.size a ≤ S2x8x128.size a}
    {f10 : Bf F c M10} {S : St F c M11 M13 M14} {E : Set ℕ} {Q : α → sProp 𝕄}
    (p : C → Prog (TpuEff nD τ sig (Elt F) Λ₀ .tc) PUnit) (k : Prog (TpuEff nD τ sig (Elt F) Λ₀ .tc) α)
    (hp : ∀ h, p h = chunkStep M10 M11 h11 M13 M14 o1 o2 o3 oc ic w m0 m1 (i1 h) (i2 h) (i3 h)) :
    stRes c M10 M11 M13 M14 f10 S ⊢
      iprop((stRes c M10 M11 M13 M14 f10 (gstep c M10 M11 h11 M13 M14 C o1 o2 o3 oc ic w m0 m1 i1 i2 i3 f10 S)
          -∗ wp frame (wpE (defs₀ (F := F)) Variants.none c none) E k Q)
        -∗ wp frame (wpE (defs₀ (F := F)) Variants.none c none) E
            (dite C (fun h => p h >>= fun _ => k) (fun _ => k)) Q) := by
  by_cases h : C
  · rw [dif_pos h, hp h, wp_bind]
    unfold gstep
    rw [dif_pos h]
    unfold stRes
    iintro ⟨H10, H11, H13, H14⟩ Hk
    iapply (chunkRun c M10 M11 h11 M13 M14 o1 o2 o3 oc ic w m0 m1 (i1 h) (i2 h) (i3 h) f10 S.1 S.2.1 S.2.2).2
    isplitl [H10]
    · iexact H10
    isplitl [H11]
    · iexact H11
    isplitl [H13]
    · iexact H13
    isplitl [H14]
    · iexact H14
    iexact Hk
  · rw [dif_neg h]
    unfold gstep
    rw [dif_neg h]
    iintro HS Hk
    iapply Hk
    iexact HS

theorem guard_rule0 {α : Type} {C : Prop} [Decidable C] {o1 : Fin 1 → ℕ} {o2 o3 : Fin 3 → ℕ} {oc : Fin 2 → ℕ}
    {ic : ∀ a, oc a + S256x128.size a ≤ S256x3584.size a} {w : BitVec 32} {m0 m1 : IVec S1x128 32}
    {i1 : C → ∀ a, o1 a + S1.size a ≤ S8.size a}
    {i2 : C → ∀ a, o2 a + S1x1x128.size a ≤ S2x8x128.size a}
    {i3 : C → ∀ a, o3 a + S1x1x128.size a ≤ S2x8x128.size a}
    {f10 : Bf F c M10} {f11 : Bf F c M11} {f13 : Bf F c M13} {f14 : Bf F c M14} {E : Set ℕ} {Q : α → sProp 𝕄}
    (p : Prog (TpuEff nD τ sig (Elt F) Λ₀ .tc) PUnit) (k : Prog (TpuEff nD τ sig (Elt F) Λ₀ .tc) α)
    (hp : ∀ h, p = chunkStep M10 M11 h11 M13 M14 o1 o2 o3 oc ic w m0 m1 (i1 h) (i2 h) (i3 h)) :
    iprop(pt c M10 f10 ∗ pt c M11 f11 ∗ pt c M13 f13 ∗ pt c M14 f14) ⊢
      iprop((stRes c M10 M11 M13 M14 f10 (gstep c M10 M11 h11 M13 M14 C o1 o2 o3 oc ic w m0 m1 i1 i2 i3 f10 (f11, f13, f14))
          -∗ wp frame (wpE (defs₀ (F := F)) Variants.none c none) E k Q)
        -∗ wp frame (wpE (defs₀ (F := F)) Variants.none c none) E
            (ite C (p >>= fun _ => k) k) Q) :=
  guard_rule (S := (f11, f13, f14)) (fun _ => p) k hp

end Cert.Kernel.Hand

end
-- ==== Proof.Bit.Pro.lean ====
module

public import proofs.«01_k».proof.Proof.Bit.Steps

@[expose] public section

set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

/-- The prologue, which the first point runs before its tile. -/
noncomputable def proK (k0_h1 : k0_cond1 i = 1#1) (k : Prog (TpuEff nD τ sig (Elt F) Λ₀ .tc) PUnit) :
    Prog (TpuEff nD τ sig (Elt F) Λ₀ .tc) PUnit := do
  let ⟨v1163, v1169, v1171, v1940, v1947, v1954, v1961, v1968, v1975, v1982, v1989, v1996, v2003, v2010, v2017, v2024, v2031, v2038, v2045, v2052, v2059, v2066, v2073, v2080, v2087, v2094, v2101, v2108, v2115, v2122, v2129, k0_hw2, v2130, v2366, c13_i32_984⟩ : Σ' (v1163 : IVec S1x128 32) (v1169 : IVec S1x128 32) (v1171 : IVec S1x128 32) (v1940 : BitVec 32) (v1947 : BitVec 32) (v1954 : BitVec 32) (v1961 : BitVec 32) (v1968 : BitVec 32) (v1975 : BitVec 32) (v1982 : BitVec 32) (v1989 : BitVec 32) (v1996 : BitVec 32) (v2003 : BitVec 32) (v2010 : BitVec 32) (v2017 : BitVec 32) (v2024 : BitVec 32) (v2031 : BitVec 32) (v2038 : BitVec 32) (v2045 : BitVec 32) (v2052 : BitVec 32) (v2059 : BitVec 32) (v2066 : BitVec 32) (v2073 : BitVec 32) (v2080 : BitVec 32) (v2087 : BitVec 32) (v2094 : BitVec 32) (v2101 : BitVec 32) (v2108 : BitVec 32) (v2115 : BitVec 32) (v2122 : BitVec 32) (v2129 : BitVec 32) (k0_hw2 : k0_chk2 i v1940 v1947 v1954 v1961 v1968 v1975 v1982 v1989 v1996 v2003 v2010 v2017 v2024 v2031 v2038 v2045 v2052 v2059 v2066 v2073 v2080 v2087 v2094 v2101 v2108 v2115 v2122 v2129) (v2130 : BitVec 32) (v2366 : BitVec 32), BitVec 32 ← k0_part88 i M1 h1 M2 h2 M3 h3 M4 h4 M5 h5 M6 h6 M7 h7 M8 h8 M9 h9 M10 h10 M11 h11 M12 h12 M13 h13 M14 h14 M15 h15 k0_h1
  let v2367 : BitVec 32 := Scalar.shrsi v2130 c13_i32_984
  let c1_i32_985 : BitVec 32 := 1#32
  let v2368 : BitVec 32 := Scalar.andi v2367 c1_i32_985
  let c1_i32_986 : BitVec 32 := 1#32
  let v2369 : BitVec 1 := Scalar.cmpi .eq v2368 c1_i32_986
  let c8_i32_987 : BitVec 32 := 8#32
  let v2370 : BitVec 1 := Scalar.cmpi .slt v2366 c8_i32_987
  let v2371 : BitVec 1 := Scalar.andi v2369 v2370
  let v2372 : BitVec 32 := Scalar.extui v2371
  let c0_i32_988 : BitVec 32 := 0#32
  let v2373 : BitVec 1 := Scalar.cmpi .ne v2372 c0_i32_988
  if k0_h29 : k0_cond29 v1940 v1947 v1954 v1961 v1968 v1975 v1982 v1989 v1996 v2003 v2010 v2017 v2024 v2031 v2038 v2045 v2052 v2059 v2066 v2073 v2080 v2087 v2094 v2101 v2108 v2115 v2122 v2129 = 1#1 then do
    k0_part28 i M1 h1 M2 h2 M3 h3 M4 h4 M5 h5 M6 h6 M7 h7 M8 h8 M9 h9 M10 h10 M11 h11 M12 h12 M13 h13 M14 h14 M15 h15 k0_h1 v1163 v1169 v1940 v1947 v1954 v1961 v1968 v1975 v1982 v1989 v1996 v2003 v2010 v2017 v2024 v2031 v2038 v2045 v2052 v2059 v2066 v2073 v2080 v2087 v2094 v2101 v2108 v2115 v2122 v2129 k0_hw2 v2366 k0_h29
    pure ⟨⟩
  else do
    pure ⟨⟩
  let v2374 : BitVec 32 := Scalar.addi v2366 v2368
  let c8_i32_989 : BitVec 32 := 8#32
  let v2375 : BitVec 1 := Scalar.cmpi .sle v2374 c8_i32_989
  have v2376 : FVec F S1x128 .f32 := sitofp .f32 v1171
  have v2377 : FVec F S1x1x128 .f32 := shapeCast S1x1x128 v2376 shapeCasts_S1x128_S1x1x128
  have cst_990 : FVec F S1 .f32 := constant S1 .f32 0xFF800000#32
  have v2378 : FVec F S1 .f32 := multiReduction .maximumf [1, 2] S1 v2377 0xFF800000#32 reduces_S1x1x128_S1 (.inl rfl) rfl
  have v2379 : FVec F S1x1x1 .f32 := shapeCast S1x1x1 v2378 shapeCasts_S1_S1x1x1
  have v2380 : F .f32 := extractAt ![0, 0, 0] v2379 inpos_S1x1x1_p0_0_0
  have cst_991 : F .f32 := Scalar.ofBits .f32 0x40000000#32
  let v2381 : BitVec 1 := Scalar.cmpf .ole v2380 cst_991
  let v2382 : BitVec 1 := Scalar.andi v2375 v2381
  let v2383 : BitVec 32 := Scalar.extui v2382
  let c0_992 : Index := 0#32
  let v2384 : Elt F .i32 ← smemLoad M15 (Rect.unit (s := S1) ![0] S1.size inb_S1_S1_0) numel1_S1 rfl
  Prog.lift (.store M15 (Rect.unit (s := S1) ![0] S1.size inb_S1_S1_0) (fun _ => v2383) Finset.univ (View.stores_smem_one rfl numel1_S1) (.inl rfl))
  k

/-- What the prologue leaves: mask, codes, scales, zero points, normal codes, outliers, broadcast scales, the
    control word, and the three buffers of the folded path. -/
structure After (F : FTy → Type) [FloatOps F] (c : Dev nD)
    (M5 : Memref sig .tc .vmem S1x3584 .i32) (M6 : Memref sig .tc .vmem S256x3584 .i8) (M7 : Memref sig .tc .vmem S2x128 .f32) (M8 : Memref sig .tc .vmem S2x128 .i32) (M9 : Memref sig .tc .vmem S256x3584 .bf16) (M10 : Memref sig .tc .vmem S256x3584 .bf16) (M11 : Memref sig .tc .vmem S256x256 .bf16) (M12 : Memref sig .tc .vmem S256x128 .f32) (M13 : Memref sig .tc .vmem S2x8x128 .i32) (M14 : Memref sig .tc .smem S8 .i32) (M15 : Memref sig .tc .smem S1 .i32) where
  mask : Bf F c M5
  codes : Bf F c M6
  scales : Bf F c M7
  zero : Bf F c M8
  q : Bf F c M9
  xo : Bf F c M10
  sb : Bf F c M12
  ctl : Bf F c M15
  st : St F c M11 M13 M14

/-- The prologue, run: what it leaves in every buffer. -/
noncomputable def proRun (k0_h1 : k0_cond1 i = 1#1)
    (f1 : Bf F c M1) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) :
    { W : After F c M5 M6 M7 M8 M9 M10 M11 M12 M13 M14 M15 //
      ∀ (E : Set ℕ) (Q : PUnit → sProp 𝕄) (k : Prog (TpuEff nD τ sig (Elt F) Λ₀ .tc) PUnit),
        iprop(pt c M1 f1 ∗ pt c M5 f5 ∗ pt c M6 f6 ∗ pt c M7 f7 ∗ pt c M8 f8 ∗ pt c M9 f9 ∗ pt c M10 f10 ∗ pt c M11 f11
          ∗ pt c M12 f12 ∗ pt c M13 f13 ∗ pt c M14 f14 ∗ pt c M15 f15
          ∗ (iprop(pt c M1 f1 ∗ pt c M5 W.mask ∗ pt c M6 W.codes ∗ pt c M7 W.scales ∗ pt c M8 W.zero
            ∗ pt c M9 W.q ∗ pt c M12 W.sb ∗ pt c M15 W.ctl
            ∗ stRes c M10 M11 M13 M14 W.xo W.st) -∗ wp frame (wpE (defs₀ (F := F)) Variants.none c none) E k Q))
        ⊢ wp frame (wpE (defs₀ (F := F)) Variants.none c none) E
            (proK i M1 h1 M2 h2 M3 h3 M4 h4 M5 h5 M6 h6 M7 h7 M8 h8 M9 h9 M10 h10 M11 h11 M12 h12 M13 h13 M14 h14 M15 h15 k0_h1 k) Q } := by
  refine ⟨⟨?_, ?_, ?_, ?_, ?_, ?_, ?_, ?_, ?_⟩, fun E Q k => ?run⟩
  case run =>
    iintro ⟨H1, H5, H6, H7, H8, H9, H10, H11, H12, H13, H14, H15, Hk⟩
    unfold proK
    rw [wp_bind, k0_part88_eq_skeleton]
    unfold k0_part88_skel
    set_option sl_exec.stopBefore "k0_part81" in
    sl_exec_parts! (disch := first | with_reducible exact chk1 .. | with_reducible exact chk2 ..)
    rw [wp_bind, k0_part81_eq_skeleton]
    unfold k0_part81_skel
    set_option sl_exec.stopBefore "k0_part1" in
    sl_exec
    iapply (guard_rule0 (h11 := h11) _ _ ?_) $$ [H10 H11 H13 H14]
    exact fun _ => rfl
    isplitl [H10]
    iexact H10
    isplitl [H11]
    iexact H11
    isplitl [H13]
    iexact H13
    iexact H14
    iintro HS
    try dsimp only
    sl_step
    try dsimp only
    rw [wp_bind, k0_part82_eq_skeleton]
    unfold k0_part82_skel
    iterate 4
      iapply (guard_rule (h11 := h11) _ _ ?_) $$ [HS]
      exact fun _ => rfl
      iexact HS
      iintro HS
    try dsimp only
    sl_step
    try dsimp only
    rw [wp_bind, k0_part83_eq_skeleton]
    unfold k0_part83_skel
    iterate 4
      iapply (guard_rule (h11 := h11) _ _ ?_) $$ [HS]
      exact fun _ => rfl
      iexact HS
      iintro HS
    try dsimp only
    sl_step
    try dsimp only
    rw [wp_bind, k0_part84_eq_skeleton]
    unfold k0_part84_skel
    iterate 5
      iapply (guard_rule (h11 := h11) _ _ ?_) $$ [HS]
      exact fun _ => rfl
      iexact HS
      iintro HS
    try dsimp only
    sl_step
    try dsimp only
    rw [wp_bind, k0_part85_eq_skeleton]
    unfold k0_part85_skel
    iterate 4
      iapply (guard_rule (h11 := h11) _ _ ?_) $$ [HS]
      exact fun _ => rfl
      iexact HS
      iintro HS
    try dsimp only
    sl_step
    try dsimp only
    rw [wp_bind, k0_part86_eq_skeleton]
    unfold k0_part86_skel
    iterate 4
      iapply (guard_rule (h11 := h11) _ _ ?_) $$ [HS]
      exact fun _ => rfl
      iexact HS
      iintro HS
    try dsimp only
    sl_step
    try dsimp only
    rw [wp_bind, k0_part87_eq_skeleton]
    unfold k0_part87_skel
    iterate 5
      iapply (guard_rule (h11 := h11) _ _ ?_) $$ [HS]
      exact fun _ => rfl
      iexact HS
      iintro HS
    try dsimp only
    sl_step
    try dsimp only
    try dsimp only
    sl_step
    try dsimp only
    iapply (guard_rule (h11 := h11) _ _ ?_) $$ [HS]
    exact fun _ => rfl
    iexact HS
    iintro HS
    try dsimp only
    sl_exec
    iapply Hk
    isplitl [H1]
    · iexact H1
    isplitl [H5]
    · iexact H5
    isplitl [H6]
    · iexact H6
    isplitl [H7]
    · iexact H7
    isplitl [H8]
    · iexact H8
    isplitl [H9]
    · iexact H9
    isplitl [H12]
    · iexact H12
    isplitl [H15]
    · iexact H15
    iexact HS

end Cert.Kernel.Hand

end
-- ==== Proof.Bit.Tail.lean ====
module

public import proofs.«01_k».proof.Proof.Bit.Steps

@[expose] public section

set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

/-- Every word of the slots is a chunk number. -/
def SlotsOk (f14 : Bf F c M14) : Prop :=
  ∀ (r : Rect S8) (x), Small 27 (View.readAt (Elt F) M14.view r.toLoadRect f14 x)

/-- The folded path of one point: the four lane blocks of the output from the folded planes. -/
noncomputable def foldK (v3 : BitVec 32) (k0_h30 : k0_cond30 v3 = 1#1) (k : Prog (TpuEff nD τ sig (Elt F) Λ₀ .tc) PUnit) :
    Prog (TpuEff nD τ sig (Elt F) Λ₀ .tc) PUnit := do
  let ⟨v44, v45, k0_hw6, c128_i32_21⟩ : Σ' (v44 : IVec S128x128 32) (v45 : Elt F .i32) (k0_hw6 : k0_chk6 v3 v45), BitVec 32 ← k0_part89 i M1 h1 M2 h2 M3 h3 M4 h4 M5 h5 M6 h6 M7 h7 M8 h8 M9 h9 M10 h10 M11 h11 M12 h12 M13 h13 M14 h14 M15 h15 v3 k0_h30
  let ⟨v77, v83⟩ : Σ' (v77 : IVec S128x128 32), IVec S128x128 32 ← k0_part90 i M1 h1 M2 h2 M3 h3 M4 h4 M5 h5 M6 h6 M7 h7 M8 h8 M9 h9 M10 h10 M11 h11 M12 h12 M13 h13 M14 h14 M15 h15 v3 k0_h30 v44 v45 k0_hw6 c128_i32_21
  let ⟨v100, v112, v118⟩ : Σ' (v100 : IVec S512x128 8) (v112 : IVec S128x128 32), IVec S128x128 32 ← k0_part91 i M1 h1 M2 h2 M3 h3 M4 h4 M5 h5 M6 h6 M7 h7 M8 h8 M9 h9 M10 h10 M11 h11 M12 h12 M13 h13 M14 h14 M15 h15 v3 k0_h30 v77 v83
  let v156 : IVec S128x128 32 ← k0_part92 i M1 h1 M2 h2 M3 h3 M4 h4 M5 h5 M6 h6 M7 h7 M8 h8 M9 h9 M10 h10 M11 h11 M12 h12 M13 h13 M14 h14 M15 h15 v3 k0_h30 v112 v118
  let ⟨v192, v193⟩ : Σ' (v192 : FVec F S512x256 .bf16), Vec F S256x3584 .bf16 ← k0_part93 i M1 h1 M2 h2 M3 h3 M4 h4 M5 h5 M6 h6 M7 h7 M8 h8 M9 h9 M10 h10 M11 h11 M12 h12 M13 h13 M14 h14 M15 h15 v3 k0_h30 v100 v156
  let ⟨v196, v198, v230⟩ : Σ' (v196 : FVec F S256x512 .f32) (v198 : FVec F S256x512 .f32), FVec F S256x128 .bf16 ← k0_part94 i M1 h1 M2 h2 M3 h3 M4 h4 M5 h5 M6 h6 M7 h7 M8 h8 M9 h9 M10 h10 M11 h11 M12 h12 M13 h13 M14 h14 M15 h15 v192 v193
  let c0_116 : Index := 0#32
  let c256_117 : Index := 256#32
  let v231 : Vec F S256x128 .bf16 ← Prog.lift (.load M4 (Rect.unit (s := S256x512) ![0, 256] S256x128.size inb_S256x512_S256x128_0_256).toLoadRect (View.loadsAt_vmem h_S256x128))
  Prog.lift (.store M4 (Rect.unit (s := S256x512) ![0, 256] S256x128.size inb_S256x512_S256x128_0_256) v230 Finset.univ (View.stores_vmem h_S256x128 (h4.storeExact_slice rfl _ packedbf16_S256x512_S256x128_0_256) (fun _ => rfl)) (.inl rfl))
  have v232 : FVec F S256x128 .f32 := extractStridedSlice S256x128 ![0, 384] v196 slices_S256x512_o0_384_S256x128
  let c0_118 : Index := 0#32
  let c0_119 : Index := 0#32
  let v233 : Vec F S256x128 .f32 ← Prog.lift (.load M12 (Rect.unit (s := S256x128) ![0, 0] S256x128.size inb_S256x128_S256x128_0_0).toLoadRect (View.loadsAt_vmem h_S256x128))
  have v234 : FVec F S256x128 .f32 := mulf v232 v233
  have v235 : FVec F S256x128 .f32 := extractStridedSlice S256x128 ![0, 384] v198 slices_S256x512_o0_384_S256x128
  have v236 : FVec F S256x128 .f32 := addf v234 v235
  let c0_120 : Index := 0#32
  let c384 : Index := 384#32
  let v237 : Vec F S1x128 .f32 ← Prog.lift (.load M3 (Rect.unit (s := S1x512) ![0, 384] S1x128.size inb_S1x512_S1x128_0_384).toLoadRect (View.loadsAt_vmem h_S1x128))
  have v238 : FVec F S1x128 .f32 := shapeCast S1x128 v237 shapeCasts_S1x128_S1x128
  have v239 : FVec F S256x128 .f32 := broadcastTo S256x128 v238 broadcasts_S1x128_S256x128
  have v240 : FVec F S256x128 .f32 := mulf v236 v239
  have v241 : FVec F S256x128 .bf16 := truncf .bf16 v240 bitsLt_bf16_f32
  let c0_121 : Index := 0#32
  let c384_122 : Index := 384#32
  let v242 : Vec F S256x128 .bf16 ← Prog.lift (.load M4 (Rect.unit (s := S256x512) ![0, 384] S256x128.size inb_S256x512_S256x128_0_384).toLoadRect (View.loadsAt_vmem h_S256x128))
  Prog.lift (.store M4 (Rect.unit (s := S256x512) ![0, 384] S256x128.size inb_S256x512_S256x128_0_384) v241 Finset.univ (View.stores_vmem h_S256x128 (h4.storeExact_slice rfl _ packedbf16_S256x512_S256x128_0_384) (fun _ => rfl)) (.inl rfl))
  k

/-- The dense path of one point: the four lane blocks of the output from the whole row of outliers. -/
noncomputable def denseK (k : Prog (TpuEff nD τ sig (Elt F) Λ₀ .tc) PUnit) :
    Prog (TpuEff nD τ sig (Elt F) Λ₀ .tc) PUnit := do
  let ⟨v14, v18, v43, v44⟩ : Σ' (v14 : FVec F S256x512 .f32) (v18 : FVec F S256x512 .f32) (v43 : FVec F S256x128 .f32), FVec F S256x128 .f32 ← k0_part95 i M1 h1 M2 h2 M3 h3 M4 h4 M5 h5 M6 h6 M7 h7 M8 h8 M9 h9 M10 h10 M11 h11 M12 h12 M13 h13 M14 h14 M15 h15
  have v45 : FVec F S256x128 .f32 := addf v43 v44
  let c0_27 : Index := 0#32
  let c256 : Index := 256#32
  let v46 : Vec F S1x128 .f32 ← Prog.lift (.load M3 (Rect.unit (s := S1x512) ![0, 256] S1x128.size inb_S1x512_S1x128_0_256).toLoadRect (View.loadsAt_vmem h_S1x128))
  have v47 : FVec F S1x128 .f32 := shapeCast S1x128 v46 shapeCasts_S1x128_S1x128
  have v48 : FVec F S256x128 .f32 := broadcastTo S256x128 v47 broadcasts_S1x128_S256x128
  have v49 : FVec F S256x128 .f32 := mulf v45 v48
  have v50 : FVec F S256x128 .bf16 := truncf .bf16 v49 bitsLt_bf16_f32
  let c0_28 : Index := 0#32
  let c256_29 : Index := 256#32
  let v51 : Vec F S256x128 .bf16 ← Prog.lift (.load M4 (Rect.unit (s := S256x512) ![0, 256] S256x128.size inb_S256x512_S256x128_0_256).toLoadRect (View.loadsAt_vmem h_S256x128))
  Prog.lift (.store M4 (Rect.unit (s := S256x512) ![0, 256] S256x128.size inb_S256x512_S256x128_0_256) v50 Finset.univ (View.stores_vmem h_S256x128 (h4.storeExact_slice rfl _ packedbf16_S256x512_S256x128_0_256) (fun _ => rfl)) (.inl rfl))
  have v52 : FVec F S256x128 .f32 := extractStridedSlice S256x128 ![0, 384] v14 slices_S256x512_o0_384_S256x128
  let c0_30 : Index := 0#32
  let c0_31 : Index := 0#32
  let v53 : Vec F S256x128 .f32 ← Prog.lift (.load M12 (Rect.unit (s := S256x128) ![0, 0] S256x128.size inb_S256x128_S256x128_0_0).toLoadRect (View.loadsAt_vmem h_S256x128))
  have v54 : FVec F S256x128 .f32 := mulf v52 v53
  have v55 : FVec F S256x128 .f32 := extractStridedSlice S256x128 ![0, 384] v18 slices_S256x512_o0_384_S256x128
  have v56 : FVec F S256x128 .f32 := addf v54 v55
  let c0_32 : Index := 0#32
  let c384 : Index := 384#32
  let v57 : Vec F S1x128 .f32 ← Prog.lift (.load M3 (Rect.unit (s := S1x512) ![0, 384] S1x128.size inb_S1x512_S1x128_0_384).toLoadRect (View.loadsAt_vmem h_S1x128))
  have v58 : FVec F S1x128 .f32 := shapeCast S1x128 v57 shapeCasts_S1x128_S1x128
  have v59 : FVec F S256x128 .f32 := broadcastTo S256x128 v58 broadcasts_S1x128_S256x128
  have v60 : FVec F S256x128 .f32 := mulf v56 v59
  have v61 : FVec F S256x128 .bf16 := truncf .bf16 v60 bitsLt_bf16_f32
  let c0_33 : Index := 0#32
  let c384_34 : Index := 384#32
  let v62 : Vec F S256x128 .bf16 ← Prog.lift (.load M4 (Rect.unit (s := S256x512) ![0, 384] S256x128.size inb_S256x512_S256x128_0_384).toLoadRect (View.loadsAt_vmem h_S256x128))
  Prog.lift (.store M4 (Rect.unit (s := S256x512) ![0, 384] S256x128.size inb_S256x512_S256x128_0_384) v61 Finset.univ (View.stores_vmem h_S256x128 (h4.storeExact_slice rfl _ packedbf16_S256x512_S256x128_0_384) (fun _ => rfl)) (.inl rfl))
  k

noncomputable def denseRun (f2 : Bf F c M2) (f3 : Bf F c M3) (f4 : Bf F c M4) (f9 : Bf F c M9) (f10 : Bf F c M10) (f12 : Bf F c M12) :
    { W : Bf F c M4 //
      ∀ (E : Set ℕ) (Q : PUnit → sProp 𝕄) (k : Prog (TpuEff nD τ sig (Elt F) Λ₀ .tc) PUnit),
        iprop(pt c M2 f2 ∗ pt c M3 f3 ∗ pt c M4 f4 ∗ pt c M9 f9 ∗ pt c M10 f10 ∗ pt c M12 f12
          ∗ (iprop(pt c M2 f2 ∗ pt c M3 f3 ∗ pt c M4 W ∗ pt c M9 f9 ∗ pt c M10 f10 ∗ pt c M12 f12) -∗ wp frame (wpE (defs₀ (F := F)) Variants.none c none) E k Q))
        ⊢ wp frame (wpE (defs₀ (F := F)) Variants.none c none) E (denseK i M1 h1 M2 h2 M3 h3 M4 h4 M5 h5 M6 h6 M7 h7 M8 h8 M9 h9 M10 h10 M11 h11 M12 h12 M13 h13 M14 h14 M15 h15 k) Q } := by
  refine ⟨?_, fun E Q k => ?run⟩
  case run =>
    iintro ⟨H2, H3, H4, H9, H10, H12, Hk⟩
    unfold denseK
    sl_exec_parts!
    iapply Hk
    isplitl [H2]
    · iexact H2
    isplitl [H3]
    · iexact H3
    isplitl [H4]
    · iexact H4
    isplitl [H9]
    · iexact H9
    isplitl [H10]
    · iexact H10
    iexact H12

noncomputable def foldRun (v3 : BitVec 32) (k0_h30 : k0_cond30 v3 = 1#1) (f2 : Bf F c M2) (f3 : Bf F c M3) (f4 : Bf F c M4) (f9 : Bf F c M9) (f11 : Bf F c M11) (f12 : Bf F c M12) (f13 : Bf F c M13) (f14 : Bf F c M14)
    (hs : SlotsOk c M14 f14) :
    { W : Bf F c M4 //
      ∀ (E : Set ℕ) (Q : PUnit → sProp 𝕄) (k : Prog (TpuEff nD τ sig (Elt F) Λ₀ .tc) PUnit),
        iprop(pt c M2 f2 ∗ pt c M3 f3 ∗ pt c M4 f4 ∗ pt c M9 f9 ∗ pt c M11 f11 ∗ pt c M12 f12 ∗ pt c M13 f13 ∗ pt c M14 f14
          ∗ (iprop(pt c M2 f2 ∗ pt c M3 f3 ∗ pt c M4 W ∗ pt c M9 f9 ∗ pt c M11 f11 ∗ pt c M12 f12 ∗ pt c M13 f13 ∗ pt c M14 f14) -∗ wp frame (wpE (defs₀ (F := F)) Variants.none c none) E k Q))
        ⊢ wp frame (wpE (defs₀ (F := F)) Variants.none c none) E (foldK i M1 h1 M2 h2 M3 h3 M4 h4 M5 h5 M6 h6 M7 h7 M8 h8 M9 h9 M10 h10 M11 h11 M12 h12 M13 h13 M14 h14 M15 h15 v3 k0_h30 k) Q } := by
  refine ⟨?_, fun E Q k => ?run⟩
  case run =>
    iintro ⟨H2, H3, H4, H9, H11, H12, H13, H14, Hk⟩
    unfold foldK
    sl_exec_parts! (disch := (refine chk3 ?_; exact hs _ _))
    iapply Hk
    isplitl [H2]
    · iexact H2
    isplitl [H3]
    · iexact H3
    isplitl [H4]
    · iexact H4
    isplitl [H9]
    · iexact H9
    isplitl [H11]
    · iexact H11
    isplitl [H12]
    · iexact H12
    isplitl [H13]
    · iexact H13
    iexact H14

end Cert.Kernel.Hand

end
-- ==== Proof.Bit.Body.lean ====
module

public import proofs.«01_k».proof.Proof.Bit.Pro
public import proofs.«01_k».proof.Proof.Bit.Tail

@[expose] public section

set_option maxHeartbeats 1000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Slots

variable {c : Dev nD} {M10 : Memref sig .tc .vmem S256x3584 .bf16}
    {M11 : Memref sig .tc .vmem S256x256 .bf16} {h11 : M11.IsWhole}
    {M13 : Memref sig .tc .vmem S2x8x128 .i32} {M14 : Memref sig .tc .smem S8 .i32}

/-- Every word of the slots, read one by one, is a chunk number. -/
def SlotsR (f14 : Bf F c M14) : Prop := ∀ j, Small 27 (M14.view.read (Elt F) f14 j)

theorem SlotsR.ok {f14 : Bf F c M14} (h : SlotsR (M14 := M14) f14) : SlotsOk c M14 f14 := fun _ _ => h _

theorem gstep_slots {C : Prop} [Decidable C] {o1 : Fin 1 → ℕ} {o2 o3 : Fin 3 → ℕ} {oc : Fin 2 → ℕ}
    {ic : ∀ a, oc a + S256x128.size a ≤ S256x3584.size a} {w : BitVec 32} {m0 m1 : IVec S1x128 32}
    {i1 : C → ∀ a, o1 a + S1.size a ≤ S8.size a}
    {i2 : C → ∀ a, o2 a + S1x1x128.size a ≤ S2x8x128.size a}
    {i3 : C → ∀ a, o3 a + S1x1x128.size a ≤ S2x8x128.size a}
    {f10 : Bf F c M10} {S : St F c M11 M13 M14} (hw : Small 27 w) (h : SlotsR (M14 := M14) S.2.2) :
    SlotsR (M14 := M14) (gstep c M10 M11 h11 M13 M14 C o1 o2 o3 oc ic w m0 m1 i1 i2 i3 f10 S).2.2 := by
  unfold gstep
  split
  · rename_i hC
    intro j
    show Small 27 (M14.view.read (Elt F) (M14.view.writes (Elt F) S.2.2
      [⟨Rect.unit (s := S8) o1 S1.size (i1 hC), fun _ => w⟩]) j)
    by_cases hj : j ∈ (Rect.unit (s := S8) o1 S1.size (i1 hC)).set
    · obtain ⟨x, rfl⟩ := (Rect.unit (s := S8) o1 S1.size (i1 hC)).exists_idx_of_mem hj
      refine (congrArg (Small 27) (View.read_writes_cons_emb M14.view S.2.2 (Rect.unit (s := S8) o1 S1.size (i1 hC)) (fun _ => w) [] x)).mpr hw
    · rw [View.read_writes_cons_miss (hy := hj)]; exact h j
  · exact h

end Slots

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

theorem pro_slots (k0_h1 : k0_cond1 i = 1#1)
    (f1 : Bf F c M1) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) :
    SlotsR (M14 := M14) (proRun c i M1 h1 M2 h2 M3 h3 M4 h4 M5 h5 M6 h6 M7 h7 M8 h8 M9 h9 M10 h10 M11 h11 M12 h12 M13 h13 M14 h14 M15 h15 k0_h1 f1 f5 f6 f7 f8 f9 f10 f11 f12 f13 f14 f15).1.st.2.2 := by
  unfold proRun
  dsimp only
  iterate 28 refine gstep_slots (by unfold Small; decide) ?_
  intro j
  dsimp only
  rw [View.read_writes_apply_of_pieces _ _ (fun _ => 0#32) _ (by simp) j (View.cover_of_tiled _ ![1] rfl j)]
  exact small_zero 27

/-- The dense path, taken when the plan does not fold. -/
noncomputable def k2 : Prog (TpuEff nD τ sig (Elt F) Λ₀ .tc) PUnit := do
  let v7 : Elt F .i32 ← smemLoad M15 (Rect.unit (s := S1) ![0] S1.size inb_S1_S1_0) numel1_S1 rfl
  if Scalar.cmpi .ne (Scalar.extui (Scalar.cmpi .eq v7 0#32) : BitVec 32) 0#32 = 1#1 then
    denseK i M1 h1 M2 h2 M3 h3 M4 h4 M5 h5 M6 h6 M7 h7 M8 h8 M9 h9 M10 h10 M11 h11 M12 h12 M13 h13 M14 h14 M15 h15 (pure ⟨⟩)
  else pure ⟨⟩

/-- What every point does after the prologue. -/
noncomputable def tailP : Prog (TpuEff nD τ sig (Elt F) Λ₀ .tc) PUnit := do
  let v3 : Elt F .i32 ← smemLoad M15 (Rect.unit (s := S1) ![0] S1.size inb_S1_S1_0) numel1_S1 rfl
  if k0_h30 : k0_cond30 v3 = 1#1 then
    foldK i M1 h1 M2 h2 M3 h3 M4 h4 M5 h5 M6 h6 M7 h7 M8 h8 M9 h9 M10 h10 M11 h11 M12 h12 M13 h13 M14 h14 M15 h15 v3 k0_h30 (k2 i M1 h1 M2 h2 M3 h3 M4 h4 M5 h5 M6 h6 M7 h7 M8 h8 M9 h9 M10 h10 M11 h11 M12 h12 M13 h13 M14 h14 M15 h15)
  else k2 i M1 h1 M2 h2 M3 h3 M4 h4 M5 h5 M6 h6 M7 h7 M8 h8 M9 h9 M10 h10 M11 h11 M12 h12 M13 h13 M14 h14 M15 h15

theorem cc0_pos (h : k0_cond1 i = 1#1) :
    cc0_llm_int8_linear (F := F) i M1 h1 M2 h2 M3 h3 M4 h4 M5 h5 M6 h6 M7 h7 M8 h8 M9 h9 M10 h10 M11 h11 M12 h12 M13 h13 M14 h14 M15 h15 = proK i M1 h1 M2 h2 M3 h3 M4 h4 M5 h5 M6 h6 M7 h7 M8 h8 M9 h9 M10 h10 M11 h11 M12 h12 M13 h13 M14 h14 M15 h15 h (tailP i M1 h1 M2 h2 M3 h3 M4 h4 M5 h5 M6 h6 M7 h7 M8 h8 M9 h9 M10 h10 M11 h11 M12 h12 M13 h13 M14 h14 M15 h15) := by
  unfold cc0_llm_int8_linear
  exact dif_pos h

theorem cc0_neg (h : ¬ k0_cond1 i = 1#1) :
    cc0_llm_int8_linear (F := F) i M1 h1 M2 h2 M3 h3 M4 h4 M5 h5 M6 h6 M7 h7 M8 h8 M9 h9 M10 h10 M11 h11 M12 h12 M13 h13 M14 h14 M15 h15 = tailP i M1 h1 M2 h2 M3 h3 M4 h4 M5 h5 M6 h6 M7 h7 M8 h8 M9 h9 M10 h10 M11 h11 M12 h12 M13 h13 M14 h14 M15 h15 := by
  unfold cc0_llm_int8_linear
  exact dif_neg h

/-- The word that says whether the plan folds. -/
noncomputable def ctlW (f15 : Bf F c M15) : BitVec 32 :=
  View.readAt (Elt F) M15.view (Rect.unit (s := S1) ![0] S1.size inb_S1_S1_0).toLoadRect f15 (Shape.Idx.first (numel1_S1.symm ▸ Nat.one_pos))

/-- The condition of the dense path. -/
abbrev densC (w : BitVec 32) : BitVec 1 := Scalar.cmpi .ne (Scalar.extui (Scalar.cmpi .eq w 0#32) : BitVec 32) 0#32

/-- The output's block after the dense path, taken or not. -/
noncomputable def k2W (f2 : Bf F c M2) (f3 : Bf F c M3) (f4 : Bf F c M4) (f9 : Bf F c M9) (f10 : Bf F c M10) (f12 : Bf F c M12) (f15 : Bf F c M15) : Bf F c M4 :=
  if densC (ctlW c M15 f15) = 1#1 then (denseRun c i M1 h1 M2 h2 M3 h3 M4 h4 M5 h5 M6 h6 M7 h7 M8 h8 M9 h9 M10 h10 M11 h11 M12 h12 M13 h13 M14 h14 M15 h15 f2 f3 f4 f9 f10 f12).1 else f4

/-- The output's block after a point. -/
noncomputable def tailW (f2 : Bf F c M2) (f3 : Bf F c M3) (f4 : Bf F c M4) (f9 : Bf F c M9) (f10 : Bf F c M10) (f11 : Bf F c M11) (f12 : Bf F c M12) (f13 : Bf F c M13) (f14 : Bf F c M14) (f15 : Bf F c M15)
    (hs : SlotsOk c M14 f14) : Bf F c M4 :=
  if h : k0_cond30 (ctlW c M15 f15) = 1#1 then
    k2W c i M1 h1 M2 h2 M3 h3 M4 h4 M5 h5 M6 h6 M7 h7 M8 h8 M9 h9 M10 h10 M11 h11 M12 h12 M13 h13 M14 h14 M15 h15 f2 f3 (foldRun c i M1 h1 M2 h2 M3 h3 M4 h4 M5 h5 M6 h6 M7 h7 M8 h8 M9 h9 M10 h10 M11 h11 M12 h12 M13 h13 M14 h14 M15 h15 (ctlW c M15 f15) h f2 f3 f4 f9 f11 f12 f13 f14 hs).1 f9 f10 f12 f15
  else k2W c i M1 h1 M2 h2 M3 h3 M4 h4 M5 h5 M6 h6 M7 h7 M8 h8 M9 h9 M10 h10 M11 h11 M12 h12 M13 h13 M14 h14 M15 h15 f2 f3 f4 f9 f10 f12 f15

theorem k2Run (f2 : Bf F c M2) (f3 : Bf F c M3) (f4 : Bf F c M4) (f9 : Bf F c M9) (f10 : Bf F c M10) (f12 : Bf F c M12) (f15 : Bf F c M15)
    (E : Set ℕ) (Q : PUnit → sProp 𝕄) :
        iprop(pt c M2 f2 ∗ pt c M3 f3 ∗ pt c M4 f4 ∗ pt c M9 f9 ∗ pt c M10 f10 ∗ pt c M12 f12 ∗ pt c M15 f15
          ∗ (iprop(pt c M2 f2 ∗ pt c M3 f3 ∗ pt c M4 (k2W c i M1 h1 M2 h2 M3 h3 M4 h4 M5 h5 M6 h6 M7 h7 M8 h8 M9 h9 M10 h10 M11 h11 M12 h12 M13 h13 M14 h14 M15 h15 f2 f3 f4 f9 f10 f12 f15) ∗ pt c M9 f9 ∗ pt c M10 f10 ∗ pt c M12 f12 ∗ pt c M15 f15) -∗ Q ⟨⟩))
        ⊢ wp frame (wpE (defs₀ (F := F)) Variants.none c none) E (k2 i M1 h1 M2 h2 M3 h3 M4 h4 M5 h5 M6 h6 M7 h7 M8 h8 M9 h9 M10 h10 M11 h11 M12 h12 M13 h13 M14 h14 M15 h15) Q := by
  iintro ⟨H2, H3, H4, H9, H10, H12, H15, Hk⟩
  unfold k2
  set_option sl_exec.stopBefore "denseK" in
  sl_exec
  by_cases h : densC (ctlW c M15 f15) = 1#1
  · rw [show k2W c i M1 h1 M2 h2 M3 h3 M4 h4 M5 h5 M6 h6 M7 h7 M8 h8 M9 h9 M10 h10 M11 h11 M12 h12 M13 h13 M14 h14 M15 h15 f2 f3 f4 f9 f10 f12 f15 = (denseRun c i M1 h1 M2 h2 M3 h3 M4 h4 M5 h5 M6 h6 M7 h7 M8 h8 M9 h9 M10 h10 M11 h11 M12 h12 M13 h13 M14 h14 M15 h15 f2 f3 f4 f9 f10 f12).1 from if_pos h,
      if_pos (show Scalar.cmpi .ne (Scalar.extui (Scalar.cmpi .eq (k2Run.sl.r c M15 f15) 0#32) : BitVec 32) 0#32 = 1#1 from h)]
    iapply (denseRun c i M1 h1 M2 h2 M3 h3 M4 h4 M5 h5 M6 h6 M7 h7 M8 h8 M9 h9 M10 h10 M11 h11 M12 h12 M13 h13 M14 h14 M15 h15 f2 f3 f4 f9 f10 f12).2
    isplitl [H2]
    · iexact H2
    isplitl [H3]
    · iexact H3
    isplitl [H4]
    · iexact H4
    isplitl [H9]
    · iexact H9
    isplitl [H10]
    · iexact H10
    isplitl [H12]
    · iexact H12
    iintro ⟨H2, H3, H4, H9, H10, H12⟩
    sl_step
    iapply Hk
    isplitl [H2]
    · iexact H2
    isplitl [H3]
    · iexact H3
    isplitl [H4]
    · iexact H4
    isplitl [H9]
    · iexact H9
    isplitl [H10]
    · iexact H10
    isplitl [H12]
    · iexact H12
    iexact H15
  · rw [show k2W c i M1 h1 M2 h2 M3 h3 M4 h4 M5 h5 M6 h6 M7 h7 M8 h8 M9 h9 M10 h10 M11 h11 M12 h12 M13 h13 M14 h14 M15 h15 f2 f3 f4 f9 f10 f12 f15 = f4 from if_neg h,
      if_neg (show ¬ (Scalar.cmpi .ne (Scalar.extui (Scalar.cmpi .eq (k2Run.sl.r c M15 f15) 0#32) : BitVec 32) 0#32 = 1#1) from h)]
    sl_step
    iapply Hk
    isplitl [H2]
    · iexact H2
    isplitl [H3]
    · iexact H3
    isplitl [H4]
    · iexact H4
    isplitl [H9]
    · iexact H9
    isplitl [H10]
    · iexact H10
    isplitl [H12]
    · iexact H12
    iexact H15

theorem tailRun (f2 : Bf F c M2) (f3 : Bf F c M3) (f4 : Bf F c M4) (f9 : Bf F c M9) (f10 : Bf F c M10) (f11 : Bf F c M11) (f12 : Bf F c M12) (f13 : Bf F c M13) (f14 : Bf F c M14) (f15 : Bf F c M15)
    (hs : SlotsOk c M14 f14) (E : Set ℕ) (Q : PUnit → sProp 𝕄) :
        iprop(pt c M2 f2 ∗ pt c M3 f3 ∗ pt c M4 f4 ∗ pt c M9 f9 ∗ pt c M10 f10 ∗ pt c M11 f11 ∗ pt c M12 f12 ∗ pt c M13 f13 ∗ pt c M14 f14 ∗ pt c M15 f15
          ∗ (iprop(pt c M2 f2 ∗ pt c M3 f3 ∗ pt c M4 (tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs) ∗ pt c M9 f9 ∗ pt c M10 f10 ∗ pt c M11 f11 ∗ pt c M12 f12 ∗ pt c M13 f13 ∗ pt c M14 f14 ∗ pt c M15 f15) -∗ Q ⟨⟩))
        ⊢ wp frame (wpE (defs₀ (F := F)) Variants.none c none) E (tailP i M1 h1 M2 h2 M3 h3 M4 h4 M5 h5 M6 h6 M7 h7 M8 h8 M9 h9 M10 h10 M11 h11 M12 h12 M13 h13 M14 h14 M15 h15) Q := by
  iintro ⟨H2, H3, H4, H9, H10, H11, H12, H13, H14, H15, Hk⟩
  unfold tailP
  sl_exec
  by_cases h : k0_cond30 (ctlW c M15 f15) = 1#1
  · rw [show tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs = k2W c i M1 h1 M2 h2 M3 h3 M4 h4 M5 h5 M6 h6 M7 h7 M8 h8 M9 h9 M10 h10 M11 h11 M12 h12 M13 h13 M14 h14 M15 h15 f2 f3 (foldRun c i M1 h1 M2 h2 M3 h3 M4 h4 M5 h5 M6 h6 M7 h7 M8 h8 M9 h9 M10 h10 M11 h11 M12 h12 M13 h13 M14 h14 M15 h15 (ctlW c M15 f15) h f2 f3 f4 f9 f11 f12 f13 f14 hs).1 f9 f10 f12 f15 from dif_pos h,
      dif_pos (show k0_cond30 (tailRun.sl.r c M15 f15) = 1#1 from h)]
    iapply (foldRun c i M1 h1 M2 h2 M3 h3 M4 h4 M5 h5 M6 h6 M7 h7 M8 h8 M9 h9 M10 h10 M11 h11 M12 h12 M13 h13 M14 h14 M15 h15 (ctlW c M15 f15) h f2 f3 f4 f9 f11 f12 f13 f14 hs).2
    isplitl [H2]
    · iexact H2
    isplitl [H3]
    · iexact H3
    isplitl [H4]
    · iexact H4
    isplitl [H9]
    · iexact H9
    isplitl [H11]
    · iexact H11
    isplitl [H12]
    · iexact H12
    isplitl [H13]
    · iexact H13
    isplitl [H14]
    · iexact H14
    iintro ⟨H2, H3, H4, H9, H11, H12, H13, H14⟩
    iapply k2Run
    isplitl [H2]
    · iexact H2
    isplitl [H3]
    · iexact H3
    isplitl [H4]
    · iexact H4
    isplitl [H9]
    · iexact H9
    isplitl [H10]
    · iexact H10
    isplitl [H12]
    · iexact H12
    isplitl [H15]
    · iexact H15
    iintro ⟨H2, H3, H4, H9, H10, H12, H15⟩
    iapply Hk
    isplitl [H2]
    · iexact H2
    isplitl [H3]
    · iexact H3
    isplitl [H4]
    · iexact H4
    isplitl [H9]
    · iexact H9
    isplitl [H10]
    · iexact H10
    isplitl [H11]
    · iexact H11
    isplitl [H12]
    · iexact H12
    isplitl [H13]
    · iexact H13
    isplitl [H14]
    · iexact H14
    iexact H15
  · rw [show tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs = k2W c i M1 h1 M2 h2 M3 h3 M4 h4 M5 h5 M6 h6 M7 h7 M8 h8 M9 h9 M10 h10 M11 h11 M12 h12 M13 h13 M14 h14 M15 h15 f2 f3 f4 f9 f10 f12 f15 from dif_neg h,
      dif_neg (show ¬ (k0_cond30 (tailRun.sl.r c M15 f15) = 1#1) from h)]
    iapply k2Run
    isplitl [H2]
    · iexact H2
    isplitl [H3]
    · iexact H3
    isplitl [H4]
    · iexact H4
    isplitl [H9]
    · iexact H9
    isplitl [H10]
    · iexact H10
    isplitl [H12]
    · iexact H12
    isplitl [H15]
    · iexact H15
    iintro ⟨H2, H3, H4, H9, H10, H12, H15⟩
    iapply Hk
    isplitl [H2]
    · iexact H2
    isplitl [H3]
    · iexact H3
    isplitl [H4]
    · iexact H4
    isplitl [H9]
    · iexact H9
    isplitl [H10]
    · iexact H10
    isplitl [H11]
    · iexact H11
    isplitl [H12]
    · iexact H12
    isplitl [H13]
    · iexact H13
    isplitl [H14]
    · iexact H14
    iexact H15

/-- The first point, run: the prologue, then its tile. -/
theorem body_pos (h : k0_cond1 i = 1#1) (f1 : Bf F c M1) (f2 : Bf F c M2) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15)
    (W : After F c M5 M6 M7 M8 M9 M10 M11 M12 M13 M14 M15) (hW : W = (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).1)
    (hs : SlotsOk c M14 W.st.2.2) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
      ∗ (iprop(pt c M1 f1 ∗ pt c M2 f2 ∗ pt c M3 f3 ∗ pt c M4 (tailW c i M1 h1 M2 h2 M3 h3 M4 h4 M5 h5 M6 h6 M7 h7 M8 h8 M9 h9 M10 h10 M11 h11 M12 h12 M13 h13 M14 h14 M15 h15 f2 f3 f4 W.q W.xo W.st.1 W.sb W.st.2.1 W.st.2.2 W.ctl hs) ∗ pt c M5 W.mask ∗ pt c M6 W.codes ∗ pt c M7 W.scales ∗ pt c M8 W.zero ∗ pt c M9 W.q ∗ pt c M10 W.xo ∗ pt c M11 W.st.1 ∗ pt c M12 W.sb ∗ pt c M13 W.st.2.1 ∗ pt c M14 W.st.2.2 ∗ pt c M15 W.ctl) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [cc0_pos (h := h)]
  iintro ⟨H1, H2, H3, H4, H5, H6, H7, H8, H9, H10, H11, H12, H13, H14, H15, Hk⟩
  iapply (proRun c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15).2
  isplitl [H1]
  · iexact H1
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  rw [← hW]
  unfold stRes
  iintro ⟨H1, H5, H6, H7, H8, H9, H12, H15, H10, H11, H13, H14⟩
  iapply (tailRun c i M1 h1 M2 h2 M3 h3 M4 h4 M5 h5 M6 h6 M7 h7 M8 h8 M9 h9 M10 h10 M11 h11 M12 h12 M13 h13 M14 h14 M15 h15 f2 f3 f4 W.q W.xo W.st.1 W.sb W.st.2.1 W.st.2.2 W.ctl hs)
  isplitl [H2]
  · iexact H2
  isplitl [H3]
  · iexact H3
  isplitl [H4]
  · iexact H4
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H2, H3, H4, H9, H10, H11, H12, H13, H14, H15⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  iexact H15

/-- Any later point, run: its tile. -/
theorem body_neg (h : ¬ k0_cond1 i = 1#1) (f1 : Bf F c M1) (f2 : Bf F c M2) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15)
    (hs : SlotsOk c M14 f14) (E : Set ℕ) (Q : PUnit → sProp 𝕄) :
    iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15
      ∗ (iprop(pt c M1 f1 ∗ pt c M2 f2 ∗ pt c M3 f3 ∗ pt c M4 (tailW c i M1 h1 M2 h2 M3 h3 M4 h4 M5 h5 M6 h6 M7 h7 M8 h8 M9 h9 M10 h10 M11 h11 M12 h12 M13 h13 M14 h14 M15 h15 f2 f3 f4 f9 f10 f11 f12 f13 f14 f15 hs) ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [cc0_neg (h := h)]
  iintro ⟨H1, H2, H3, H4, H5, H6, H7, H8, H9, H10, H11, H12, H13, H14, H15, Hk⟩
  iapply (tailRun c i M1 h1 M2 h2 M3 h3 M4 h4 M5 h5 M6 h6 M7 h7 M8 h8 M9 h9 M10 h10 M11 h11 M12 h12 M13 h13 M14 h14 M15 h15 f2 f3 f4 f9 f10 f11 f12 f13 f14 f15 hs)
  isplitl [H2]
  · iexact H2
  isplitl [H3]
  · iexact H3
  isplitl [H4]
  · iexact H4
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H2, H3, H4, H9, H10, H11, H12, H13, H14, H15⟩
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  iexact H15

/-- The prologue's point is the first. -/
theorem cond1_iff : ∀ t : Fin cfg0.N, k0_cond1 (grid0.coords t) = 1#1 ↔ t.val = 0 := by decide

end Cert.Kernel.Hand

end
-- ==== Proof.Bit.Fr.lean ====
module

public import proofs.«01_k».proof.Proof.Bit.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-! ## The body over what the pipeline owns -/

section Owned

variable (c : Dev nD) (i : grid0.Coords)
  (M1 : Memref sig .tc .vmem S256x3584 .bf16) (h1 : M1.IsWhole)
  (M2 : Memref sig .tc .vmem S512x3584 .i8) (h2 : M2.IsWhole)
  (M3 : Memref sig .tc .vmem S1x512 .f32) (h3 : M3.IsWhole)
  (M4 : Memref sig .tc .vmem S256x512 .bf16) (h4 : M4.IsWhole)
  (M5 : Memref sig .tc .vmem S1x3584 .i32) (h5 : M5.IsWhole)
  (M6 : Memref sig .tc .vmem S256x3584 .i8) (h6 : M6.IsWhole)
  (M7 : Memref sig .tc .vmem S2x128 .f32) (h7 : M7.IsWhole)
  (M8 : Memref sig .tc .vmem S2x128 .i32) (h8 : M8.IsWhole)
  (M9 : Memref sig .tc .vmem S256x3584 .bf16) (h9 : M9.IsWhole)
  (M10 : Memref sig .tc .vmem S256x3584 .bf16) (h10 : M10.IsWhole)
  (M11 : Memref sig .tc .vmem S256x256 .bf16) (h11 : M11.IsWhole)
  (M12 : Memref sig .tc .vmem S256x128 .f32) (h12 : M12.IsWhole)
  (M13 : Memref sig .tc .vmem S2x8x128 .i32) (h13 : M13.IsWhole)
  (M14 : Memref sig .tc .smem S8 .i32) (h14 : M14.IsWhole)
  (M15 : Memref sig .tc .smem S1 .i32) (h15 : M15.IsWhole)

variable {c} in
theorem own_eq {sp : Space} {S : Shape} {e : EltTy} {M : Memref sig .tc sp S e} (h : M.IsWhole) (X : S.Idx → Elt F e) :
    (owns (c : Thread nD τ) M fullShare X : sProp 𝕄) = iprop(∃ f : Bf F c M, ⌜M.view.read (Elt F) f = X⌝ ∗ pt c M f) := by
  unfold owns; rw [h.set_eq_univ]

theorem own_pos (h : k0_cond1 i = 1#1) (X1 : S256x3584.Idx → Elt F .bf16) (X2 : S512x3584.Idx → Elt F .i8) (X3 : S1x512.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, pt c M14 f) ∗ (∃ f : Bf F c M15, pt c M15 f)
      ∗ (iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, iprop(⌜SlotsR (M14 := M14) f⌝ ∗ pt c M14 f)) ∗ (∃ f : Bf F c M15, pt c M15 f)) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [own_eq h1, own_eq h2, own_eq h3]
  simp only [own_eq h4, own_eq h5, own_eq h6, own_eq h7, own_eq h8]
  iintro ⟨⟨%f1, %e1, H1⟩, ⟨%f2, %e2, H2⟩, ⟨%f3, %e3, H3⟩, ⟨%X4, %f4, -, H4⟩, ⟨%X5, %f5, -, H5⟩, ⟨%X6, %f6, -, H6⟩, ⟨%X7, %f7, -, H7⟩, ⟨%X8, %f8, -, H8⟩, ⟨%f9, H9⟩, ⟨%f10, H10⟩, ⟨%f11, H11⟩, ⟨%f12, H12⟩, ⟨%f13, H13⟩, ⟨%f14, H14⟩, ⟨%f15, H15⟩, Hk⟩
  have hs := pro_slots c i M1 h1 M2 h2 M3 h3 M4 h4 M5 h5 M6 h6 M7 h7 M8 h8 M9 h9 M10 h10 M11 h11 M12 h12 M13 h13 M14 h14 M15 h15 h f1 f5 f6 f7 f8 f9 f10 f11 f12 f13 f14 f15
  iapply (body_pos c i M1 h1 M2 h2 M3 h3 M4 h4 M5 h5 M6 h6 M7 h7 M8 h8 M9 h9 M10 h10 M11 h11 M12 h12 M13 h13 M14 h14 M15 h15 h f1 f2 f3 f4 f5 f6 f7 f8 f9 f10 f11 f12 f13 f14 f15 _ rfl hs.ok)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H1, H2, H3, H4, H5, H6, H7, H8, H9, H10, H11, H12, H13, H14, H15⟩
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; isplitr; swap; · iexact H14
    ipureintro; exact hs
  iexists _; iexact H15

theorem own_neg (h : ¬ k0_cond1 i = 1#1) (X1 : S256x3584.Idx → Elt F .bf16) (X2 : S512x3584.Idx → Elt F .i8) (X3 : S1x512.Idx → Elt F .f32)
    (E : Set ℕ) (Q : PUnit → sProp 𝕄) :
    iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, iprop(⌜SlotsR (M14 := M14) f⌝ ∗ pt c M14 f)) ∗ (∃ f : Bf F c M15, pt c M15 f)
      ∗ (iprop(owns (c : Thread nD τ) M1 fullShare X1 ∗ owns (c : Thread nD τ) M2 fullShare X2 ∗ owns (c : Thread nD τ) M3 fullShare X3 ∗ (∃ X, owns (c : Thread nD τ) M4 fullShare X) ∗ (∃ X, owns (c : Thread nD τ) M5 fullShare X) ∗ (∃ X, owns (c : Thread nD τ) M6 fullShare X) ∗ (∃ X, owns (c : Thread nD τ) M7 fullShare X) ∗ (∃ X, owns (c : Thread nD τ) M8 fullShare X) ∗ (∃ f : Bf F c M9, pt c M9 f) ∗ (∃ f : Bf F c M10, pt c M10 f) ∗ (∃ f : Bf F c M11, pt c M11 f) ∗ (∃ f : Bf F c M12, pt c M12 f) ∗ (∃ f : Bf F c M13, pt c M13 f) ∗ (∃ f : Bf F c M14, iprop(⌜SlotsR (M14 := M14) f⌝ ∗ pt c M14 f)) ∗ (∃ f : Bf F c M15, pt c M15 f)) -∗ Q ⟨⟩))
    ⊢ wp frame (wpE (defs₀ (F := F)) Variants.none c none) E (cc0_llm_int8_linear i M1 h1 M2 h2 M3 h3 M4 h4 M5 h5 M6 h6 M7 h7 M8 h8 M9 h9 M10 h10 M11 h11 M12 h12 M13 h13 M14 h14 M15 h15) Q := by
  rw [own_eq h1, own_eq h2, own_eq h3]
  simp only [own_eq h4, own_eq h5, own_eq h6, own_eq h7, own_eq h8]
  iintro ⟨⟨%f1, %e1, H1⟩, ⟨%f2, %e2, H2⟩, ⟨%f3, %e3, H3⟩, ⟨%X4, %f4, -, H4⟩, ⟨%X5, %f5, -, H5⟩, ⟨%X6, %f6, -, H6⟩, ⟨%X7, %f7, -, H7⟩, ⟨%X8, %f8, -, H8⟩, ⟨%f9, H9⟩, ⟨%f10, H10⟩, ⟨%f11, H11⟩, ⟨%f12, H12⟩, ⟨%f13, H13⟩, ⟨%f14, %hs, H14⟩, ⟨%f15, H15⟩, Hk⟩
  iapply (body_neg c i M1 h1 M2 h2 M3 h3 M4 h4 M5 h5 M6 h6 M7 h7 M8 h8 M9 h9 M10 h10 M11 h11 M12 h12 M13 h13 M14 h14 M15 h15 h f1 f2 f3 f4 f5 f6 f7 f8 f9 f10 f11 f12 f13 f14 f15 hs.ok)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  iintro ⟨H1, H2, H3, H4, H5, H6, H7, H8, H9, H10, H11, H12, H13, H14, H15⟩
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; isplitr; swap; · iexact H14
    ipureintro; exact hs
  iexists _; iexact H15

end Owned

/-! ## The proof data of the frame -/

variable (m : (ℓ : Loc nD τ sig) → Buf (Elt F) ℓ) (ρ : Dev nD → PrngReg)

/-- Between points: the scratch buffers at some contents, every slot a chunk number. -/
def PhiS (c : Dev nD) : sProp 𝕄 :=
  iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Bf F c (Memref.whole cc0_scratch5), iprop(⌜SlotsR (M14 := Memref.whole cc0_scratch5) f⌝ ∗ pt c (Memref.whole cc0_scratch5) f)) ∗ (∃ f : Buf (Elt F) ((c : Thread nD τ).loc cc0_scratch6), ((c : Thread nD τ).loc cc0_scratch6) ↦{fullShare} f)) ∗ ∃ r, prngReg c r)

theorem PhiS_out (c : Dev nD) : PhiS (F := F) c ⊢ Pipeline.ΦA spec0 c := by
  unfold PhiS Pipeline.ΦA
  rw [scopedRest0_eq]
  iintro ⟨⟨H0, H1, H2, H3, H4, ⟨%f, -, H5⟩, H6⟩, Hg⟩
  isplitr [Hg]
  · isplitl [H0]; · iexact H0
    isplitl [H1]; · iexact H1
    isplitl [H2]; · iexact H2
    isplitl [H3]; · iexact H3
    isplitl [H4]; · iexact H4
    isplitl [H5]; · iexists f; iexact H5
    iexact H6
  iexact Hg

/-- The five outputs are forgotten: a frame reads none of them. -/
def forgets0 : Fin 8 → Bool := fun w => decide (3 ≤ w.val)

def fdats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | w => Pipeline.Dat.unnamed (cfg := cfg0) w t
  Φ t := if t.val = 0 then Pipeline.ΦA spec0 c else PhiS c
  q _ := fullShare
  owed _ := 0

theorem fA_eq (c : Dev nD) (w : Fin cfg0.W) : (fdats m 0 c).A w = V m c (Pipeline.arrRef spec0 w) := by dsimp only [fdats]

def fPre (c : Dev nD) (t : Fin cfg0.N) : sProp 𝕄 :=
  iprop((fdats m 0 c).Φ t.castSucc ∗ (fdats m 0 c).owesAt () t.castSucc ∗ (∃ d, owns (c : Thread nD τ) (st0_0 t) fullShare ((fdats m 0 c).before 0 t d)) ∗ (∃ d, owns (c : Thread nD τ) (st0_1 t) fullShare ((fdats m 0 c).before 1 t d)) ∗ (∃ d, owns (c : Thread nD τ) (st0_2 t) fullShare ((fdats m 0 c).before 2 t d)) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X))
def fPost (c : Dev nD) (t : Fin cfg0.N) : sProp 𝕄 :=
  iprop((fdats m 0 c).Φ t.succ ∗ (fdats m 0 c).owesAt () t.succ ∗ owns (c : Thread nD τ) (st0_0 t) fullShare ((fdats m 0 c).after 0 t) ∗ owns (c : Thread nD τ) (st0_1 t) fullShare ((fdats m 0 c).after 1 t) ∗ owns (c : Thread nD τ) (st0_2 t) fullShare ((fdats m 0 c).after 2 t) ∗ (∃ X, owns (c : Thread nD τ) (st0_3 t) fullShare X) ∗ (∃ X, owns (c : Thread nD τ) (st0_4 t) fullShare X) ∗ (∃ X, owns (c : Thread nD τ) (st0_5 t) fullShare X) ∗ (∃ X, owns (c : Thread nD τ) (st0_6 t) fullShare X) ∗ (∃ X, owns (c : Thread nD τ) (st0_7 t) fullShare X))

theorem fΦ_pos (c : Dev nD) (t : Fin (cfg0.N + 1)) (h : t.val = 0) : (fdats m 0 c).Φ t = Pipeline.ΦA spec0 c := if_pos h
theorem fΦ_neg (c : Dev nD) (t : Fin (cfg0.N + 1)) (h : ¬ t.val = 0) : (fdats m 0 c).Φ t = PhiS c := if_neg h

set_option maxHeartbeats 4000000 in
theorem f_body (c : Dev nD) (t : Fin cfg0.N) :
    fPre m c t ⊢ wp frame (wpE (defs₀ (F := F)) Variants.none c none) Set.univ (bodyAt0 t) (fun _ => fPost m c t) := by
  unfold fPre fPost bodyAt0
  rw [show (fdats m 0 c).owesAt () t.succ = (fdats m 0 c).owesAt () t.castSucc from rfl,
    show (fdats m 0 c).Φ t.succ = PhiS c from fΦ_neg m c _ (Nat.succ_ne_zero _)]
  simp only [before0_0_of m (fdats m 0 c) rfl (fun _ => rfl), before0_1_of m (fdats m 0 c) rfl (fun _ => rfl), before0_2_of m (fdats m 0 c) rfl (fun _ => rfl)]
  rw [show (fdats m 0 c).after 0 t = iblk m c 0 t from rfl, show (fdats m 0 c).after 1 t = iblk m c 1 t from rfl, show (fdats m 0 c).after 2 t = iblk m c 2 t from rfl]
  by_cases ht : t.val = 0
  · rw [show (fdats m 0 c).Φ t.castSucc = Pipeline.ΦA spec0 c from fΦ_pos m c _ ht]
    unfold Pipeline.ΦA PhiS
    rw [scopedRest0_eq]
    iintro ⟨⟨⟨G0, G1, G2, G3, G4, G5, G6⟩, Hg⟩, HO, ⟨%d0, W0⟩, ⟨%d1, W1⟩, ⟨%d2, W2⟩, W3, W4, W5, W6, W7⟩
    iapply (own_pos c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) ((cond1_iff t).mpr ht) (iblk m c 0 t) (iblk m c 1 t) (iblk m c 2 t))
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [G0]; · iexact G0
    isplitl [G1]; · iexact G1
    isplitl [G2]; · iexact G2
    isplitl [G3]; · iexact G3
    isplitl [G4]; · iexact G4
    isplitl [G5]; · iexact G5
    isplitl [G6]; · iexact G6
    iintro ⟨W0, W1, W2, W3, W4, W5, W6, W7, G0, G1, G2, G3, G4, G5, G6⟩
    isplitl [G0 G1 G2 G3 G4 G5 G6 Hg]
    · isplitr [Hg]
      · isplitl [G0]; · iexact G0
        isplitl [G1]; · iexact G1
        isplitl [G2]; · iexact G2
        isplitl [G3]; · iexact G3
        isplitl [G4]; · iexact G4
        isplitl [G5]; · iexact G5
        iexact G6
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7
  · rw [show (fdats m 0 c).Φ t.castSucc = PhiS c from fΦ_neg m c _ ht]
    unfold PhiS
    iintro ⟨⟨⟨G0, G1, G2, G3, G4, G5, G6⟩, Hg⟩, HO, ⟨%d0, W0⟩, ⟨%d1, W1⟩, ⟨%d2, W2⟩, W3, W4, W5, W6, W7⟩
    iapply (own_neg c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (fun h => ht ((cond1_iff t).mp h)) (iblk m c 0 t) (iblk m c 1 t) (iblk m c 2 t))
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [G0]; · iexact G0
    isplitl [G1]; · iexact G1
    isplitl [G2]; · iexact G2
    isplitl [G3]; · iexact G3
    isplitl [G4]; · iexact G4
    isplitl [G5]; · iexact G5
    isplitl [G6]; · iexact G6
    iintro ⟨W0, W1, W2, W3, W4, W5, W6, W7, G0, G1, G2, G3, G4, G5, G6⟩
    isplitl [G0 G1 G2 G3 G4 G5 G6 Hg]
    · isplitr [Hg]
      · isplitl [G0]; · iexact G0
        isplitl [G1]; · iexact G1
        isplitl [G2]; · iexact G2
        isplitl [G3]; · iexact G3
        isplitl [G4]; · iexact G4
        isplitl [G5]; · iexact G5
        iexact G6
      iexact Hg
    isplitl [HO]; · iexact HO
    isplitl [W0]; · iexact W0
    isplitl [W1]; · iexact W1
    isplitl [W2]; · iexact W2
    isplitl [W3]; · iexact W3
    isplitl [W4]; · iexact W4
    isplitl [W5]; · iexact W5
    isplitl [W6]; · iexact W6
    iexact W7

theorem defs₀_row (t : Fin cfg0.N) : defs₀ (F := F) .tc cfg0.body (cfg0.bodyArgs t (cfg0.slots t)) = bodyAt0 t := by
  unfold defs₀; rw [Defs.onTc_tc]

theorem f_obligation (c : Dev nD) :
    BodyObligation (fdats (F := F) m 0 c) (defs₀ (F := F)) Variants.none () Set.univ forgets0 := fun t => by
  rw [bigSep_W0, bigSep_W0, defs₀_row]
  exact triple_restated (f_body m c t) rfl .rfl fun _ => .rfl

/-! ## The launch -/

theorem sfx_T : ∀ ops ∈ ([hostOps1] : List (List (HloOp τ sig (Elt F)))), ∀ op ∈ ops, ∀ b : Ref sig .tc,
    Proc.devRef .tc b ∈ op.writes → b ∈ ({main_v3, main_v4, main_v5} : Finset (Ref sig .tc)) := by
  intro ops hops op hop b hb
  simp only [List.mem_cons, List.mem_nil_iff, or_false] at hops
  rcases hops with rfl
  simp only [hostOps1, List.mem_cons, List.mem_nil_iff, or_false] at hop
  rcases hop with rfl | rfl | rfl
  all_goals
    simp only [StableHlo.reshape_writes, Finset.mem_singleton] at hb
    have := Proc.devRef_injective .tc hb
    subst this
    decide

set_option backward.isDefEq.respectTransparency.types false in
theorem run_main :
    θ_run defs (onTc (τ := τ) (main (F := F))) (s₀ m ρ)
      (fun r => Pipeline.RDat.FramePostR (cfgs 0) (fun c => (fdats m 0 c).toRForget forgets0) {main_v3, main_v4, main_v5} (V m) r ∧ r.2.sem = fun _ => 0) :=
  Pipeline.θ_run_frame_around_T_track_forget (Q' := _) cfgs (fdats m) (0 : Fin 1) launch0 defs₀ Variants.none forgets0 {main_v3, main_v4, main_v5} m ρ main
    (hbody := fun c => (f_obligation m c).loose) (hshare := fun c => (fdats m 0 c).share_full fun _ => rfl)
    (howed := fun _ _ => rfl) (V₀ := V0 m) (opss := [hostOps1]) (hsub := sfx_sub) (hfresh := sfx_fresh) (hkeep := sfx_keeps) (hT := sfx_T)
    (hmain := hmain m Variants.none) (hA := fA_eq m)
    (hin := fun c => Entails.of_eq (fΦ_pos m c 0 rfl).symm) (hout := fun c => (Entails.of_eq (fΦ_neg m c (Fin.last _) (by decide))).trans (PhiS_out c))

theorem frame_main :
    θ_run defs (onTc (τ := τ) (main (F := F))) (s₀ m ρ)
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) :=
  (θ_run _ _ _).mono (fun r h => ⟨fun c => ⟨
    ((h.1 c).2 main_arg0 (by decide)).trans (V_main_arg0 m c),
    (Pipeline.RDat.FramePostR.arr_in h.1 c 1 rfl).trans (V_main_arg1 m c),
    ((h.1 c).2 main_arg2 (by decide)).trans (V_main_arg2 m c)⟩, h.2⟩) (run_main m ρ)

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Read
public import proofs.«01_k».proof.Proof.Fr
public import proofs.«01_k».proof.Proof.Fin
public import proofs.«01_k».proof.Proof.Bit.Fr
public import Idealize.ShloMosaic.Adequacy
public import Idealize.ShloMosaic.Init

@[expose] public section

noncomputable section

namespace Cert.Proof

open Idealize.ShloMosaic Idealize.SL.Sem

theorem claim : Cert.Claim := by
  refine ⟨Cert.Kernel.Gen.facts, Cert.KernelIdeal.Gen.facts, Cert.ReferenceIdeal.Gen.facts,
    fun m g _ => Cert.Kernel.Hand.frame_main m g,
    fun m g _ => Cert.KernelIdeal.Hand.frame_main m g,
    fun m g _ => Cert.KernelIdeal.Hand.frame_ref m g,
    trivial, fun m g m' g' _ ha => ?_⟩
  refine ⟨fun c => Cert.ReferenceIdeal.Read.val_main_v60 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)),
    fun c => Cert.ReferenceIdeal.Read.val_main_v5 (F := Ideal) (m' ((c.tc : Thread Cert.ReferenceIdeal.nD Cert.ReferenceIdeal.τ).loc Cert.ReferenceIdeal.main_arg0)),
    fun c => Cert.ReferenceIdeal.Read.val_main_v37_0 (F := Ideal) (m' ((c.tc : Thread Cert.ReferenceIdeal.nD Cert.ReferenceIdeal.τ).loc Cert.ReferenceIdeal.main_arg0)),
    fun c => Cert.ReferenceIdeal.Read.val_main_v37_1 (F := Ideal) (m' ((c.tc : Thread Cert.ReferenceIdeal.nD Cert.ReferenceIdeal.τ).loc Cert.ReferenceIdeal.main_arg0)),
    fun c => Cert.ReferenceIdeal.Read.val_main_v37_2 (F := Ideal) (m' ((c.tc : Thread Cert.ReferenceIdeal.nD Cert.ReferenceIdeal.τ).loc Cert.ReferenceIdeal.main_arg0)), ?_, ?_⟩
  · refine (θ_run _ _ _).mono (fun r h c => ?_) (Cert.KernelIdeal.Hand.kernel_values m g)
    obtain ⟨h0, h1, h2, h3, h4, h5, h6, h7⟩ := h c
    have e0 := (ha c).1
    have e1 := (ha c).2.1
    have e2 := (ha c).2.2
    refine ⟨h0.trans ?_, h1.trans (congrArg (Cert.ReferenceIdeal.Read.val_main_v5 (F := Ideal)) e0.symm), h2.trans (congrArg (Cert.ReferenceIdeal.Read.val_main_v37_0 (F := Ideal)) e0.symm),
      h3.trans (congrArg (Cert.ReferenceIdeal.Read.val_main_v37_1 (F := Ideal)) e0.symm), h4.trans (congrArg (Cert.ReferenceIdeal.Read.val_main_v37_2 (F := Ideal)) e0.symm), h5, h6, h7⟩
    exact (congrArg (fun a => Cert.ReferenceIdeal.Read.val_main_v60 (F := Ideal) a _ _) e0.symm).trans
      ((congrArg (fun a => Cert.ReferenceIdeal.Read.val_main_v60 (F := Ideal) _ a _) e1.symm).trans
        (congrArg (fun a => Cert.ReferenceIdeal.Read.val_main_v60 (F := Ideal) _ _ a) e2.symm))
  · refine (θ_run _ _ _).mono (fun r h c => ?_) (Cert.ReferenceIdeal.Value.run m' g')
    obtain ⟨h0, h1, h2, h3, h4, h5⟩ := h c
    exact ⟨h0.trans (Cert.ReferenceIdeal.Read.val_main_v60_eq m' c), h1.trans (Cert.ReferenceIdeal.Read.val_main_v5_eq _),
      h2.trans (Cert.ReferenceIdeal.Read.val_main_v37_0_eq m' c), h3.trans (Cert.ReferenceIdeal.Read.val_main_v37_1_eq _),
      h4.trans (Cert.ReferenceIdeal.Read.val_main_v37_2_eq _), h5⟩

end Cert.Proof

end
